-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v8_0)) (v1 : (c : Dev Cert.Kernel5Ideal.nD) → Buf (Elt Ideal) ((c.tc : Thread Cert.Kernel5Ideal.nD Cert.Kernel5Ideal.τ).loc Cert.Kernel5Ideal.main_v8_1)) (v2 : (c : Dev Cert.Kernel5Ideal.nD) → Buf (Elt Ideal) ((c.tc : Thread Cert.Kernel5Ideal.nD Cert.Kernel5Ideal.τ).loc Cert.Kernel5Ideal.main_v8_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8_0) = v0 c
          ∧ r.2.mem ((c.tc : Thread Cert.Kernel5Ideal.nD Cert.Kernel5Ideal.τ).loc Cert.Kernel5Ideal.main_v8_1) = v1 c
          ∧ r.2.mem ((c.tc : Thread Cert.Kernel5Ideal.nD Cert.Kernel5Ideal.τ).loc Cert.Kernel5Ideal.main_v8_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v21) = v0 c
          ∧ r.2.mem ((c.tc : Thread Cert.Reference5Ideal.nD Cert.Reference5Ideal.τ).loc Cert.Reference5Ideal.main_v24) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v67_0)) (v1 : (c : Dev Cert.Kernel6Ideal.nD) → Buf (Elt Ideal) ((c.tc : Thread Cert.Kernel6Ideal.nD Cert.Kernel6Ideal.τ).loc Cert.Kernel6Ideal.main_v67_1)) (v2 : (c : Dev Cert.Kernel6Ideal.nD) → Buf (Elt Ideal) ((c.tc : Thread Cert.Kernel6Ideal.nD Cert.Kernel6Ideal.τ).loc Cert.Kernel6Ideal.main_v67_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v67_0) = v0 c
          ∧ r.2.mem ((c.tc : Thread Cert.Kernel6Ideal.nD Cert.Kernel6Ideal.τ).loc Cert.Kernel6Ideal.main_v67_1) = v1 c
          ∧ r.2.mem ((c.tc : Thread Cert.Kernel6Ideal.nD Cert.Kernel6Ideal.τ).loc Cert.Kernel6Ideal.main_v67_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v152_0) = v0 c
          ∧ r.2.mem ((c.tc : Thread Cert.Reference6Ideal.nD Cert.Reference6Ideal.τ).loc Cert.Reference6Ideal.main_v152_1) = v1 c
          ∧ r.2.mem ((c.tc : Thread Cert.Reference6Ideal.nD Cert.Reference6Ideal.τ).loc Cert.Reference6Ideal.main_v149) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_scores.lean ====
abbrev S4x8192x16x64 : Shape := ⟨4, ![4, 8192, 16, 64]⟩
abbrev S4x8192x4x64 : Shape := ⟨4, ![4, 8192, 4, 64]⟩
abbrev S_ : Shape := ⟨0, ![]⟩
abbrev S4x8192x4x4x64 : Shape := ⟨5, ![4, 8192, 4, 4, 64]⟩
abbrev S4x8192x4x1x64 : Shape := ⟨5, ![4, 8192, 4, 1, 64]⟩

class Facts : Prop where
  bcast_S_S4x8192x16x64 : S_.BroadcastsInDim S4x8192x16x64 (![] : Fin 0 → Fin S4x8192x16x64.rank)
  bcast_S_S4x8192x4x64 : S_.BroadcastsInDim S4x8192x4x64 (![] : Fin 0 → Fin S4x8192x4x64.rank)
  shapeCasts_S4x8192x16x64_S4x8192x4x4x64 : S4x8192x16x64.ShapeCasts S4x8192x4x4x64
  shapeCasts_S4x8192x4x64_S4x8192x4x1x64 : S4x8192x4x64.ShapeCasts S4x8192x4x1x64
  bcast_S4x8192x4x1x64_S4x8192x4x4x64_0_1_2_3_4 : S4x8192x4x1x64.BroadcastsInDim S4x8192x4x4x64 (![0, 1, 2, 3, 4] : Fin 5 → Fin S4x8192x4x4x64.rank)

variable [Facts]

def fn {F : FTy → Type} [FloatOps F] (main_arg0 : FVec F S4x8192x16x64 .f32) (main_arg1 : FVec F S4x8192x4x64 .f32) (main_arg2 : FVec F S4x8192x4x64 .f32) (main_arg3 : FVec F S4x8192x16x64 .f32) (main_arg4 : FVec F S4x8192x4x64 .f32) : IVec S4x8192x4x4x64 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_v3 : FVec F S4x8192x16x64 .f32 := Host.absf main_arg3
  let main_cst_0 : FVec F S_ .f32 := constant S_ .f32 0x7F800000#32
  let main_v4 : FVec F S4x8192x16x64 .f32 := broadcastInDim S4x8192x16x64 ![] bcast_S_S4x8192x16x64 main_cst_0
  let main_v5 : IVec S4x8192x16x64 1 := cmpf .olt main_v3 main_v4
  let main_v6 : IVec S4x8192x16x64 1 := andi main_v2 main_v5
  let main_v7 : FVec F S4x8192x4x64 .f32 := Host.absf main_arg1
  let main_cst_1 : FVec F S_ .f32 := constant S_ .f32 0x7F800000#32
  let main_v8 : FVec F S4x8192x4x64 .f32 := broadcastInDim S4x8192x4x64 ![] bcast_S_S4x8192x4x64 main_cst_1
  let main_v9 : IVec S4x8192x4x64 1 := cmpf .olt main_v7 main_v8
  let main_v10 : FVec F S4x8192x4x64 .f32 := Host.absf main_arg4
  let main_cst_2 : FVec F S_ .f32 := constant S_ .f32 0x7F800000#32
  let main_v11 : FVec F S4x8192x4x64 .f32 := broadcastInDim S4x8192x4x64 ![] bcast_S_S4x8192x4x64 main_cst_2
  let main_v12 : IVec S4x8192x4x64 1 := cmpf .olt main_v10 main_v11
  let main_v13 : IVec S4x8192x4x64 1 := andi main_v9 main_v12
  let main_v14 : IVec S4x8192x4x4x64 1 := shapeCast S4x8192x4x4x64 main_v6 shapeCasts_S4x8192x16x64_S4x8192x4x4x64
  let main_v15 : IVec S4x8192x4x1x64 1 := shapeCast S4x8192x4x1x64 main_v13 shapeCasts_S4x8192x4x64_S4x8192x4x1x64
  let main_v16 : IVec S4x8192x4x4x64 1 := broadcastInDim S4x8192x4x4x64 ![0, 1, 2, 3, 4] bcast_S4x8192x4x1x64_S4x8192x4x4x64_0_1_2_3_4 main_v15
  let main_v17 : IVec S4x8192x4x4x64 1 := andi main_v14 main_v16
  main_v17
-- ==== Kernel.lean ====
abbrev S4x8192x16x64 : Shape := ⟨4, ![4, 8192, 16, 64]⟩
abbrev S4x8192x4x64 : Shape := ⟨4, ![4, 8192, 4, 64]⟩
abbrev S_ : Shape := ⟨0, ![]⟩
abbrev S4x16x64x8192 : Shape := ⟨4, ![4, 16, 64, 8192]⟩
abbrev S4x4x8192x64 : Shape := ⟨4, ![4, 4, 8192, 64]⟩
abbrev S4x16x256x8192 : Shape := ⟨4, ![4, 16, 256, 8192]⟩
abbrev S4x4x8192x256 : Shape := ⟨4, ![4, 4, 8192, 256]⟩
abbrev S4x16x512x4x64 : Shape := ⟨5, ![4, 16, 512, 4, 64]⟩
abbrev S4x4x16x64x512 : Shape := ⟨5, ![4, 4, 16, 64, 512]⟩
abbrev S1x4x256x512 : Shape := ⟨4, ![1, 4, 256, 512]⟩
abbrev S1x1x8192x256 : Shape := ⟨4, ![1, 1, 8192, 256]⟩
abbrev S1x1x16x64x512 : Shape := ⟨5, ![1, 1, 16, 64, 512]⟩
abbrev S1x1x512x256 : Shape := ⟨4, ![1, 1, 512, 256]⟩
abbrev S2x4x512x256 : Shape := ⟨4, ![2, 4, 512, 256]⟩
abbrev S2x4x1x256 : Shape := ⟨4, ![2, 4, 1, 256]⟩
abbrev S16x512 : Shape := ⟨2, ![16, 512]⟩
abbrev S512x256 : Shape := ⟨2, ![512, 256]⟩
abbrev S1x1x256x256 : Shape := ⟨4, ![1, 1, 256, 256]⟩
abbrev S256x256 : Shape := ⟨2, ![256, 256]⟩
abbrev S256 : Shape := ⟨1, ![256]⟩
abbrev S1x256 : Shape := ⟨2, ![1, 256]⟩
abbrev S1x1x1x256 : Shape := ⟨4, ![1, 1, 1, 256]⟩
abbrev S80x256 : Shape := ⟨2, ![80, 256]⟩
abbrev S1x1x1x64x512 : Shape := ⟨5, ![1, 1, 1, 64, 512]⟩
abbrev S64x512 : Shape := ⟨2, ![64, 512]⟩
abbrev S80x512 : Shape := ⟨2, ![80, 512]⟩
abbrev S64x256 : Shape := ⟨2, ![64, 256]⟩

abbrev nBuf : Space → Nat
  | .hbm => 25
  | .vmem => 14
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x8192x16x64, .f32⟩
  | .hbm, ⟨4, _⟩ => ⟨S4x8192x4x64, .f32⟩
  | .hbm, ⟨5, _⟩ => ⟨S_, .f32⟩
  | .hbm, ⟨6, _⟩ => ⟨S_, .f32⟩
  | .hbm, ⟨7, _⟩ => ⟨S4x8192x16x64, .f32⟩
  | .hbm, ⟨8, _⟩ => ⟨S4x8192x16x64, .f32⟩
  | .hbm, ⟨9, _⟩ => ⟨S4x8192x16x64, .f32⟩
  | .hbm, ⟨10, _⟩ => ⟨S4x16x64x8192, .f32⟩
  | .hbm, ⟨11, _⟩ => ⟨S4x16x64x8192, .fp8e4m3⟩
  | .hbm, ⟨12, _⟩ => ⟨S4x16x64x8192, .f32⟩
  | .hbm, ⟨13, _⟩ => ⟨S4x16x64x8192, .fp8e4m3⟩
  | .hbm, ⟨14, _⟩ => ⟨S4x8192x4x64, .f32⟩
  | .hbm, ⟨15, _⟩ => ⟨S4x4x8192x64, .f32⟩
  | .hbm, ⟨16, _⟩ => ⟨S4x4x8192x64, .fp8e4m3⟩
  | .hbm, ⟨17, _⟩ => ⟨S4x4x8192x64, .f32⟩
  | .hbm, ⟨18, _⟩ => ⟨S4x4x8192x64, .fp8e4m3⟩
  | .hbm, ⟨19, _⟩ => ⟨S4x16x256x8192, .fp8e4m3⟩
  | .hbm, ⟨20, _⟩ => ⟨S4x4x8192x256, .fp8e4m3⟩
  | .hbm, ⟨21, _⟩ => ⟨S4x16x512x4x64, .f32⟩
  | .hbm, ⟨22, _⟩ => ⟨S4x4x16x64x512, .f32⟩
  | .hbm, ⟨23, _⟩ => ⟨S4x4x16x64x512, .bf16⟩
  | .hbm, ⟨24, _⟩ => ⟨S4x4x8192x256, .bf16⟩
  | .local _ .vmem, ⟨0, _⟩ => ⟨S1x4x256x512, .fp8e4m3⟩
  | .local _ .vmem, ⟨1, _⟩ => ⟨S1x4x256x512, .fp8e4m3⟩
  | .local _ .vmem, ⟨2, _⟩ => ⟨S1x1x8192x256, .fp8e4m3⟩
  | .local _ .vmem, ⟨3, _⟩ => ⟨S1x1x8192x256, .fp8e4m3⟩
  | .local _ .vmem, ⟨4, _⟩ => ⟨S1x1x16x64x512, .bf16⟩
  | .local _ .vmem, ⟨5, _⟩ => ⟨S1x1x16x64x512, .bf16⟩
  | .local _ .vmem, ⟨6, _⟩ => ⟨S1x4x256x512, .fp8e4m3⟩
  | .local _ .vmem, ⟨7, _⟩ => ⟨S1x4x256x512, .fp8e4m3⟩
  | .local _ .vmem, ⟨8, _⟩ => ⟨S1x1x8192x256, .fp8e4m3⟩
  | .local _ .vmem, ⟨9, _⟩ => ⟨S1x1x8192x256, .fp8e4m3⟩
  | .local _ .vmem, ⟨10, _⟩ => ⟨S1x1x512x256, .bf16⟩
  | .local _ .vmem, ⟨11, _⟩ => ⟨S1x1x512x256, .bf16⟩
  | .local _ .vmem, ⟨12, _⟩ => ⟨S2x4x512x256, .f32⟩
  | .local _ .vmem, ⟨13, _⟩ => ⟨S2x4x1x256, .f32⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![arg0.toNat, v16.toNat, c0_i32_5.toNat, c0_i32_6.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  let c0_i32_8 : BitVec 32 := 0#32
  ![arg0.toNat, v16.toNat, c0_i32_5.toNat, c0_i32_6.toNat, c0_i32_7.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.addi v3 c1_i32
  let c255_i32 : BitVec 32 := 255#32
  let v5 : BitVec 32 := Scalar.minsi v4 c255_i32
  let c64_i32 : BitVec 32 := 64#32
  let v6 : BitVec 32 := Scalar.divsi v5 c64_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c0_i32_1 : BitVec 32 := 0#32
  let v12 : BitVec 1 := Scalar.cmpi .sgt c64_i32 c0_i32_1
  let v13 : BitVec 32 := Scalar.extui v12
  let c0_i32_2 : BitVec 32 := 0#32
  let v14 : BitVec 1 := Scalar.cmpi .slt c64_i32 c0_i32_2
  let v15 : BitVec 32 := Scalar.extui v14
  let v16 : BitVec 32 := Scalar.subi v13 v15
  let v17 : BitVec 1 := Scalar.cmpi .ne v11 v16
  let v18 : BitVec 32 := Scalar.remsi v5 c64_i32
  let c0_i32_3 : BitVec 32 := 0#32
  let v19 : BitVec 1 := Scalar.cmpi .ne v18 c0_i32_3
  let v20 : BitVec 1 := Scalar.andi v17 v19
  let c1_i32_4 : BitVec 32 := 1#32
  let v21 : BitVec 32 := Scalar.subi v6 c1_i32_4
  let v22 : BitVec 32 := Scalar.select v20 v21 v6
  let c16_i32_5 : BitVec 32 := 16#32
  let v23 : BitVec 32 := Scalar.divsi v5 c16_i32_5
  let c0_i32_6 : BitVec 32 := 0#32
  let v24 : BitVec 1 := Scalar.cmpi .sgt v5 c0_i32_6
  let v25 : BitVec 32 := Scalar.extui v24
  let c0_i32_7 : BitVec 32 := 0#32
  let v26 : BitVec 1 := Scalar.cmpi .slt v5 c0_i32_7
  let v27 : BitVec 32 := Scalar.extui v26
  let v28 : BitVec 32 := Scalar.subi v25 v27
  let c0_i32_8 : BitVec 32 := 0#32
  let v29 : BitVec 1 := Scalar.cmpi .sgt c16_i32_5 c0_i32_8
  let v30 : BitVec 32 := Scalar.extui v29
  let c0_i32_9 : BitVec 32 := 0#32
  let v31 : BitVec 1 := Scalar.cmpi .slt c16_i32_5 c0_i32_9
  let v32 : BitVec 32 := Scalar.extui v31
  let v33 : BitVec 32 := Scalar.subi v30 v32
  let v34 : BitVec 1 := Scalar.cmpi .ne v28 v33
  let v35 : BitVec 32 := Scalar.remsi v5 c16_i32_5
  let c0_i32_10 : BitVec 32 := 0#32
  let v36 : BitVec 1 := Scalar.cmpi .ne v35 c0_i32_10
  let v37 : BitVec 1 := Scalar.andi v34 v36
  let c1_i32_11 : BitVec 32 := 1#32
  let v38 : BitVec 32 := Scalar.subi v23 c1_i32_11
  let v39 : BitVec 32 := Scalar.select v37 v38 v23
  let c4_i32_12 : BitVec 32 := 4#32
  let c0_i32_13 : BitVec 32 := 0#32
  let v40 : BitVec 1 := Scalar.cmpi .eq c4_i32_12 c0_i32_13
  let c1_i32_14 : BitVec 32 := 1#32
  let v41 : BitVec 32 := Scalar.select v40 c1_i32_14 c4_i32_12
  let v42 : BitVec 32 := Scalar.remsi v39 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16_i32_18 : BitVec 32 := 16#32
  let c0_i32_19 : BitVec 32 := 0#32
  let v50 : BitVec 1 := Scalar.cmpi .eq c16_i32_18 c0_i32_19
  let c1_i32_20 : BitVec 32 := 1#32
  let v51 : BitVec 32 := Scalar.select v50 c1_i32_20 c16_i32_18
  let v52 : BitVec 32 := Scalar.remsi v5 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let c0_i32_24 : BitVec 32 := 0#32
  let c0_i32_25 : BitVec 32 := 0#32
  ![v22.toNat, v49.toNat, c0_i32_24.toNat, v59.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c16_i32 : BitVec 32 := 16#32
  let v2 : BitVec 32 := Scalar.muli v1 c16_i32
  let v3 : BitVec 32 := Scalar.addi v2 arg2
  let c1_i32 : BitVec 32 := 1#32
  let v4 : BitVec 32 := Scalar.addi v3 c1_i32
  let c255_i32 : BitVec 32 := 255#32
  let v5 : BitVec 32 := Scalar.minsi v4 c255_i32
  let c64_i32 : BitVec 32 := 64#32
  let v6 : BitVec 32 := Scalar.divsi v5 c64_i32
  let c0_i32 : BitVec 32 := 0#32
  let v7 : BitVec 1 := Scalar.cmpi .sgt v5 c0_i32
  let v8 : BitVec 32 := Scalar.extui v7
  let c0_i32_0 : BitVec 32 := 0#32
  let v9 : BitVec 1 := Scalar.cmpi .slt v5 c0_i32_0
  let v10 : BitVec 32 := Scalar.extui v9
  let v11 : BitVec 32 := Scalar.subi v8 v10
  let c0_i32_1 : BitVec 32 := 0#32
  let v12 : BitVec 1 := Scalar.cmpi .sgt c64_i32 c0_i32_1
  let v13 : BitVec 32 := Scalar.extui v12
  let c0_i32_2 : BitVec 32 := 0#32
  let v14 : BitVec 1 := Scalar.cmpi .slt c64_i32 c0_i32_2
  let v15 : BitVec 32 := Scalar.extui v14
  let v16 : BitVec 32 := Scalar.subi v13 v15
  let v17 : BitVec 1 := Scalar.cmpi .ne v11 v16
  let v18 : BitVec 32 := Scalar.remsi v5 c64_i32
  let c0_i32_3 : BitVec 32 := 0#32
  let v19 : BitVec 1 := Scalar.cmpi .ne v18 c0_i32_3
  let v20 : BitVec 1 := Scalar.andi v17 v19
  let c1_i32_4 : BitVec 32 := 1#32
  let v21 : BitVec 32 := Scalar.subi v6 c1_i32_4
  let v22 : BitVec 32 := Scalar.select v20 v21 v6
  let c16_i32_5 : BitVec 32 := 16#32
  let v23 : BitVec 32 := Scalar.divsi v5 c16_i32_5
  let c0_i32_6 : BitVec 32 := 0#32
  let v24 : BitVec 1 := Scalar.cmpi .sgt v5 c0_i32_6
  let v25 : BitVec 32 := Scalar.extui v24
  let c0_i32_7 : BitVec 32 := 0#32
  let v26 : BitVec 1 := Scalar.cmpi .slt v5 c0_i32_7
  let v27 : BitVec 32 := Scalar.extui v26
  let v28 : BitVec 32 := Scalar.subi v25 v27
  let c0_i32_8 : BitVec 32 := 0#32
  let v29 : BitVec 1 := Scalar.cmpi .sgt c16_i32_5 c0_i32_8
  let v30 : BitVec 32 := Scalar.extui v29
  let c0_i32_9 : BitVec 32 := 0#32
  let v31 : BitVec 1 := Scalar.cmpi .slt c16_i32_5 c0_i32_9
  let v32 : BitVec 32 := Scalar.extui v31
  let v33 : BitVec 32 := Scalar.subi v30 v32
  let v34 : BitVec 1 := Scalar.cmpi .ne v28 v33
  let v35 : BitVec 32 := Scalar.remsi v5 c16_i32_5
  let c0_i32_10 : BitVec 32 := 0#32
  let v36 : BitVec 1 := Scalar.cmpi .ne v35 c0_i32_10
  let v37 : BitVec 1 := Scalar.andi v34 v36
  let c1_i32_11 : BitVec 32 := 1#32
  let v38 : BitVec 32 := Scalar.subi v23 c1_i32_11
  let v39 : BitVec 32 := Scalar.select v37 v38 v23
  let c4_i32_12 : BitVec 32 := 4#32
  let c0_i32_13 : BitVec 32 := 0#32
  let v40 : BitVec 1 := Scalar.cmpi .eq c4_i32_12 c0_i32_13
  let c1_i32_14 : BitVec 32 := 1#32
  let v41 : BitVec 32 := Scalar.select v40 c1_i32_14 c4_i32_12
  let v42 : BitVec 32 := Scalar.remsi v39 v41
  let c0_i32_15 : BitVec 32 := 0#32
  let v43 : BitVec 1 := Scalar.cmpi .ne v42 c0_i32_15
  let c0_i32_16 : BitVec 32 := 0#32
  let v44 : BitVec 1 := Scalar.cmpi .slt v42 c0_i32_16
  let c0_i32_17 : BitVec 32 := 0#32
  let v45 : BitVec 1 := Scalar.cmpi .slt v41 c0_i32_17
  let v46 : BitVec 1 := Scalar.xori v44 v45
  let v47 : BitVec 1 := Scalar.andi v46 v43
  let v48 : BitVec 32 := Scalar.addi v42 v41
  let v49 : BitVec 32 := Scalar.select v47 v48 v42
  let c16_i32_18 : BitVec 32 := 16#32
  let c0_i32_19 : BitVec 32 := 0#32
  let v50 : BitVec 1 := Scalar.cmpi .eq c16_i32_18 c0_i32_19
  let c1_i32_20 : BitVec 32 := 1#32
  let v51 : BitVec 32 := Scalar.select v50 c1_i32_20 c16_i32_18
  let v52 : BitVec 32 := Scalar.remsi v5 v51
  let c0_i32_21 : BitVec 32 := 0#32
  let v53 : BitVec 1 := Scalar.cmpi .ne v52 c0_i32_21
  let c0_i32_22 : BitVec 32 := 0#32
  let v54 : BitVec 1 := Scalar.cmpi .slt v52 c0_i32_22
  let c0_i32_23 : BitVec 32 := 0#32
  let v55 : BitVec 1 := Scalar.cmpi .slt v51 c0_i32_23
  let v56 : BitVec 1 := Scalar.xori v54 v55
  let v57 : BitVec 1 := Scalar.andi v56 v53
  let v58 : BitVec 32 := Scalar.addi v52 v51
  let v59 : BitVec 32 := Scalar.select v57 v58 v52
  let c1_i32_24 : BitVec 32 := 1#32
  let v60 : BitVec 32 := Scalar.divsi v49 c1_i32_24
  let c0_i32_25 : BitVec 32 := 0#32
  let v61 : BitVec 1 := Scalar.cmpi .sgt v49 c0_i32_25
  let v62 : BitVec 32 := Scalar.extui v61
  let c0_i32_26 : BitVec 32 := 0#32
  let v63 : BitVec 1 := Scalar.cmpi .slt v49 c0_i32_26
  let v64 : BitVec 32 := Scalar.extui v63
  let v65 : BitVec 32 := Scalar.subi v62 v64
  let c0_i32_27 : BitVec 32 := 0#32
  let v66 : BitVec 1 := Scalar.cmpi .sgt c1_i32_24 c0_i32_27
  let v67 : BitVec 32 := Scalar.extui v66
  let c0_i32_28 : BitVec 32 := 0#32
  let v68 : BitVec 1 := Scalar.cmpi .slt c1_i32_24 c0_i32_28
  let v69 : BitVec 32 := Scalar.extui v68
  let v70 : BitVec 32 := Scalar.subi v67 v69
  let v71 : BitVec 1 := Scalar.cmpi .ne v65 v70
  let v72 : BitVec 32 := Scalar.remsi v49 c1_i32_24
  let c0_i32_29 : BitVec 32 := 0#32
  let v73 : BitVec 1 := Scalar.cmpi .ne v72 c0_i32_29
  let v74 : BitVec 1 := Scalar.andi v71 v73
  let c1_i32_30 : BitVec 32 := 1#32
  let v75 : BitVec 32 := Scalar.subi v60 c1_i32_30
  let v76 : BitVec 32 := Scalar.select v74 v75 v60
  let c0_i32_31 : BitVec 32 := 0#32
  let c0_i32_32 : BitVec 32 := 0#32
  let c0_i32_33 : BitVec 32 := 0#32
  ![v22.toNat, v76.toNat, c0_i32_31.toNat, c0_i32_32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x4x256x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x16x64x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x256x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x8192x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S4x8192x16x64 : Shape := ⟨4, ![4, 8192, 16, 64]⟩
abbrev S4x8192x4x64 : Shape := ⟨4, ![4, 8192, 4, 64]⟩
abbrev S4x8192x4x4x64 : Shape := ⟨5, ![4, 8192, 4, 4, 64]⟩
abbrev S4x4x8192x8192x4 : Shape := ⟨5, ![4, 4, 8192, 8192, 4]⟩
abbrev S4x4x4x8192x8192 : Shape := ⟨5, ![4, 4, 4, 8192, 8192]⟩
abbrev S_ : Shape := ⟨0, ![]⟩
abbrev S4x4x4x8192 : Shape := ⟨4, ![4, 4, 4, 8192]⟩
abbrev S4x4x4x8192x1 : Shape := ⟨5, ![4, 4, 4, 8192, 1]⟩
abbrev S4x4x64x4x8192 : Shape := ⟨5, ![4, 4, 64, 4, 8192]⟩
abbrev S4x4x8192x4x64 : Shape := ⟨5, ![4, 4, 8192, 4, 64]⟩
abbrev S4x4x8192x256 : Shape := ⟨4, ![4, 4, 8192, 256]⟩

abbrev nBuf : Space → Nat
  | .hbm => 26
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x8192x16x64, .f32⟩
  | .hbm, ⟨4, _⟩ => ⟨S4x8192x4x64, .f32⟩
  | .hbm, ⟨5, _⟩ => ⟨S4x8192x4x4x64, .f32⟩
  | .hbm, ⟨6, _⟩ => ⟨S4x4x8192x8192x4, .f32⟩
  | .hbm, ⟨7, _⟩ => ⟨S4x4x4x8192x8192, .f32⟩
  | .hbm, ⟨8, _⟩ => ⟨S_, .f32⟩
  | .hbm, ⟨9, _⟩ => ⟨S4x4x4x8192, .f32⟩
  | .hbm, ⟨10, _⟩ => ⟨S_, .f32⟩
  | .hbm, ⟨11, _⟩ => ⟨S4x4x4x8192, .f32⟩
  | .hbm, ⟨12, _⟩ => ⟨S4x4x4x8192, .f32⟩
  | .hbm, ⟨13, _⟩ => ⟨S4x4x4x8192x1, .f32⟩
  | .hbm, ⟨14, _⟩ => ⟨S4x4x4x8192x8192, .f32⟩
  | .hbm, ⟨15, _⟩ => ⟨S4x4x4x8192x8192, .f32⟩
  | .hbm, ⟨16, _⟩ => ⟨S4x4x4x8192x8192, .f32⟩
  | .hbm, ⟨17, _⟩ => ⟨S_, .f32⟩
  | .hbm, ⟨18, _⟩ => ⟨S4x4x4x8192, .f32⟩
  | .hbm, ⟨19, _⟩ => ⟨S4x4x4x8192x1, .f32⟩
  | .hbm, ⟨20, _⟩ => ⟨S4x4x4x8192x8192, .f32⟩
  | .hbm, ⟨21, _⟩ => ⟨S4x4x4x8192x8192, .f32⟩
  | .hbm, ⟨22, _⟩ => ⟨S4x4x64x4x8192, .f32⟩
  | .hbm, ⟨23, _⟩ => ⟨S4x4x8192x4x64, .f32⟩
  | .hbm, ⟨24, _⟩ => ⟨S4x4x8192x256, .f32⟩
  | .hbm, ⟨25, _⟩ => ⟨S4x4x8192x256, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x4x256 : Shape := ⟨4, ![4, 8192, 4, 256]⟩
abbrev S4x4x8192x256 : Shape := ⟨4, ![4, 4, 8192, 256]⟩
abbrev S1x1024 : Shape := ⟨2, ![1, 1024]⟩
abbrev S1x1024x1024 : Shape := ⟨3, ![1, 1024, 1024]⟩
abbrev S1x4x1024x256 : Shape := ⟨4, ![1, 4, 1024, 256]⟩
abbrev S1x1x1024x256 : Shape := ⟨4, ![1, 1, 1024, 256]⟩
abbrev S1024x256 : Shape := ⟨2, ![1024, 256]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x4x256, .f32⟩
  | .hbm, ⟨8, _⟩ => ⟨S4x4x8192x256, .f32⟩
  | .hbm, ⟨9, _⟩ => ⟨S4x4x8192x256, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x1024x256, .bf16⟩
  | .local _ .vmem, ⟨3, _⟩ => ⟨S1x4x1024x256, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x4x256 : Shape := ⟨4, ![4, 8192, 4, 256]⟩
abbrev S4x4x8192x256 : Shape := ⟨4, ![4, 4, 8192, 256]⟩
abbrev S1x1024 : Shape := ⟨2, ![1, 1024]⟩
abbrev S1x1024x1024 : Shape := ⟨3, ![1, 1024, 1024]⟩
abbrev S1x4x1024x256 : Shape := ⟨4, ![1, 4, 1024, 256]⟩
abbrev S1x1x1024x256 : Shape := ⟨4, ![1, 1, 1024, 256]⟩
abbrev S1024x256 : Shape := ⟨2, ![1024, 256]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x4x256, .f32⟩
  | .hbm, ⟨8, _⟩ => ⟨S4x4x8192x256, .f32⟩
  | .hbm, ⟨9, _⟩ => ⟨S4x4x8192x256, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x1024x256, .bf16⟩
  | .local _ .vmem, ⟨3, _⟩ => ⟨S1x4x1024x256, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x4096, .f32⟩
  | .hbm, ⟨26, _⟩ => ⟨S_, .f32⟩
  | .hbm, ⟨27, _⟩ => ⟨S4x8192x4096, .f32⟩
  | .hbm, ⟨28, _⟩ => ⟨S4x8192x4096, .f32⟩
  | .hbm, ⟨29, _⟩ => ⟨S4x8192x4096, .f32⟩
  | .hbm, ⟨30, _⟩ => ⟨S4x8192x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x4x256 : Shape := ⟨4, ![4, 8192, 4, 256]⟩
abbrev S4x4x8192x256 : Shape := ⟨4, ![4, 4, 8192, 256]⟩
abbrev S1x1024 : Shape := ⟨2, ![1, 1024]⟩
abbrev S1x1024x1024 : Shape := ⟨3, ![1, 1024, 1024]⟩
abbrev S1x4x1024x256 : Shape := ⟨4, ![1, 4, 1024, 256]⟩
abbrev S1x1x1024x256 : Shape := ⟨4, ![1, 1, 1024, 256]⟩
abbrev S1024x256 : Shape := ⟨2, ![1024, 256]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x4x256, .f32⟩
  | .hbm, ⟨8, _⟩ => ⟨S4x4x8192x256, .f32⟩
  | .hbm, ⟨9, _⟩ => ⟨S4x4x8192x256, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S4x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x1024x256, .bf16⟩
  | .local _ .vmem, ⟨3, _⟩ => ⟨S1x4x1024x256, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x4096, .f32⟩
  | .hbm, ⟨26, _⟩ => ⟨S_, .f32⟩
  | .hbm, ⟨27, _⟩ => ⟨S4x8192x4096, .f32⟩
  | .hbm, ⟨28, _⟩ => ⟨S4x8192x4096, .f32⟩
  | .hbm, ⟨29, _⟩ => ⟨S4x8192x4096, .f32⟩
  | .hbm, ⟨30, _⟩ => ⟨S4x8192x1024, .f32⟩
  | .hbm, ⟨31, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel4.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S2x8192x4x256 : Shape := ⟨4, ![2, 8192, 4, 256]⟩
abbrev S2x4x8192x256 : Shape := ⟨4, ![2, 4, 8192, 256]⟩
abbrev S1x1024 : Shape := ⟨2, ![1, 1024]⟩
abbrev S1x1024x1024 : Shape := ⟨3, ![1, 1024, 1024]⟩
abbrev S1x4x1024x256 : Shape := ⟨4, ![1, 4, 1024, 256]⟩
abbrev S1x1x1024x256 : Shape := ⟨4, ![1, 1, 1024, 256]⟩
abbrev S1024x256 : Shape := ⟨2, ![1024, 256]⟩
abbrev S1024x1 : Shape := ⟨2, ![1024, 1]⟩

abbrev nBuf : Space → Nat
  | .hbm => 16
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S2x8192x4x256, .f32⟩
  | .hbm, ⟨8, _⟩ => ⟨S2x4x8192x256, .f32⟩
  | .hbm, ⟨9, _⟩ => ⟨S2x4x8192x256, .bf16⟩
  | .hbm, ⟨10, _⟩ => ⟨S1024x1024, .bf16⟩
  | .hbm, ⟨11, _⟩ => ⟨S1x1024, .f32⟩
  | .hbm, ⟨12, _⟩ => ⟨S1024x4096, .bf16⟩
  | .hbm, ⟨13, _⟩ => ⟨S4096x1024, .bf16⟩
  | .hbm, ⟨14, _⟩ => ⟨S1x1024, .f32⟩
  | .hbm, ⟨15, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x4x1024x256, .bf16⟩
  | .local _ .vmem, ⟨3, _⟩ => ⟨S1x4x1024x256, .bf16⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x1024x1024, .f32⟩
  | .local _ .vmem, ⟨10, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S2x8192x1024 : Shape := ⟨3, ![2, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4096 : Shape := ⟨3, ![2, 8192, 4096]⟩

abbrev nBuf : Space → Nat
  | .hbm => 48
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S2x8192x1024, .f32⟩
  | .hbm, ⟨8, _⟩ => ⟨S2x8192x1024, .f32⟩
  | .hbm, ⟨9, _⟩ => ⟨S2x8192x1024, .f32⟩
  | .hbm, ⟨10, _⟩ => ⟨S_, .f32⟩
  | .hbm, ⟨11, _⟩ => ⟨S2x8192, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S2x8192x1, .f32⟩
  | .hbm, ⟨20, _⟩ => ⟨S2x8192x1024, .f32⟩
  | .hbm, ⟨21, _⟩ => ⟨S2x8192x1024, .f32⟩
  | .hbm, ⟨22, _⟩ => ⟨S1x1x1024, .f32⟩
  | .hbm, ⟨23, _⟩ => ⟨S2x8192x1024, .f32⟩
  | .hbm, ⟨24, _⟩ => ⟨S2x8192x1024, .f32⟩
  | .hbm, ⟨25, _⟩ => ⟨S2x8192x4096, .f32⟩
  | .hbm, ⟨26, _⟩ => ⟨S_, .f32⟩
  | .hbm, ⟨27, _⟩ => ⟨S2x8192x4096, .f32⟩
  | .hbm, ⟨28, _⟩ => ⟨S2x8192x4096, .f32⟩
  | .hbm, ⟨29, _⟩ => ⟨S2x8192x4096, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S_, .f32⟩
  | .hbm, ⟨34, _⟩ => ⟨S2x8192, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S2x8192x1, .f32⟩
  | .hbm, ⟨43, _⟩ => ⟨S2x8192x1024, .f32⟩
  | .hbm, ⟨44, _⟩ => ⟨S2x8192x1024, .f32⟩
  | .hbm, ⟨45, _⟩ => ⟨S1x1x1024, .f32⟩
  | .hbm, ⟨46, _⟩ => ⟨S2x8192x1024, .f32⟩
  | .hbm, ⟨47, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024 : Shape := ⟨1, ![1024]⟩
abbrev S1024x3072 : Shape := ⟨2, ![1024, 3072]⟩
abbrev S1024x1024 : Shape := ⟨2, ![1024, 1024]⟩
abbrev S1024x2048 : Shape := ⟨2, ![1024, 2048]⟩
abbrev S2048x1024 : Shape := ⟨2, ![2048, 1024]⟩
abbrev S1x1024 : Shape := ⟨2, ![1, 1024]⟩
abbrev S4x16x1024x512 : Shape := ⟨4, ![4, 16, 1024, 512]⟩
abbrev S4x4x8192x256 : Shape := ⟨4, ![4, 4, 8192, 256]⟩
abbrev S4x16x32x64x256 : Shape := ⟨5, ![4, 16, 32, 64, 256]⟩
abbrev S1x1024x1024 : Shape := ⟨3, ![1, 1024, 1024]⟩
abbrev S1x2x1024x512 : Shape := ⟨4, ![1, 2, 1024, 512]⟩
abbrev S1x4x1024x256 : Shape := ⟨4, ![1, 4, 1024, 256]⟩
abbrev S1x16x4x64x256 : Shape := ⟨5, ![1, 16, 4, 64, 256]⟩
abbrev S1024x1 : Shape := ⟨2, ![1024, 1]⟩
abbrev S1024x256 : Shape := ⟨2, ![1024, 256]⟩
abbrev S1x1x1024x256 : Shape := ⟨4, ![1, 1, 1024, 256]⟩
abbrev S1024x512 : Shape := ⟨2, ![1024, 512]⟩
abbrev S1x1x1024x512 : Shape := ⟨4, ![1, 1, 1024, 512]⟩
abbrev S64x256 : Shape := ⟨2, ![64, 256]⟩
abbrev S1x1x1x64x256 : Shape := ⟨5, ![1, 1, 1, 64, 256]⟩

abbrev nBuf : Space → Nat
  | .hbm => 14
  | .vmem => 11
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S1024x1024, .f32⟩
  | .hbm, ⟨4, _⟩ => ⟨S1024x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1024x1024, .f32⟩
  | .hbm, ⟨10, _⟩ => ⟨S1024x1024, .bf16⟩
  | .hbm, ⟨11, _⟩ => ⟨S4x16x1024x512, .bf16⟩
  | .hbm, ⟨12, _⟩ => ⟨S4x4x8192x256, .bf16⟩
  | .hbm, ⟨13, _⟩ => ⟨S4x16x32x64x256, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S2048x1024, .bf16⟩
  | .local _ .vmem, ⟨4, _⟩ => ⟨S1024x1024, .bf16⟩
  | .local _ .vmem, ⟨5, _⟩ => ⟨S1x2x1024x512, .bf16⟩
  | .local _ .vmem, ⟨6, _⟩ => ⟨S1x2x1024x512, .bf16⟩
  | .local _ .vmem, ⟨7, _⟩ => ⟨S1x4x1024x256, .bf16⟩
  | .local _ .vmem, ⟨8, _⟩ => ⟨S1x4x1024x256, .bf16⟩
  | .local _ .vmem, ⟨9, _⟩ => ⟨S1x16x4x64x256, .bf16⟩
  | .local _ .vmem, ⟨10, _⟩ => ⟨S1x16x4x64x256, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x4x64x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference5Ideal.lean ====
abbrev S4x8192x1024 : Shape := ⟨3, ![4, 8192, 1024]⟩
abbrev S1024 : Shape := ⟨1, ![1024]⟩
abbrev S1024x3072 : Shape := ⟨2, ![1024, 3072]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x3072 : Shape := ⟨3, ![4, 8192, 3072]⟩
abbrev S4x16x512x1024 : Shape := ⟨4, ![4, 16, 512, 1024]⟩
abbrev S4x16x1024x512 : Shape := ⟨4, ![4, 16, 1024, 512]⟩
abbrev S4x8192x4x256 : Shape := ⟨4, ![4, 8192, 4, 256]⟩
abbrev S4x4x8192x256 : Shape := ⟨4, ![4, 4, 8192, 256]⟩
abbrev S4x32x256x16x64 : Shape := ⟨5, ![4, 32, 256, 16, 64]⟩
abbrev S4x16x32x64x256 : Shape := ⟨5, ![4, 16, 32, 64, 256]⟩

abbrev nBuf : Space → Nat
  | .hbm => 35
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x3072, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x3072, .f32⟩
  | .hbm, ⟨20, _⟩ => ⟨S4x8192x1024, .f32⟩
  | .hbm, ⟨21, _⟩ => ⟨S4x8192x1024, .f32⟩
  | .hbm, ⟨22, _⟩ => ⟨S4x8192x1024, .f32⟩
  | .hbm, ⟨23, _⟩ => ⟨S_, .f32⟩
  | .hbm, ⟨24, _⟩ => ⟨S4x8192x1024, .f32⟩
  | .hbm, ⟨25, _⟩ => ⟨S4x8192x1024, .f32⟩
  | .hbm, ⟨26, _⟩ => ⟨S4x8192x1024, .bf16⟩
  | .hbm, ⟨27, _⟩ => ⟨S4x16x512x1024, .bf16⟩
  | .hbm, ⟨28, _⟩ => ⟨S4x16x1024x512, .bf16⟩
  | .hbm, ⟨29, _⟩ => ⟨S4x8192x1024, .bf16⟩
  | .hbm, ⟨30, _⟩ => ⟨S4x8192x4x256, .bf16⟩
  | .hbm, ⟨31, _⟩ => ⟨S4x4x8192x256, .bf16⟩
  | .hbm, ⟨32, _⟩ => ⟨S4x8192x1024, .bf16⟩
  | .hbm, ⟨33, _⟩ => ⟨S4x32x256x16x64, .bf16⟩
  | .hbm, ⟨34, _⟩ => ⟨S4x16x32x64x256, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Kernel6.lean ====
abbrev S4x8192x1024 : Shape := ⟨3, ![4, 8192, 1024]⟩
abbrev S1024 : Shape := ⟨1, ![1024]⟩
abbrev S1024x1536 : Shape := ⟨2, ![1024, 1536]⟩
abbrev S1x64 : Shape := ⟨2, ![1, 64]⟩
abbrev S_ : Shape := ⟨0, ![]⟩
abbrev S1 : Shape := ⟨1, ![1]⟩
abbrev S1x1 : Shape := ⟨2, ![1, 1]⟩
abbrev S1x64x1 : Shape := ⟨3, ![1, 64, 1]⟩
abbrev S1x64x1024 : Shape := ⟨3, ![1, 64, 1024]⟩
abbrev S8192 : Shape := ⟨1, ![8192]⟩
abbrev S16 : Shape := ⟨1, ![16]⟩
abbrev S16x1 : Shape := ⟨2, ![16, 1]⟩
abbrev S1x8192 : Shape := ⟨2, ![1, 8192]⟩
abbrev S16x8192 : Shape := ⟨2, ![16, 8192]⟩
abbrev S32x8192 : Shape := ⟨2, ![32, 8192]⟩
abbrev S1x1024 : Shape := ⟨2, ![1, 1024]⟩
abbrev S1536x1024 : Shape := ⟨2, ![1536, 1024]⟩
abbrev S64x1024 : Shape := ⟨2, ![64, 1024]⟩
abbrev S4x16x256x8192 : Shape := ⟨4, ![4, 16, 256, 8192]⟩
abbrev S4x4x8192x256 : Shape := ⟨4, ![4, 4, 8192, 256]⟩
abbrev S4x4x16x64x512 : Shape := ⟨5, ![4, 4, 16, 64, 512]⟩
abbrev S1x1024x1024 : Shape := ⟨3, ![1, 1024, 1024]⟩
abbrev S32x1024 : Shape := ⟨2, ![32, 1024]⟩
abbrev S1x16x256x1024 : Shape := ⟨4, ![1, 16, 256, 1024]⟩
abbrev S1x4x1024x256 : Shape := ⟨4, ![1, 4, 1024, 256]⟩
abbrev S1x4x2x64x512 : Shape := ⟨5, ![1, 4, 2, 64, 512]⟩
abbrev S24x64x1024 : Shape := ⟨3, ![24, 64, 1024]⟩
abbrev S1024x1024 : Shape := ⟨2, ![1024, 1024]⟩
abbrev S1024x1 : Shape := ⟨2, ![1024, 1]⟩
abbrev S16x64x1024 : Shape := ⟨3, ![16, 64, 1024]⟩
abbrev S16x1024 : Shape := ⟨2, ![16, 1024]⟩
abbrev S16x1x1024 : Shape := ⟨3, ![16, 1, 1024]⟩
abbrev S16x16x1024 : Shape := ⟨3, ![16, 16, 1024]⟩
abbrev S1x16x1024 : Shape := ⟨3, ![1, 16, 1024]⟩
abbrev S4x64x1024 : Shape := ⟨3, ![4, 64, 1024]⟩
abbrev S4x1024 : Shape := ⟨2, ![4, 1024]⟩
abbrev S4x1x1024 : Shape := ⟨3, ![4, 1, 1024]⟩
abbrev S4x16x1024 : Shape := ⟨3, ![4, 16, 1024]⟩
abbrev S1x16x64x1024 : Shape := ⟨4, ![1, 16, 64, 1024]⟩
abbrev S256x1024 : Shape := ⟨2, ![256, 1024]⟩
abbrev S1024x256 : Shape := ⟨2, ![1024, 256]⟩
abbrev S1x1x1024x256 : Shape := ⟨4, ![1, 1, 1024, 256]⟩
abbrev S1x64x512 : Shape := ⟨3, ![1, 64, 512]⟩
abbrev S64x512 : Shape := ⟨2, ![64, 512]⟩
abbrev S1x1x1x64x512 : Shape := ⟨5, ![1, 1, 1, 64, 512]⟩

abbrev nBuf : Space → Nat
  | .hbm => 129
  | .vmem => 17
  | .smem => 0
  | _ => 0

abbrev hbmTy0_0 (i : Nat) : BufTy := match i % 128 with
  | 0 => ⟨S4x8192x1024, .f32⟩
  | 1 => ⟨S1024, .f32⟩
  | 2 => ⟨S1024x1536, .f32⟩
  | 3 => ⟨S1x64, .f32⟩
  | 4 => ⟨S1x64, .f32⟩
  | 5 => ⟨S1x64, .f32⟩
  | 6 => ⟨S_, .f32⟩
  | 7 => ⟨S1, .f32⟩
  | 8 => ⟨S_, .f32⟩
  | 9 => ⟨S1, .f32⟩
  | 10 => ⟨S1, .f32⟩
  | 11 => ⟨S1x64, .f32⟩
  | 12 => ⟨S_, .f32⟩
  | 13 => ⟨S1, .f32⟩
  | 14 => ⟨S1, .f32⟩
  | 15 => ⟨S1, .f32⟩
  | 16 => ⟨S_, .f32⟩
  | 17 => ⟨S1, .f32⟩
  | 18 => ⟨S1, .i1⟩
  | 19 => ⟨S_, .f32⟩
  | 20 => ⟨S1, .f32⟩
  | 21 => ⟨S1, .i1⟩
  | 22 => ⟨S1, .i1⟩
  | 23 => ⟨S_, .f32⟩
  | 24 => ⟨S_, .f32⟩
  | 25 => ⟨S1, .f32⟩
  | 26 => ⟨S1, .f32⟩
  | 27 => ⟨S1, .f32⟩
  | 28 => ⟨S_, .f32⟩
  | 29 => ⟨S1, .f32⟩
  | 30 => ⟨S1, .f32⟩
  | 31 => ⟨S_, .f32⟩
  | 32 => ⟨S1, .f32⟩
  | 33 => ⟨S1, .f32⟩
  | 34 => ⟨S1, .f32⟩
  | 35 => ⟨S_, .f32⟩
  | 36 => ⟨S1, .f32⟩
  | 37 => ⟨S1, .f32⟩
  | 38 => ⟨S1, .f32⟩
  | 39 => ⟨S1x1, .f32⟩
  | 40 => ⟨S_, .f32⟩
  | 41 => ⟨S1x64, .f32⟩
  | 42 => ⟨S1x64, .f32⟩
  | 43 => ⟨S1x64, .f32⟩
  | 44 => ⟨S1x64, .f32⟩
  | 45 => ⟨S1x64x1, .f32⟩
  | 46 => ⟨S1x64x1024, .f32⟩
  | 47 => ⟨S1x64, .f32⟩
  | 48 => ⟨S1x64, .f32⟩
  | 49 => ⟨S1x64x1, .f32⟩
  | 50 => ⟨S1x64x1024, .f32⟩
  | 51 => ⟨S8192, .i32⟩
  | 52 => ⟨S_, .i32⟩
  | 53 => ⟨S_, .i32⟩
  | 54 => ⟨S8192, .i32⟩
  | 55 => ⟨S8192, .i32⟩
  | 56 => ⟨S8192, .i32⟩
  | 57 => ⟨S_, .i32⟩
  | 58 => ⟨S8192, .i32⟩
  | 59 => ⟨S8192, .i1⟩
  | 60 => ⟨S8192, .i32⟩
  | 61 => ⟨S8192, .i32⟩
  | 62 => ⟨S_, .i32⟩
  | 63 => ⟨S8192, .i32⟩
  | 64 => ⟨S8192, .i1⟩
  | 65 => ⟨S8192, .i1⟩
  | 66 => ⟨S_, .i32⟩
  | 67 => ⟨S8192, .i32⟩
  | 68 => ⟨S8192, .i32⟩
  | 69 => ⟨S8192, .i32⟩
  | 70 => ⟨S8192, .f32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S8192, .i32⟩
  | 78 => ⟨S8192, .i32⟩
  | 79 => ⟨S_, .i32⟩
  | 80 => ⟨S8192, .i32⟩
  | 81 => ⟨S8192, .i1⟩
  | 82 => ⟨S_, .i32⟩
  | 83 => ⟨S8192, .i32⟩
  | 84 => ⟨S8192, .i1⟩
  | 85 => ⟨S_, .i32⟩
  | 86 => ⟨S_, .i1⟩
  | 87 => ⟨S8192, .i1⟩
  | 88 => ⟨S8192, .i1⟩
  | 89 => ⟨S8192, .i1⟩
  | 90 => ⟨S8192, .i32⟩
  | 91 => ⟨S8192, .i32⟩
  | 92 => ⟨S8192, .i32⟩
  | 93 => ⟨S8192, .f32⟩
  | 94 => ⟨S16, .f32⟩
  | 95 => ⟨S_, .f32⟩
  | 96 => ⟨S16, .f32⟩
  | 97 => ⟨S16, .f32⟩
  | 98 => ⟨S_, .f32⟩
  | 99 => ⟨S16, .f32⟩
  | 100 => ⟨S16, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S16x1, .f32⟩
  | 109 => ⟨S1x8192, .f32⟩
  | 110 => ⟨S16x8192, .f32⟩
  | 111 => ⟨S16x8192, .f32⟩
  | 112 => ⟨S16x8192, .f32⟩
  | 113 => ⟨S16x1, .f32⟩
  | 114 => ⟨S1x8192, .f32⟩
  | 115 => ⟨S16x8192, .f32⟩
  | 116 => ⟨S16x8192, .f32⟩
  | 117 => ⟨S16x8192, .f32⟩
  | 118 => ⟨S32x8192, .f32⟩
  | 119 => ⟨S32x8192, .f32⟩
  | 120 => ⟨S32x8192, .f32⟩
  | 121 => ⟨S1x1024, .f32⟩
  | 122 => ⟨S1536x1024, .f32⟩
  | 123 => ⟨S1536x1024, .bf16⟩
  | 124 => ⟨S64x1024, .f32⟩
  | 125 => ⟨S64x1024, .f32⟩
  | 126 => ⟨S4x16x256x8192, .fp8e4m3⟩
  | 127 => ⟨S4x4x8192x256, .fp8e4m3⟩
  | _ => ⟨S4x8192x1024, .f32⟩

abbrev hbmTy0_1 (i : Nat) : BufTy := match i % 128 with
  | 0 => ⟨S4x4x16x64x512, .bf16⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1536x1024, .bf16⟩
  | .local _ .vmem, ⟨4, _⟩ => ⟨S64x1024, .f32⟩
  | .local _ .vmem, ⟨5, _⟩ => ⟨S64x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S1x16x256x1024, .fp8e4m3⟩
  | .local _ .vmem, ⟨11, _⟩ => ⟨S1x16x256x1024, .fp8e4m3⟩
  | .local _ .vmem, ⟨12, _⟩ => ⟨S1x4x1024x256, .fp8e4m3⟩
  | .local _ .vmem, ⟨13, _⟩ => ⟨S1x4x1024x256, .fp8e4m3⟩
  | .local _ .vmem, ⟨14, _⟩ => ⟨S1x4x2x64x512, .bf16⟩
  | .local _ .vmem, ⟨15, _⟩ => ⟨S1x4x2x64x512, .bf16⟩
  | .local _ .vmem, ⟨16, _⟩ => ⟨S24x64x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_cst_6 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_7 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v35 : Ref sig .tc := ⟨.hbm, 69, rfl⟩
abbrev main_v36 : Ref sig .tc := ⟨.hbm, 70, rfl⟩
abbrev main_c_9 : Ref sig .tc := ⟨.hbm, 71, rfl⟩
abbrev main_call3_v0 : Ref sig .tc := ⟨.hbm, 72, rfl⟩
abbrev main_call3_c : Ref sig .tc := ⟨.hbm, 73, rfl⟩
abbrev main_call3_v1 : Ref sig .tc := ⟨.hbm, 74, rfl⟩
abbrev main_call3_c_0 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_call3_c_1 : Ref sig .tc := ⟨.hbm, 79, rfl⟩
abbrev main_call3_v5 : Ref sig .tc := ⟨.hbm, 80, rfl⟩
abbrev main_call3_v6 : Ref sig .tc := ⟨.hbm, 81, rfl⟩
abbrev main_call3_c_2 : Ref sig .tc := ⟨.hbm, 82, rfl⟩
abbrev main_call3_v7 : Ref sig .tc := ⟨.hbm, 83, rfl⟩
abbrev main_call3_v8 : Ref sig .tc := ⟨.hbm, 84, rfl⟩
abbrev main_call3_c_3 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_v12 : Ref sig .tc := ⟨.hbm, 89, rfl⟩
abbrev main_call3_v13 : Ref sig .tc := ⟨.hbm, 90, rfl⟩
abbrev main_call3_v14 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_10 : Ref sig .tc := ⟨.hbm, 95, rfl⟩
abbrev main_v40 : Ref sig .tc := ⟨.hbm, 96, rfl⟩
abbrev main_v41 : Ref sig .tc := ⟨.hbm, 97, rfl⟩
abbrev main_cst_11 : Ref sig .tc := ⟨.hbm, 98, rfl⟩
abbrev main_v42 : Ref sig .tc := ⟨.hbm, 99, rfl⟩
abbrev main_v43 : Ref sig .tc := ⟨.hbm, 100, rfl⟩
abbrev main_v44 : Ref sig .tc := ⟨.hbm, 101, rfl⟩
abbrev main_cst_12 : Ref sig .tc := ⟨.hbm, 102, rfl⟩
abbrev main_v45 : Ref sig .tc := ⟨.hbm, 103, rfl⟩
abbrev main_v46 : Ref sig .tc := ⟨.hbm, 104, rfl⟩
abbrev main_cst_13 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67_0 : Ref sig .tc := ⟨.hbm, 126, rfl⟩
abbrev main_v67_1 : Ref sig .tc := ⟨.hbm, 127, rfl⟩
abbrev main_v67_2 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x16x256x1024 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x1024x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x2x64x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S4x8192x1024 : Shape := ⟨3, ![4, 8192, 1024]⟩
abbrev S1024 : Shape := ⟨1, ![1024]⟩
abbrev S1024x1536 : Shape := ⟨2, ![1024, 1536]⟩
abbrev S1x64 : Shape := ⟨2, ![1, 64]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S4x8192x256 : Shape := ⟨3, ![4, 8192, 256]⟩
abbrev S1 : Shape := ⟨1, ![1]⟩
abbrev S1x1 : Shape := ⟨2, ![1, 1]⟩
abbrev S64 : Shape := ⟨1, ![64]⟩
abbrev S8192 : Shape := ⟨1, ![8192]⟩
abbrev S16 : Shape := ⟨1, ![16]⟩
abbrev S8192x1 : Shape := ⟨2, ![8192, 1]⟩
abbrev S1x16 : Shape := ⟨2, ![1, 16]⟩
abbrev S8192x16 : Shape := ⟨2, ![8192, 16]⟩
abbrev S8192x32 : Shape := ⟨2, ![8192, 32]⟩
abbrev S4x8192x16x64 : Shape := ⟨4, ![4, 8192, 16, 64]⟩
abbrev S4x8192x16 : Shape := ⟨3, ![4, 8192, 16]⟩
abbrev S4x8192x16x1 : Shape := ⟨4, ![4, 8192, 16, 1]⟩
abbrev S1x1x1x64 : Shape := ⟨4, ![1, 1, 1, 64]⟩
abbrev S4x8192x16x2x32 : Shape := ⟨5, ![4, 8192, 16, 2, 32]⟩
abbrev S4x8192x16x2x16 : Shape := ⟨5, ![4, 8192, 16, 2, 16]⟩
abbrev S8192x1x2x16 : Shape := ⟨4, ![8192, 1, 2, 16]⟩
abbrev S1x8192x1x2x16 : Shape := ⟨5, ![1, 8192, 1, 2, 16]⟩
abbrev S4x8192x4x64 : Shape := ⟨4, ![4, 8192, 4, 64]⟩
abbrev S4x8192x4 : Shape := ⟨3, ![4, 8192, 4]⟩
abbrev S4x8192x4x1 : Shape := ⟨4, ![4, 8192, 4, 1]⟩
abbrev S4x8192x4x2x32 : Shape := ⟨5, ![4, 8192, 4, 2, 32]⟩
abbrev S4x8192x4x2x16 : Shape := ⟨5, ![4, 8192, 4, 2, 16]⟩
abbrev S4x16x512x4x64 : Shape := ⟨5, ![4, 16, 512, 4, 64]⟩
abbrev S4x4x16x64x512 : Shape := ⟨5, ![4, 4, 16, 64, 512]⟩
abbrev S4x16x64x8192 : Shape := ⟨4, ![4, 16, 64, 8192]⟩
abbrev S4x4x8192x64 : Shape := ⟨4, ![4, 4, 8192, 64]⟩
abbrev S4x16x256x8192 : Shape := ⟨4, ![4, 16, 256, 8192]⟩
abbrev S4x4x8192x256 : Shape := ⟨4, ![4, 4, 8192, 256]⟩

abbrev nBuf : Space → Nat
  | .hbm => 222
  | .vmem => 4
  | .smem => 0
  | _ => 0

abbrev hbmTy0_0 (i : Nat) : BufTy := match i % 128 with
  | 0 => ⟨S4x8192x1024, .f32⟩
  | 1 => ⟨S1024, .f32⟩
  | 2 => ⟨S1024x1536, .f32⟩
  | 3 => ⟨S1x64, .f32⟩
  | 4 => ⟨S1x64, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S_, .f32⟩
  | 13 => ⟨S4x8192x1, .f32⟩
  | 14 => ⟨S4x8192x1, .f32⟩
  | 15 => ⟨S4x8192x1, .f32⟩
  | 16 => ⟨S4x8192x1024, .f32⟩
  | 17 => ⟨S4x8192x1024, .f32⟩
  | 18 => ⟨S1x1x1024, .f32⟩
  | 19 => ⟨S4x8192x1024, .f32⟩
  | 20 => ⟨S4x8192x1024, .f32⟩
  | 21 => ⟨S4x8192x1536, .f32⟩
  | 22 => ⟨S4x8192x1024, .f32⟩
  | 23 => ⟨S4x8192x256, .f32⟩
  | 24 => ⟨S4x8192x256, .f32⟩
  | 25 => ⟨S1x64, .f32⟩
  | 26 => ⟨S_, .f32⟩
  | 27 => ⟨S1, .f32⟩
  | 28 => ⟨S1x64, .f32⟩
  | 29 => ⟨S_, .f32⟩
  | 30 => ⟨S1, .f32⟩
  | 31 => ⟨S_, .f32⟩
  | 32 => ⟨S1, .f32⟩
  | 33 => ⟨S1, .f32⟩
  | 34 => ⟨S1, .f32⟩
  | 35 => ⟨S1, .f32⟩
  | 36 => ⟨S_, .f32⟩
  | 37 => ⟨S1, .f32⟩
  | 38 => ⟨S1, .i1⟩
  | 39 => ⟨S_, .f32⟩
  | 40 => ⟨S1, .f32⟩
  | 41 => ⟨S1, .i1⟩
  | 42 => ⟨S1, .i1⟩
  | 43 => ⟨S_, .f32⟩
  | 44 => ⟨S_, .f32⟩
  | 45 => ⟨S1, .f32⟩
  | 46 => ⟨S1, .f32⟩
  | 47 => ⟨S1, .f32⟩
  | 48 => ⟨S_, .f32⟩
  | 49 => ⟨S1, .f32⟩
  | 50 => ⟨S1, .f32⟩
  | 51 => ⟨S_, .f32⟩
  | 52 => ⟨S1, .f32⟩
  | 53 => ⟨S1, .f32⟩
  | 54 => ⟨S1, .f32⟩
  | 55 => ⟨S_, .f32⟩
  | 56 => ⟨S1, .f32⟩
  | 57 => ⟨S1, .f32⟩
  | 58 => ⟨S1, .f32⟩
  | 59 => ⟨S1x1, .f32⟩
  | 60 => ⟨S_, .f32⟩
  | 61 => ⟨S1x64, .f32⟩
  | 62 => ⟨S1x64, .f32⟩
  | 63 => ⟨S1x64, .f32⟩
  | 64 => ⟨S1x64, .f32⟩
  | 65 => ⟨S64, .f32⟩
  | 66 => ⟨S1x64, .f32⟩
  | 67 => ⟨S1x64, .f32⟩
  | 68 => ⟨S64, .f32⟩
  | 69 => ⟨S8192, .i32⟩
  | 70 => ⟨S_, .i32⟩
  | 71 => ⟨S_, .i32⟩
  | 72 => ⟨S8192, .i32⟩
  | 73 => ⟨S8192, .i32⟩
  | 74 => ⟨S8192, .i32⟩
  | 75 => ⟨S_, .i32⟩
  | 76 => ⟨S8192, .i32⟩
  | 77 => ⟨S8192, .i1⟩
  | 78 => ⟨S8192, .i32⟩
  | 79 => ⟨S8192, .i32⟩
  | 80 => ⟨S_, .i32⟩
  | 81 => ⟨S8192, .i32⟩
  | 82 => ⟨S8192, .i1⟩
  | 83 => ⟨S8192, .i1⟩
  | 84 => ⟨S_, .i32⟩
  | 85 => ⟨S8192, .i32⟩
  | 86 => ⟨S8192, .i32⟩
  | 87 => ⟨S8192, .i32⟩
  | 88 => ⟨S8192, .f32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S8192, .i32⟩
  | 96 => ⟨S8192, .i32⟩
  | 97 => ⟨S_, .i32⟩
  | 98 => ⟨S8192, .i32⟩
  | 99 => ⟨S8192, .i1⟩
  | 100 => ⟨S_, .i32⟩
  | 101 => ⟨S8192, .i32⟩
  | 102 => ⟨S8192, .i1⟩
  | 103 => ⟨S_, .i32⟩
  | 104 => ⟨S_, .i1⟩
  | 105 => ⟨S8192, .i1⟩
  | 106 => ⟨S8192, .i1⟩
  | 107 => ⟨S8192, .i1⟩
  | 108 => ⟨S8192, .i32⟩
  | 109 => ⟨S8192, .i32⟩
  | 110 => ⟨S8192, .i32⟩
  | 111 => ⟨S8192, .f32⟩
  | 112 => ⟨S16, .f32⟩
  | 113 => ⟨S_, .f32⟩
  | 114 => ⟨S16, .f32⟩
  | 115 => ⟨S16, .f32⟩
  | 116 => ⟨S_, .f32⟩
  | 117 => ⟨S16, .f32⟩
  | 118 => ⟨S16, .f32⟩
  | 119 => ⟨S16, .f32⟩
  | 120 => ⟨S_, .f32⟩
  | 121 => ⟨S16, .f32⟩
  | 122 => ⟨S16, .f32⟩
  | 123 => ⟨S_, .f32⟩
  | 124 => ⟨S16, .f32⟩
  | 125 => ⟨S16, .f32⟩
  | 126 => ⟨S8192x1, .f32⟩
  | 127 => ⟨S1x16, .f32⟩
  | _ => ⟨S4x8192x1024, .f32⟩

abbrev hbmTy0_1 (i : Nat) : BufTy := match i % 128 with
  | 0 => ⟨S8192x16, .f32⟩
  | 1 => ⟨S8192x16, .f32⟩
  | 2 => ⟨S8192x16, .f32⟩
  | 3 => ⟨S8192x1, .f32⟩
  | 4 => ⟨S1x16, .f32⟩
  | 5 => ⟨S8192x16, .f32⟩
  | 6 => ⟨S8192x16, .f32⟩
  | 7 => ⟨S8192x16, .f32⟩
  | 8 => ⟨S8192x32, .f32⟩
  | 9 => ⟨S8192x32, .f32⟩
  | 10 => ⟨S8192x32, .f32⟩
  | 11 => ⟨S4x8192x16x64, .f32⟩
  | 12 => ⟨S4x8192x16x64, .f32⟩
  | 13 => ⟨S_, .f32⟩
  | 14 => ⟨S4x8192x16, .f32⟩
  | 15 => ⟨S4x8192x16x1, .f32⟩
  | 16 => ⟨S_, .f32⟩
  | 17 => ⟨S4x8192x16x1, .f32⟩
  | 18 => ⟨S4x8192x16x1, .f32⟩
  | 19 => ⟨S_, .f32⟩
  | 20 => ⟨S4x8192x16x1, .f32⟩
  | 21 => ⟨S4x8192x16x1, .f32⟩
  | 22 => ⟨S4x8192x16x1, .f32⟩
  | 23 => ⟨S4x8192x16x64, .f32⟩
  | 24 => ⟨S4x8192x16x64, .f32⟩
  | 25 => ⟨S1x1x1x64, .f32⟩
  | 26 => ⟨S4x8192x16x64, .f32⟩
  | 27 => ⟨S4x8192x16x64, .f32⟩
  | 28 => ⟨S4x8192x16x2x32, .f32⟩
  | 29 => ⟨S4x8192x16x2x16, .f32⟩
  | 30 => ⟨S4x8192x16x2x16, .f32⟩
  | 31 => ⟨S8192x1x2x16, .f32⟩
  | 32 => ⟨S8192x1x2x16, .f32⟩
  | 33 => ⟨S1x8192x1x2x16, .f32⟩
  | 34 => ⟨S4x8192x16x2x16, .f32⟩
  | 35 => ⟨S4x8192x16x2x16, .f32⟩
  | 36 => ⟨S1x8192x1x2x16, .f32⟩
  | 37 => ⟨S4x8192x16x2x16, .f32⟩
  | 38 => ⟨S4x8192x16x2x16, .f32⟩
  | 39 => ⟨S4x8192x16x2x16, .f32⟩
  | 40 => ⟨S1x8192x1x2x16, .f32⟩
  | 41 => ⟨S4x8192x16x2x16, .f32⟩
  | 42 => ⟨S4x8192x16x2x16, .f32⟩
  | 43 => ⟨S1x8192x1x2x16, .f32⟩
  | 44 => ⟨S4x8192x16x2x16, .f32⟩
  | 45 => ⟨S4x8192x16x2x16, .f32⟩
  | 46 => ⟨S4x8192x16x2x16, .f32⟩
  | 47 => ⟨S4x8192x16x2x32, .f32⟩
  | 48 => ⟨S4x8192x16x64, .f32⟩
  | 49 => ⟨S4x8192x4x64, .f32⟩
  | 50 => ⟨S4x8192x4x64, .f32⟩
  | 51 => ⟨S_, .f32⟩
  | 52 => ⟨S4x8192x4, .f32⟩
  | 53 => ⟨S4x8192x4x1, .f32⟩
  | 54 => ⟨S_, .f32⟩
  | 55 => ⟨S4x8192x4x1, .f32⟩
  | 56 => ⟨S4x8192x4x1, .f32⟩
  | 57 => ⟨S_, .f32⟩
  | 58 => ⟨S4x8192x4x1, .f32⟩
  | 59 => ⟨S4x8192x4x1, .f32⟩
  | 60 => ⟨S4x8192x4x1, .f32⟩
  | 61 => ⟨S4x8192x4x64, .f32⟩
  | 62 => ⟨S4x8192x4x64, .f32⟩
  | 63 => ⟨S1x1x1x64, .f32⟩
  | 64 => ⟨S4x8192x4x64, .f32⟩
  | 65 => ⟨S4x8192x4x64, .f32⟩
  | 66 => ⟨S4x8192x4x2x32, .f32⟩
  | 67 => ⟨S4x8192x4x2x16, .f32⟩
  | 68 => ⟨S4x8192x4x2x16, .f32⟩
  | 69 => ⟨S8192x1x2x16, .f32⟩
  | 70 => ⟨S8192x1x2x16, .f32⟩
  | 71 => ⟨S1x8192x1x2x16, .f32⟩
  | 72 => ⟨S4x8192x4x2x16, .f32⟩
  | 73 => ⟨S4x8192x4x2x16, .f32⟩
  | 74 => ⟨S1x8192x1x2x16, .f32⟩
  | 75 => ⟨S4x8192x4x2x16, .f32⟩
  | 76 => ⟨S4x8192x4x2x16, .f32⟩
  | 77 => ⟨S4x8192x4x2x16, .f32⟩
  | 78 => ⟨S1x8192x1x2x16, .f32⟩
  | 79 => ⟨S4x8192x4x2x16, .f32⟩
  | 80 => ⟨S4x8192x4x2x16, .f32⟩
  | 81 => ⟨S1x8192x1x2x16, .f32⟩
  | 82 => ⟨S4x8192x4x2x16, .f32⟩
  | 83 => ⟨S4x8192x4x2x16, .f32⟩
  | 84 => ⟨S4x8192x4x2x16, .f32⟩
  | 85 => ⟨S4x8192x4x2x32, .f32⟩
  | 86 => ⟨S4x8192x4x64, .f32⟩
  | 87 => ⟨S4x8192x256, .bf16⟩
  | 88 => ⟨S4x16x512x4x64, .bf16⟩
  | 89 => ⟨S4x4x16x64x512, .bf16⟩
  | 90 => ⟨S4x16x64x8192, .f32⟩
  | 91 => ⟨S4x4x8192x64, .f32⟩
  | 92 => ⟨S4x16x256x8192, .fp8e4m3⟩
  | 93 => ⟨S4x4x8192x256, .fp8e4m3⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | .local _ .vmem, ⟨0, _⟩ => ⟨S4x16x64x8192, .f32⟩
  | .local _ .vmem, ⟨1, _⟩ => ⟨S4x4x8192x64, .f32⟩
  | .local _ .vmem, ⟨2, _⟩ => ⟨S4x16x256x8192, .fp8e4m3⟩
  | .local _ .vmem, ⟨3, _⟩ => ⟨S4x4x8192x256, .fp8e4m3⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_call0_v0 : Ref sig .tc := ⟨.hbm, 44, rfl⟩
abbrev main_call0_v1 : Ref sig .tc := ⟨.hbm, 45, rfl⟩
abbrev main_v30 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_cst_9 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_11 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_c : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_0 : Ref sig .tc := ⟨.hbm, 84, rfl⟩
abbrev main_call2_v12 : Ref sig .tc := ⟨.hbm, 85, rfl⟩
abbrev main_call2_v13 : Ref sig .tc := ⟨.hbm, 86, rfl⟩
abbrev main_v50 : Ref sig .tc := ⟨.hbm, 87, rfl⟩
abbrev main_v51 : Ref sig .tc := ⟨.hbm, 88, rfl⟩
abbrev main_c_12 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_cst_13 : Ref sig .tc := ⟨.hbm, 113, rfl⟩
abbrev main_v55 : Ref sig .tc := ⟨.hbm, 114, rfl⟩
abbrev main_v56 : Ref sig .tc := ⟨.hbm, 115, rfl⟩
abbrev main_cst_14 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_cst_15 : Ref sig .tc := ⟨.hbm, 120, rfl⟩
abbrev main_v60 : Ref sig .tc := ⟨.hbm, 121, rfl⟩
abbrev main_v61 : Ref sig .tc := ⟨.hbm, 122, rfl⟩
abbrev main_cst_16 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_cst_17 : Ref sig .tc := ⟨.hbm, 141, rfl⟩
abbrev main_v79 : Ref sig .tc := ⟨.hbm, 142, rfl⟩
abbrev main_v80 : Ref sig .tc := ⟨.hbm, 143, rfl⟩
abbrev main_cst_18 : Ref sig .tc := ⟨.hbm, 144, rfl⟩
abbrev main_v81 : Ref sig .tc := ⟨.hbm, 145, rfl⟩
abbrev main_v82 : Ref sig .tc := ⟨.hbm, 146, rfl⟩
abbrev main_cst_19 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_cst_20 : Ref sig .tc := ⟨.hbm, 179, rfl⟩
abbrev main_v114 : Ref sig .tc := ⟨.hbm, 180, rfl⟩
abbrev main_v115 : Ref sig .tc := ⟨.hbm, 181, rfl⟩
abbrev main_cst_21 : Ref sig .tc := ⟨.hbm, 182, rfl⟩
abbrev main_v116 : Ref sig .tc := ⟨.hbm, 183, rfl⟩
abbrev main_v117 : Ref sig .tc := ⟨.hbm, 184, rfl⟩
abbrev main_cst_22 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152_0 : Ref sig .tc := ⟨.hbm, 220, rfl⟩
abbrev main_v152_1 : Ref sig .tc := ⟨.hbm, 221, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x16x64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x4x8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16x256x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x4x8192x256 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Flash.Trace.lean ====
/- The body of the flash-attention kernel at one grid point, written as the recursion that it is: which block of scores
   each of its 128 updates reads, what an update makes of the running maximum and of the running sum, and what the point
   leaves. The pieces that the frame's run found are this recursion's, by evaluation (`run_out` and its neighbours below). -/
module

public import proofs.«01_k».proof.Proof.Gen.KernelIdeal.Value

@[expose] public section

noncomputable section

namespace Cert.Flash

open Cert.KernelIdeal Cert.KernelIdeal.Gen Idealize.ShloMosaic Idealize.ShloMosaic.Tactic

variable {F : FTy → Type} [FloatOps F]

/-! ## The rectangles that the body loads and stores -/

/-- Chunk `c` of the keys: 512 rows. -/
def kRect (c : ℕ) : Rect S1x1x8192x256 :=
  Rect.unit ![0, 0, 512 * (c % 16), 0] S1x1x512x256.size (by
    intro a; fin_cases a <;> simp [S1x1x512x256, S1x1x8192x256]; omega)

/-- Tile `j` of head `e`'s queries: 256 lanes. -/
def qRect (j e : ℕ) : Rect S1x4x256x512 :=
  Rect.unit ![0, e % 4, 0, 256 * (j % 2)] S1x1x256x256.size (by
    intro a; fin_cases a <;> simp [S1x1x256x256, S1x4x256x512] <;> omega)

/-- Chunk `c` of the values. -/
def vRect (c : ℕ) : Rect S1x1x16x64x512 :=
  Rect.unit ![0, 0, c % 16, 0, 0] S1x1x1x64x512.size (by
    intro a; fin_cases a <;> simp [S1x1x1x64x512, S1x1x16x64x512]; omega)

/-- Head `e`'s block of scores in a slot of the scratch. -/
def sRect (slot e : ℕ) : Rect S2x4x512x256 :=
  Rect.unit ![slot % 2, e % 4, 0, 0] S1x1x512x256.size (by
    intro a; fin_cases a <;> simp [S1x1x512x256, S2x4x512x256] <;> omega)

/-- Head `e`'s column maxima in a slot of the scratch. -/
def mRect (slot e : ℕ) : Rect S2x4x1x256 :=
  Rect.unit ![slot % 2, e % 4, 0, 0] S1x1x1x256.size (by
    intro a; fin_cases a <;> simp [S1x1x1x256, S2x4x1x256] <;> omega)

/-- Tile `j` of the point's output. -/
def oRect (j : ℕ) : Rect S1x1x512x256 :=
  Rect.unit ![0, 0, 256 * (j % 2), 0] S1x1x256x256.size (by
    intro a; fin_cases a <;> simp [S1x1x256x256, S1x1x512x256]; omega)

/-! ## The values -/

/-- A chunk's scores: keys by queries. -/
def score (k : Vec F S1x1x512x256 .fp8e4m3) (q : Vec F S1x1x256x256 .fp8e4m3) : FVec F S512x256 .f32 :=
  matmul dot_S512x256_S256x256_S512x256_1_0_0_1_n_n none
    (shapeCast S512x256 k shapeCasts_S1x1x512x256_S512x256) (shapeCast S256x256 q shapeCasts_S1x1x256x256_S256x256)
    (constant S512x256 .f32 0x00000000#32)

/-- The scores as stored. -/
def payS (k : Vec F S1x1x512x256 .fp8e4m3) (q : Vec F S1x1x256x256 .fp8e4m3) : FVec F S1x1x512x256 .f32 :=
  shapeCast S1x1x512x256 (score k q) shapeCasts_S512x256_S1x1x512x256

/-- Their maxima over the keys, as stored. -/
def payM (k : Vec F S1x1x512x256 .fp8e4m3) (q : Vec F S1x1x256x256 .fp8e4m3) : FVec F S1x1x1x256 .f32 :=
  shapeCast S1x1x1x256 (shapeCast S1x256
    (multiReduction .maximumf [0] S256 (score k q) 0xFF800000#32 reduces_S512x256_S256 (.inl rfl) rfl)
    shapeCasts_S256_S1x256) shapeCasts_S1x256_S1x1x1x256

/-- The running maximum before the first chunk, -/
def m0 : FVec F S1x256 .f32 := broadcast S1x256 (Scalar.ofBits .f32 0xFF800000#32)

/-- the running sum, -/
def a0 : FVec F S80x256 .f32 := broadcast S80x256 (Scalar.ofBits .f32 0x00000000#32)

/-- and the rows of ones under the values, for the denominator. -/
def ones : FVec F S16x512 .bf16 := broadcast S16x512 (Scalar.ofBits .bf16 0x3F80#16)

/-- The running maximum after a chunk. -/
def upM (m : FVec F S1x256 .f32) (cm : Vec F S1x1x1x256 .f32) : FVec F S1x256 .f32 :=
  maximumf m (shapeCast S1x256 cm shapeCasts_S1x1x1x256_S1x256)

/-- The running sum after a chunk. -/
def upA (m : FVec F S1x256 .f32) (a : FVec F S80x256 .f32) (s : Vec F S1x1x512x256 .f32) (cm : Vec F S1x1x1x256 .f32)
    (v : Vec F S1x1x1x64x512 .bf16) : FVec F S80x256 .f32 :=
  addf (mulf (broadcastTo S80x256 (exp2 (subf m (upM m cm))) broadcasts_S1x256_S80x256) a)
    (matmul dot_S80x512_S512x256_S80x256_1_0_0_1_n_n none
      (concatenate S80x512 0 [⟨S64x512, shapeCast S64x512 v shapeCasts_S1x1x1x64x512_S64x512⟩, ⟨S16x512, ones⟩]
        concatenates_S64x512_S16x512_S80x512_d0)
      (truncf .bf16 (exp2 (subf (shapeCast S512x256 s shapeCasts_S1x1x512x256_S512x256)
        (broadcastTo S512x256 (upM m cm) broadcasts_S1x256_S512x256))) bitsLt_bf16_f32)
      (constant S80x256 .f32 0x00000000#32))

/-- A head's quotient. -/
def quot (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- A tile's four heads, side by side, as stored. -/
def payO (a b c d : FVec F S80x256 .f32) : FVec F S1x1x256x256 .bf16 :=
  shapeCast S1x1x256x256 (truncf .bf16 (transpose S256x256 [1, 0]
    (concatenate S256x256 0 [⟨S64x256, quot a⟩, ⟨S64x256, quot b⟩, ⟨S64x256, quot c⟩, ⟨S64x256, quot d⟩]
      concatenates_S64x256_S64x256_S64x256_S64x256_S256x256_d0) transposes_S256x256_p1_0_S256x256) bitsLt_bf16_f32)
    shapeCasts_S256x256_S1x1x256x256

/-! ## The point's recursion

A point makes 128 blocks of scores, numbered in the order it stores them: block `g` is of head `g % 4` and of chunk
`g / 4 + 1` of the two tiles' 32; the last four are the next point's first chunk. It reads each back four stores later. -/

/-- What a point reads: its keys, its queries and its values, the next point's first keys and queries, the stores that
    it begins with, and how it reads scores and maxima back. -/
structure Ins (F : FTy → Type) where
  k : ℕ → Vec F S1x1x512x256 .fp8e4m3
  q : ℕ → ℕ → Vec F S1x1x256x256 .fp8e4m3
  v : ℕ → Vec F S1x1x1x64x512 .bf16
  kn : Vec F S1x1x512x256 .fp8e4m3
  qn : ℕ → Vec F S1x1x256x256 .fp8e4m3
  LS : List (View.Piece (Elt F) S2x4x512x256 .f32)
  LM : List (View.Piece (Elt F) S2x4x1x256 .f32)
  rS : List (View.Piece (Elt F) S2x4x512x256 .f32) → ℕ → ℕ → Vec F S1x1x512x256 .f32
  rM : List (View.Piece (Elt F) S2x4x1x256 .f32) → ℕ → ℕ → Vec F S1x1x1x256 .f32

/-- The stores of the first chunk's scores that the first point makes for itself, -/
def stS0 (k : ℕ → Vec F S1x1x512x256 .fp8e4m3) (q : ℕ → ℕ → Vec F S1x1x256x256 .fp8e4m3) :
    ℕ → List (View.Piece (Elt F) S2x4x512x256 .f32)
  | 0 => []
  | e + 1 => ⟨sRect 0 e, payS (k 0) (q 0 e)⟩ :: stS0 k q e

/-- and of maxima. -/
def stM0 (k : ℕ → Vec F S1x1x512x256 .fp8e4m3) (q : ℕ → ℕ → Vec F S1x1x256x256 .fp8e4m3) :
    ℕ → List (View.Piece (Elt F) S2x4x1x256 .f32)
  | 0 => []
  | e + 1 => ⟨mRect 0 e, payM (k 0) (q 0 e)⟩ :: stM0 k q e

namespace Ins

variable (I : Ins F)

/-- The keys of block `g` -/
def kk (g : ℕ) : Vec F S1x1x512x256 .fp8e4m3 := bif Nat.beq (g / 4 + 1) 32 then I.kn else I.k (g / 4 + 1)

/-- and its queries. -/
def qq (g : ℕ) : Vec F S1x1x256x256 .fp8e4m3 :=
  bif Nat.beq (g / 4 + 1) 32 then I.qn (g % 4) else I.q ((g / 4 + 1) / 16) (g % 4)

/-- The stores of scores up to block `g`, -/
def stS : ℕ → List (View.Piece (Elt F) S2x4x512x256 .f32)
  | 0 => I.LS
  | g + 1 => ⟨sRect (g / 4 + 1) (g % 4), payS (I.kk g) (I.qq g)⟩ :: stS g

/-- and of maxima. -/
def stM : ℕ → List (View.Piece (Elt F) S2x4x1x256 .f32)
  | 0 => I.LM
  | g + 1 => ⟨mRect (g / 4 + 1) (g % 4), payM (I.kk g) (I.qq g)⟩ :: stM g

/-- The scores that the update of head `e` by chunk `c` reads -/
def ldS (e c : ℕ) : Vec F S1x1x512x256 .f32 := I.rS (I.stS (4 * c + e)) c e

/-- and the maxima. -/
def ldM (e c : ℕ) : Vec F S1x1x1x256 .f32 := I.rM (I.stM (4 * c + e)) c e

/-- The running maximum of tile `j`'s head `e` before its chunk `c`, -/
def mx (j e : ℕ) : ℕ → FVec F S1x256 .f32
  | 0 => m0
  | c + 1 => upM (mx j e c) (I.ldM e (16 * j + c))

/-- and the running sum. -/
def ac (j e : ℕ) : ℕ → FVec F S80x256 .f32
  | 0 => a0
  | c + 1 => upA (mx I j e c) (ac j e c) (I.ldS e (16 * j + c)) (I.ldM e (16 * j + c)) (I.v c)

/-- What the point stores of tile `j`. -/
def out (j : ℕ) : FVec F S1x1x256x256 .bf16 := payO (I.ac j 0 16) (I.ac j 1 16) (I.ac j 2 16) (I.ac j 3 16)

/-- The point's stores of output. -/
def stO : List (View.Piece (Elt F) S1x1x512x256 .bf16) := [⟨oRect 1, I.out 1⟩, ⟨oRect 0, I.out 0⟩]

end Ins

/-! ## A point's data, from its operands -/

/-- The parts of its windows and of the scratch that a point's body loads. -/
def kOf (x1 : Vec F S1x1x8192x256 .fp8e4m3) (n : ℕ) : Vec F S1x1x512x256 .fp8e4m3 := View.ld x1 (kRect n)
def qOf (x0 : Vec F S1x4x256x512 .fp8e4m3) (j e : ℕ) : Vec F S1x1x256x256 .fp8e4m3 := View.ld x0 (qRect j e)
def vOf (x2 : Vec F S1x1x16x64x512 .bf16) (n : ℕ) : Vec F S1x1x1x64x512 .bf16 := View.ld x2 (vRect n)
def sOf (xs : Vec F S2x4x512x256 .f32) (e : ℕ) : Vec F S1x1x512x256 .f32 := View.ld xs (sRect 0 e)
def mOf (xs : Vec F S2x4x1x256 .f32) (e : ℕ) : Vec F S1x1x1x256 .f32 := View.ld xs (mRect 0 e)

section

variable (c : Dev nD) (i : grid0.Coords) (arg3 : Memref sig .tc .vmem S1x4x256x512 .fp8e4m3) (harg3 : arg3.IsWhole)
  (arg4 : Memref sig .tc .vmem S1x1x8192x256 .fp8e4m3) (harg4 : arg4.IsWhole)
  (arg5 : Memref sig .tc .vmem S1x1x16x64x512 .bf16) (harg5 : arg5.IsWhole)
  (arg6 : Memref sig .tc .vmem S1x4x256x512 .fp8e4m3) (harg6 : arg6.IsWhole)
  (arg7 : Memref sig .tc .vmem S1x1x8192x256 .fp8e4m3) (harg7 : arg7.IsWhole)
  (arg8 : Memref sig .tc .vmem S1x1x512x256 .bf16) (harg8 : arg8.IsWhole)
  (arg9 : Memref sig .tc .vmem S2x4x512x256 .f32) (harg9 : arg9.IsWhole)
  (arg10 : Memref sig .tc .vmem S2x4x1x256 .f32) (harg10 : arg10.IsWhole)
  (x0 : Vec F S1x4x256x512 .fp8e4m3) (x1 : Vec F S1x1x8192x256 .fp8e4m3) (x2 : Vec F S1x1x16x64x512 .bf16)
  (x3 : Vec F S1x4x256x512 .fp8e4m3) (x4 : Vec F S1x1x8192x256 .fp8e4m3)
  (xs0 : Vec F S2x4x512x256 .f32) (xs1 : Vec F S2x4x1x256 .f32)

/-- At a point after the first: the first chunk's scores are what the scratch holds. -/
def insB : Ins F where
  k n := View.readAt (Elt F) arg4.view (kRect n).toLoadRect (harg4.unread x1)
  q j e := View.readAt (Elt F) arg3.view (qRect j e).toLoadRect (harg3.unread x0)
  v n := View.readAt (Elt F) arg5.view (vRect n).toLoadRect (harg5.unread x2)
  kn := View.readAt (Elt F) arg7.view (kRect 0).toLoadRect (harg7.unread x4)
  qn e := View.readAt (Elt F) arg6.view (qRect 0 e).toLoadRect (harg6.unread x3)
  LS := []
  LM := []
  rS L n e := bif Nat.beq n 0 then View.readAt (Elt F) arg9.view (sRect 0 e).toLoadRect (harg9.unread xs0)
    else arg9.view.readCov L (sRect n e).toLoadRect
  rM L n e := bif Nat.beq n 0 then View.readAt (Elt F) arg10.view (mRect 0 e).toLoadRect (harg10.unread xs1)
    else arg10.view.readCov L (mRect n e).toLoadRect

theorem run_out_B (hc0) : (kernelRun0_B c i arg3 harg3 arg4 harg4 arg5 harg5 arg6 harg6 arg7 harg7 arg8 harg8 arg9 harg9
      arg10 harg10 hc0 x0 x1 x2 x3 x4 xs0 xs1).1
    = (insB arg3 harg3 arg4 harg4 arg5 harg5 arg6 harg6 arg7 harg7 arg9 harg9 arg10 harg10 x0 x1 x2 x3 x4 xs0 xs1).stO := by
  sl_kernel_rfl

theorem run_S_B (hc0) : (kernelRun0_B c i arg3 harg3 arg4 harg4 arg5 harg5 arg6 harg6 arg7 harg7 arg8 harg8 arg9 harg9
      arg10 harg10 hc0 x0 x1 x2 x3 x4 xs0 xs1).2.1
    = (insB arg3 harg3 arg4 harg4 arg5 harg5 arg6 harg6 arg7 harg7 arg9 harg9 arg10 harg10 x0 x1 x2 x3 x4 xs0 xs1).stS 128 := by
  sl_kernel_rfl

theorem run_M_B (hc0) : (kernelRun0_B c i arg3 harg3 arg4 harg4 arg5 harg5 arg6 harg6 arg7 harg7 arg8 harg8 arg9 harg9
      arg10 harg10 hc0 x0 x1 x2 x3 x4 xs0 xs1).2.2.1
    = (insB arg3 harg3 arg4 harg4 arg5 harg5 arg6 harg6 arg7 harg7 arg9 harg9 arg10 harg10 x0 x1 x2 x3 x4 xs0 xs1).stM 128 := by
  sl_kernel_rfl

theorem left_O_B (hc0) : out0_B_5 c i arg3 harg3 arg4 harg4 arg5 harg5 arg6 harg6 arg7 harg7 arg8 harg8 arg9 harg9
      arg10 harg10 hc0 x0 x1 x2 x3 x4 xs0 xs1
    = View.canon (Ins.stO (insB arg3 harg3 arg4 harg4 arg5 harg5 arg6 harg6 arg7 harg7 arg9 harg9 arg10 harg10 x0 x1 x2 x3 x4 xs0 xs1)) := by
  unfold out0_B_5
  rw [run_out_B, View.read_writes_junk_eq_canon]

theorem left_S_B (hc0) : sout0_B_0 c i arg3 harg3 arg4 harg4 arg5 harg5 arg6 harg6 arg7 harg7 arg8 harg8 arg9 harg9
      arg10 harg10 hc0 x0 x1 x2 x3 x4 xs0 xs1
    = View.canon (Ins.stS (insB arg3 harg3 arg4 harg4 arg5 harg5 arg6 harg6 arg7 harg7 arg9 harg9 arg10 harg10 x0 x1 x2 x3 x4 xs0 xs1) 128) := by
  unfold sout0_B_0
  rw [run_S_B, View.read_writes_junk_eq_canon]

theorem left_M_B (hc0) : sout0_B_1 c i arg3 harg3 arg4 harg4 arg5 harg5 arg6 harg6 arg7 harg7 arg8 harg8 arg9 harg9
      arg10 harg10 hc0 x0 x1 x2 x3 x4 xs0 xs1
    = View.canon (Ins.stM (insB arg3 harg3 arg4 harg4 arg5 harg5 arg6 harg6 arg7 harg7 arg9 harg9 arg10 harg10 x0 x1 x2 x3 x4 xs0 xs1) 128) := by
  unfold sout0_B_1
  rw [run_M_B, View.read_writes_junk_eq_canon]

theorem insB_k : (insB arg3 harg3 arg4 harg4 arg5 harg5 arg6 harg6 arg7 harg7 arg9 harg9 arg10 harg10 x0 x1 x2 x3 x4 xs0 xs1).k
    = kOf x1 :=
  funext fun n => congrArg (fun X => View.ld X (kRect n)) (harg4.read_unread x1)

theorem insB_q : (insB arg3 harg3 arg4 harg4 arg5 harg5 arg6 harg6 arg7 harg7 arg9 harg9 arg10 harg10 x0 x1 x2 x3 x4 xs0 xs1).q
    = qOf x0 :=
  funext fun j => funext fun e => congrArg (fun X => View.ld X (qRect j e)) (harg3.read_unread x0)

theorem insB_v : (insB arg3 harg3 arg4 harg4 arg5 harg5 arg6 harg6 arg7 harg7 arg9 harg9 arg10 harg10 x0 x1 x2 x3 x4 xs0 xs1).v
    = vOf x2 :=
  funext fun n => congrArg (fun X => View.ld X (vRect n)) (harg5.read_unread x2)

theorem insB_kn : (insB arg3 harg3 arg4 harg4 arg5 harg5 arg6 harg6 arg7 harg7 arg9 harg9 arg10 harg10 x0 x1 x2 x3 x4 xs0 xs1).kn
    = kOf x4 0 :=
  congrArg (fun X => View.ld X (kRect 0)) (harg7.read_unread x4)

theorem insB_qn : (insB arg3 harg3 arg4 harg4 arg5 harg5 arg6 harg6 arg7 harg7 arg9 harg9 arg10 harg10 x0 x1 x2 x3 x4 xs0 xs1).qn
    = qOf x3 0 :=
  funext fun e => congrArg (fun X => View.ld X (qRect 0 e)) (harg6.read_unread x3)

theorem insB_s0 (L : List (View.Piece (Elt F) S2x4x512x256 .f32)) (e : ℕ) : (insB arg3 harg3 arg4 harg4 arg5 harg5 arg6 harg6 arg7 harg7 arg9 harg9 arg10 harg10 x0 x1 x2 x3 x4 xs0 xs1).rS L 0 e
    = sOf xs0 e :=
  congrArg (fun X => View.ld X (sRect 0 e)) (harg9.read_unread xs0)

theorem insB_m0 (L : List (View.Piece (Elt F) S2x4x1x256 .f32)) (e : ℕ) : (insB arg3 harg3 arg4 harg4 arg5 harg5 arg6 harg6 arg7 harg7 arg9 harg9 arg10 harg10 x0 x1 x2 x3 x4 xs0 xs1).rM L 0 e
    = mOf xs1 e :=
  congrArg (fun X => View.ld X (mRect 0 e)) (harg10.read_unread xs1)

/-- At the first point: the body makes the first chunk's scores itself. -/
def insA : Ins F where
  k n := View.readAt (Elt F) arg4.view (kRect n).toLoadRect (harg4.unread x1)
  q j e := View.readAt (Elt F) arg3.view (qRect j e).toLoadRect (harg3.unread x0)
  v n := View.readAt (Elt F) arg5.view (vRect n).toLoadRect (harg5.unread x2)
  kn := View.readAt (Elt F) arg7.view (kRect 0).toLoadRect (harg7.unread x4)
  qn e := View.readAt (Elt F) arg6.view (qRect 0 e).toLoadRect (harg6.unread x3)
  LS := stS0 (fun n => View.readAt (Elt F) arg4.view (kRect n).toLoadRect (harg4.unread x1))
    (fun j e => View.readAt (Elt F) arg3.view (qRect j e).toLoadRect (harg3.unread x0)) 4
  LM := stM0 (fun n => View.readAt (Elt F) arg4.view (kRect n).toLoadRect (harg4.unread x1))
    (fun j e => View.readAt (Elt F) arg3.view (qRect j e).toLoadRect (harg3.unread x0)) 4
  rS L n e := arg9.view.readCov L (sRect n e).toLoadRect
  rM L n e := arg10.view.readCov L (mRect n e).toLoadRect

theorem run_out_A (hc0) : (kernelRun0_A c i arg3 harg3 arg4 harg4 arg5 harg5 arg6 harg6 arg7 harg7 arg8 harg8 arg9 harg9
      arg10 harg10 hc0 x0 x1 x2 x3 x4).1
    = (insA arg3 harg3 arg4 harg4 arg5 harg5 arg6 harg6 arg7 harg7 arg9 arg10 x0 x1 x2 x3 x4).stO := by
  sl_kernel_rfl

theorem run_S_A (hc0) : (kernelRun0_A c i arg3 harg3 arg4 harg4 arg5 harg5 arg6 harg6 arg7 harg7 arg8 harg8 arg9 harg9
      arg10 harg10 hc0 x0 x1 x2 x3 x4).2.1
    = (insA arg3 harg3 arg4 harg4 arg5 harg5 arg6 harg6 arg7 harg7 arg9 arg10 x0 x1 x2 x3 x4).stS 128 := by
  sl_kernel_rfl

theorem run_M_A (hc0) : (kernelRun0_A c i arg3 harg3 arg4 harg4 arg5 harg5 arg6 harg6 arg7 harg7 arg8 harg8 arg9 harg9
      arg10 harg10 hc0 x0 x1 x2 x3 x4).2.2.1
    = (insA arg3 harg3 arg4 harg4 arg5 harg5 arg6 harg6 arg7 harg7 arg9 arg10 x0 x1 x2 x3 x4).stM 128 := by
  sl_kernel_rfl

theorem left_O_A (hc0) : out0_A_5 c i arg3 harg3 arg4 harg4 arg5 harg5 arg6 harg6 arg7 harg7 arg8 harg8 arg9 harg9
      arg10 harg10 hc0 x0 x1 x2 x3 x4
    = View.canon (Ins.stO (insA arg3 harg3 arg4 harg4 arg5 harg5 arg6 harg6 arg7 harg7 arg9 arg10 x0 x1 x2 x3 x4)) := by
  unfold out0_A_5
  rw [run_out_A, View.read_writes_junk_eq_canon]

theorem left_S_A (hc0) : sout0_A_0 c i arg3 harg3 arg4 harg4 arg5 harg5 arg6 harg6 arg7 harg7 arg8 harg8 arg9 harg9
      arg10 harg10 hc0 x0 x1 x2 x3 x4
    = View.canon (Ins.stS (insA arg3 harg3 arg4 harg4 arg5 harg5 arg6 harg6 arg7 harg7 arg9 arg10 x0 x1 x2 x3 x4) 128) := by
  unfold sout0_A_0
  rw [run_S_A, View.read_writes_junk_eq_canon]

theorem left_M_A (hc0) : sout0_A_1 c i arg3 harg3 arg4 harg4 arg5 harg5 arg6 harg6 arg7 harg7 arg8 harg8 arg9 harg9
      arg10 harg10 hc0 x0 x1 x2 x3 x4
    = View.canon (Ins.stM (insA arg3 harg3 arg4 harg4 arg5 harg5 arg6 harg6 arg7 harg7 arg9 arg10 x0 x1 x2 x3 x4) 128) := by
  unfold sout0_A_1
  rw [run_M_A, View.read_writes_junk_eq_canon]

theorem insA_k : (insA arg3 harg3 arg4 harg4 arg5 harg5 arg6 harg6 arg7 harg7 arg9 arg10 x0 x1 x2 x3 x4).k
    = kOf x1 :=
  funext fun n => congrArg (fun X => View.ld X (kRect n)) (harg4.read_unread x1)

theorem insA_q : (insA arg3 harg3 arg4 harg4 arg5 harg5 arg6 harg6 arg7 harg7 arg9 arg10 x0 x1 x2 x3 x4).q
    = qOf x0 :=
  funext fun j => funext fun e => congrArg (fun X => View.ld X (qRect j e)) (harg3.read_unread x0)

theorem insA_v : (insA arg3 harg3 arg4 harg4 arg5 harg5 arg6 harg6 arg7 harg7 arg9 arg10 x0 x1 x2 x3 x4).v
    = vOf x2 :=
  funext fun n => congrArg (fun X => View.ld X (vRect n)) (harg5.read_unread x2)

theorem insA_kn : (insA arg3 harg3 arg4 harg4 arg5 harg5 arg6 harg6 arg7 harg7 arg9 arg10 x0 x1 x2 x3 x4).kn
    = kOf x4 0 :=
  congrArg (fun X => View.ld X (kRect 0)) (harg7.read_unread x4)

theorem insA_qn : (insA arg3 harg3 arg4 harg4 arg5 harg5 arg6 harg6 arg7 harg7 arg9 arg10 x0 x1 x2 x3 x4).qn
    = qOf x3 0 :=
  funext fun e => congrArg (fun X => View.ld X (qRect 0 e)) (harg6.read_unread x3)

end

end Cert.Flash

end
-- ==== Proof.Flash.Point.lean ====
/- What a grid point of the flash-attention kernel computes, as a function of its keys, queries and values alone: every
   block of scores that an update reads is the block that the body (at this point or at the one before) made of that
   update's own keys and queries. -/
module

public import proofs.«01_k».proof.Proof.Flash.Trace

@[expose] public section

noncomputable section

namespace Cert.Flash

open Cert.KernelIdeal Cert.KernelIdeal.Gen Idealize.ShloMosaic Idealize.ShloMosaic.Tactic

variable {F : FTy → Type} [FloatOps F]

/-! ## Reading a block back past stores of other heads -/

theorem sRect_disjoint (a b e f : ℕ) (h : f % 4 ≠ e % 4) :
    Disjoint (sRect a f).set (sRect b e).toLoadRect.set :=
  LoadRect.disjoint_of_separated (sRect a f).toLoadRect (sRect b e).toLoadRect (1 : Fin 4) (by
    show (1 = 0 ∨ f % 4 + 1 * (1 - 1) < e % 4) ∨ (1 = 0 ∨ e % 4 + 1 * (1 - 1) < f % 4)
    omega)

theorem mRect_disjoint (a b e f : ℕ) (h : f % 4 ≠ e % 4) :
    Disjoint (mRect a f).set (mRect b e).toLoadRect.set :=
  LoadRect.disjoint_of_separated (mRect a f).toLoadRect (mRect b e).toLoadRect (1 : Fin 4) (by
    show (1 = 0 ∨ f % 4 + 1 * (1 - 1) < e % 4) ∨ (1 = 0 ∨ e % 4 + 1 * (1 - 1) < f % 4)
    omega)

section

variable (vS : View sig .tc .vmem S2x4x512x256 .f32) (vM : View sig .tc .vmem S2x4x1x256 .f32)

theorem Ins.read_stS (I : Ins F) (n e : ℕ) (he : e < 4) : ∀ d, d < 4 →
    vS.readCov (I.stS (4 * n + e + 1 + d)) (sRect (n + 1) e).toLoadRect = payS (I.kk (4 * n + e)) (I.qq (4 * n + e))
  | 0, _ => by
    have h1 : (4 * n + e) / 4 = n := by omega
    have h2 : (4 * n + e) % 4 = e := by omega
    have h : I.stS (4 * n + e + 1 + 0)
        = ⟨sRect (n + 1) e, payS (I.kk (4 * n + e)) (I.qq (4 * n + e))⟩ :: I.stS (4 * n + e) := by
      show (⟨sRect ((4 * n + e) / 4 + 1) ((4 * n + e) % 4), _⟩ : View.Piece (Elt F) S2x4x512x256 .f32) :: _ = _
      rw [h1, h2]
    rw [h]
    exact View.readCov_cons_toLoadRect vS _ _ _
  | d + 1, hd => by
    rw [← Ins.read_stS I n e he d (by omega)]
    exact View.readCov_cons_of_disjoint vS _ _ _
      (sRect_disjoint _ _ _ _ (show (4 * n + e + 1 + d) % 4 % 4 ≠ e % 4 by omega))

theorem Ins.read_stM (I : Ins F) (n e : ℕ) (he : e < 4) : ∀ d, d < 4 →
    vM.readCov (I.stM (4 * n + e + 1 + d)) (mRect (n + 1) e).toLoadRect = payM (I.kk (4 * n + e)) (I.qq (4 * n + e))
  | 0, _ => by
    have h1 : (4 * n + e) / 4 = n := by omega
    have h2 : (4 * n + e) % 4 = e := by omega
    have h : I.stM (4 * n + e + 1 + 0)
        = ⟨mRect (n + 1) e, payM (I.kk (4 * n + e)) (I.qq (4 * n + e))⟩ :: I.stM (4 * n + e) := by
      show (⟨mRect ((4 * n + e) / 4 + 1) ((4 * n + e) % 4), _⟩ : View.Piece (Elt F) S2x4x1x256 .f32) :: _ = _
      rw [h1, h2]
    rw [h]
    exact View.readCov_cons_toLoadRect vM _ _ _
  | d + 1, hd => by
    rw [← Ins.read_stM I n e he d (by omega)]
    exact View.readCov_cons_of_disjoint vM _ _ _
      (mRect_disjoint _ _ _ _ (show (4 * n + e + 1 + d) % 4 % 4 ≠ e % 4 by omega))

/-- The first stores, of heads up to `e`, leave what was there for head `e`. -/
theorem Ins.read_stS_init (I : Ins F) (e : ℕ) (he : e < 4) : ∀ g, g ≤ e →
    vS.readCov (I.stS g) (sRect 0 e).toLoadRect = vS.readCov I.LS (sRect 0 e).toLoadRect
  | 0, _ => rfl
  | g + 1, hg => by
    rw [← Ins.read_stS_init I e he g (by omega)]
    exact View.readCov_cons_of_disjoint vS _ _ _ (sRect_disjoint _ _ _ _ (by omega))

theorem Ins.read_stM_init (I : Ins F) (e : ℕ) (he : e < 4) : ∀ g, g ≤ e →
    vM.readCov (I.stM g) (mRect 0 e).toLoadRect = vM.readCov I.LM (mRect 0 e).toLoadRect
  | 0, _ => rfl
  | g + 1, hg => by
    rw [← Ins.read_stM_init I e he g (by omega)]
    exact View.readCov_cons_of_disjoint vM _ _ _ (mRect_disjoint _ _ _ _ (by omega))

/-- What the first point stores before its updates, read back. -/
theorem read_stS0 (k : ℕ → Vec F S1x1x512x256 .fp8e4m3) (q : ℕ → ℕ → Vec F S1x1x256x256 .fp8e4m3) (e : ℕ) :
    ∀ n, n ≤ 4 → e < n → vS.readCov (stS0 k q n) (sRect 0 e).toLoadRect = payS (k 0) (q 0 e)
  | 0, _, h => absurd h (Nat.not_lt_zero _)
  | n + 1, hn, h => by
    by_cases hne : n = e
    · subst hne
      exact View.readCov_cons_toLoadRect vS _ _ _
    · rw [← read_stS0 k q e n (by omega) (by omega)]
      exact View.readCov_cons_of_disjoint vS _ _ _ (sRect_disjoint _ _ _ _ (by omega))

theorem read_stM0 (k : ℕ → Vec F S1x1x512x256 .fp8e4m3) (q : ℕ → ℕ → Vec F S1x1x256x256 .fp8e4m3) (e : ℕ) :
    ∀ n, n ≤ 4 → e < n → vM.readCov (stM0 k q n) (mRect 0 e).toLoadRect = payM (k 0) (q 0 e)
  | 0, _, h => absurd h (Nat.not_lt_zero _)
  | n + 1, hn, h => by
    by_cases hne : n = e
    · subst hne
      exact View.readCov_cons_toLoadRect vM _ _ _
    · rw [← read_stM0 k q e n (by omega) (by omega)]
      exact View.readCov_cons_of_disjoint vM _ _ _ (mRect_disjoint _ _ _ _ (by omega))

end

/-! ## The recursion of one head of one tile, over its keys, queries and values -/

/-- The running maximum after `c` chunks, -/
def pM (k : ℕ → Vec F S1x1x512x256 .fp8e4m3) (q : Vec F S1x1x256x256 .fp8e4m3) : ℕ → FVec F S1x256 .f32
  | 0 => m0
  | c + 1 => upM (pM k q c) (payM (k c) q)

/-- and the running sum. -/
def pA (k : ℕ → Vec F S1x1x512x256 .fp8e4m3) (q : Vec F S1x1x256x256 .fp8e4m3) (v : ℕ → Vec F S1x1x1x64x512 .bf16) :
    ℕ → FVec F S80x256 .f32
  | 0 => a0
  | c + 1 => upA (pM k q c) (pA k q v c) (payS (k c) q) (payM (k c) q) (v c)

/-- A tile of output. -/
def pO (k : ℕ → Vec F S1x1x512x256 .fp8e4m3) (q : ℕ → Vec F S1x1x256x256 .fp8e4m3) (v : ℕ → Vec F S1x1x1x64x512 .bf16) :
    FVec F S1x1x256x256 .bf16 :=
  payO (pA k (q 0) v 16) (pA k (q 1) v 16) (pA k (q 2) v 16) (pA k (q 3) v 16)

/-- The first chunk's scores and maxima, as found, are those of the point's own keys and queries; later ones are read
    back from the stores. -/
structure Ins.Good (I : Ins F) (vS : View sig .tc .vmem S2x4x512x256 .f32) (vM : View sig .tc .vmem S2x4x1x256 .f32) : Prop where
  s0 : ∀ e, e < 4 → I.rS (I.stS e) 0 e = payS (I.k 0) (I.q 0 e)
  m0 : ∀ e, e < 4 → I.rM (I.stM e) 0 e = payM (I.k 0) (I.q 0 e)
  s : ∀ L n e, I.rS L (n + 1) e = vS.readCov L (sRect (n + 1) e).toLoadRect
  m : ∀ L n e, I.rM L (n + 1) e = vM.readCov L (mRect (n + 1) e).toLoadRect
  k : ∀ c, c < 16 → I.k (16 + c) = I.k c

namespace Ins.Good

variable {I : Ins F} {vS : View sig .tc .vmem S2x4x512x256 .f32} {vM : View sig .tc .vmem S2x4x1x256 .f32}

theorem kq (G : I.Good vS vM) (j e c n : ℕ) (hj : j < 2) (he : e < 4) (hc : c < 16) (hn : 16 * j + c = n + 1) :
    I.kk (4 * n + e) = I.k c ∧ I.qq (4 * n + e) = I.q j e := by
  have h1 : (4 * n + e) / 4 + 1 = 16 * j + c := by omega
  have h2 : (4 * n + e) % 4 = e := by omega
  have h3 : Nat.beq (16 * j + c) 32 = false := by rw [← Bool.not_eq_true, Nat.beq_eq]; omega
  have h4 : (16 * j + c) / 16 = j := by omega
  unfold Ins.kk Ins.qq
  rw [h1, h2, h3, h4]
  refine ⟨?_, rfl⟩
  show I.k (16 * j + c) = I.k c
  obtain rfl | rfl : j = 0 ∨ j = 1 := by omega
  · rw [Nat.mul_zero, Nat.zero_add]
  · exact G.k c hc

theorem ldS (G : I.Good vS vM) (j e c : ℕ) (hj : j < 2) (he : e < 4) (hc : c < 16) :
    I.ldS e (16 * j + c) = payS (I.k c) (I.q j e) := by
  unfold Ins.ldS
  rcases hn : 16 * j + c with _ | n
  · obtain ⟨rfl, rfl⟩ : j = 0 ∧ c = 0 := by omega
    simpa using G.s0 e he
  · obtain ⟨h1, h2⟩ := G.kq j e c n hj he hc hn
    rw [G.s, show 4 * (n + 1) + e = 4 * n + e + 1 + 3 by omega, Ins.read_stS vS I n e he 3 (by omega), h1, h2]

theorem ldM (G : I.Good vS vM) (j e c : ℕ) (hj : j < 2) (he : e < 4) (hc : c < 16) :
    I.ldM e (16 * j + c) = payM (I.k c) (I.q j e) := by
  unfold Ins.ldM
  rcases hn : 16 * j + c with _ | n
  · obtain ⟨rfl, rfl⟩ : j = 0 ∧ c = 0 := by omega
    simpa using G.m0 e he
  · obtain ⟨h1, h2⟩ := G.kq j e c n hj he hc hn
    rw [G.m, show 4 * (n + 1) + e = 4 * n + e + 1 + 3 by omega, Ins.read_stM vM I n e he 3 (by omega), h1, h2]

theorem mx (G : I.Good vS vM) (j e : ℕ) (hj : j < 2) (he : e < 4) : ∀ c, c ≤ 16 → I.mx j e c = pM I.k (I.q j e) c
  | 0, _ => rfl
  | c + 1, hc => by
    show upM (I.mx j e c) (I.ldM e (16 * j + c)) = upM (pM I.k (I.q j e) c) _
    rw [mx G j e hj he c (by omega), G.ldM j e c hj he (by omega)]

theorem ac (G : I.Good vS vM) (j e : ℕ) (hj : j < 2) (he : e < 4) : ∀ c, c ≤ 16 → I.ac j e c = pA I.k (I.q j e) I.v c
  | 0, _ => rfl
  | c + 1, hc => by
    show upA (I.mx j e c) (I.ac j e c) (I.ldS e (16 * j + c)) (I.ldM e (16 * j + c)) (I.v c)
      = upA (pM I.k (I.q j e) c) (pA I.k (I.q j e) I.v c) _ _ _
    rw [G.mx j e hj he c (by omega), ac G j e hj he c (by omega), G.ldM j e c hj he (by omega), G.ldS j e c hj he (by omega)]

theorem out (G : I.Good vS vM) (j : ℕ) (hj : j < 2) : I.out j = pO I.k (I.q j) I.v := by
  unfold Ins.out pO
  rw [G.ac j 0 hj (by omega) 16 le_rfl, G.ac j 1 hj (by omega) 16 le_rfl, G.ac j 2 hj (by omega) 16 le_rfl,
    G.ac j 3 hj (by omega) 16 le_rfl]

end Ins.Good

/-- A block of the last four, as the point leaves it: of the next point's keys and queries. -/
theorem Ins.last_S (I : Ins F) (vS : View sig .tc .vmem S2x4x512x256 .f32) (e : ℕ) (he : e < 4) :
    vS.readCov (I.stS 128) (sRect 0 e).toLoadRect = payS I.kn (I.qn e) := by
  have h := Ins.read_stS vS I 31 e he (3 - e) (by omega)
  have h1 : (4 * 31 + e) / 4 + 1 = 32 := by omega
  have h2 : (4 * 31 + e) % 4 = e := by omega
  rw [show 4 * 31 + e + 1 + (3 - e) = 128 by omega] at h
  unfold Ins.kk Ins.qq at h
  rw [h1, h2] at h
  exact h

theorem Ins.last_M (I : Ins F) (vM : View sig .tc .vmem S2x4x1x256 .f32) (e : ℕ) (he : e < 4) :
    vM.readCov (I.stM 128) (mRect 0 e).toLoadRect = payM I.kn (I.qn e) := by
  have h := Ins.read_stM vM I 31 e he (3 - e) (by omega)
  have h1 : (4 * 31 + e) / 4 + 1 = 32 := by omega
  have h2 : (4 * 31 + e) % 4 = e := by omega
  rw [show 4 * 31 + e + 1 + (3 - e) = 128 by omega] at h
  unfold Ins.kk Ins.qq at h
  rw [h1, h2] at h
  exact h

/-! ## The points of the grid -/

theorem kOf_add (x1 : Vec F S1x1x8192x256 .fp8e4m3) (c : ℕ) : kOf x1 (16 + c) = kOf x1 c := by
  funext y
  show x1 ((kRect (16 + c)).idx y) = x1 ((kRect c).idx y)
  congr 1
  funext a
  apply Fin.ext
  show ![0, 0, 512 * ((16 + c) % 16), 0] a + 1 * (y a).val = ![0, 0, 512 * (c % 16), 0] a + 1 * (y a).val
  rw [show (16 + c) % 16 = c % 16 by omega]

theorem sOf_canon (v : View sig .tc .vmem S2x4x512x256 .f32) (L : List (View.Piece (Elt F) S2x4x512x256 .f32)) (e : ℕ) :
    sOf (View.canon L) e = v.readCov L (sRect 0 e).toLoadRect := (View.readCov_eq_canon' v L (sRect 0 e).toLoadRect).symm

theorem mOf_canon (v : View sig .tc .vmem S2x4x1x256 .f32) (L : List (View.Piece (Elt F) S2x4x1x256 .f32)) (e : ℕ) :
    mOf (View.canon L) e = v.readCov L (mRect 0 e).toLoadRect := (View.readCov_eq_canon' v L (mRect 0 e).toLoadRect).symm

section

variable (arg3 : Memref sig .tc .vmem S1x4x256x512 .fp8e4m3) (harg3 : arg3.IsWhole)
  (arg4 : Memref sig .tc .vmem S1x1x8192x256 .fp8e4m3) (harg4 : arg4.IsWhole)
  (arg5 : Memref sig .tc .vmem S1x1x16x64x512 .bf16) (harg5 : arg5.IsWhole)
  (arg6 : Memref sig .tc .vmem S1x4x256x512 .fp8e4m3) (harg6 : arg6.IsWhole)
  (arg7 : Memref sig .tc .vmem S1x1x8192x256 .fp8e4m3) (harg7 : arg7.IsWhole)
  (arg9 : Memref sig .tc .vmem S2x4x512x256 .f32) (harg9 : arg9.IsWhole)
  (arg10 : Memref sig .tc .vmem S2x4x1x256 .f32) (harg10 : arg10.IsWhole)
  (x0 : Vec F S1x4x256x512 .fp8e4m3) (x1 : Vec F S1x1x8192x256 .fp8e4m3) (x2 : Vec F S1x1x16x64x512 .bf16)
  (x3 : Vec F S1x4x256x512 .fp8e4m3) (x4 : Vec F S1x1x8192x256 .fp8e4m3)
  (xs0 : Vec F S2x4x512x256 .f32) (xs1 : Vec F S2x4x1x256 .f32)

theorem insA_LS : (insA arg3 harg3 arg4 harg4 arg5 harg5 arg6 harg6 arg7 harg7 arg9 arg10 x0 x1 x2 x3 x4).LS
    = stS0 (insA arg3 harg3 arg4 harg4 arg5 harg5 arg6 harg6 arg7 harg7 arg9 arg10 x0 x1 x2 x3 x4).k
      (insA arg3 harg3 arg4 harg4 arg5 harg5 arg6 harg6 arg7 harg7 arg9 arg10 x0 x1 x2 x3 x4).q 4 := rfl

theorem insA_LM : (insA arg3 harg3 arg4 harg4 arg5 harg5 arg6 harg6 arg7 harg7 arg9 arg10 x0 x1 x2 x3 x4).LM
    = stM0 (insA arg3 harg3 arg4 harg4 arg5 harg5 arg6 harg6 arg7 harg7 arg9 arg10 x0 x1 x2 x3 x4).k
      (insA arg3 harg3 arg4 harg4 arg5 harg5 arg6 harg6 arg7 harg7 arg9 arg10 x0 x1 x2 x3 x4).q 4 := rfl

theorem insA_rS (L : List (View.Piece (Elt F) S2x4x512x256 .f32)) (n e : ℕ) :
    (insA arg3 harg3 arg4 harg4 arg5 harg5 arg6 harg6 arg7 harg7 arg9 arg10 x0 x1 x2 x3 x4).rS L n e
      = arg9.view.readCov L (sRect n e).toLoadRect := rfl

theorem insA_rM (L : List (View.Piece (Elt F) S2x4x1x256 .f32)) (n e : ℕ) :
    (insA arg3 harg3 arg4 harg4 arg5 harg5 arg6 harg6 arg7 harg7 arg9 arg10 x0 x1 x2 x3 x4).rM L n e
      = arg10.view.readCov L (mRect n e).toLoadRect := rfl

theorem insA_good : (insA arg3 harg3 arg4 harg4 arg5 harg5 arg6 harg6 arg7 harg7 arg9 arg10 x0 x1 x2 x3 x4).Good
    arg9.view arg10.view where
  s0 e he := by
    rw [insA_rS, Ins.read_stS_init arg9.view _ e he e le_rfl, insA_LS]
    exact read_stS0 arg9.view _ _ e 4 le_rfl he
  m0 e he := by
    rw [insA_rM, Ins.read_stM_init arg10.view _ e he e le_rfl, insA_LM]
    exact read_stM0 arg10.view _ _ e 4 le_rfl he
  s _ _ _ := insA_rS ..
  m _ _ _ := insA_rM ..
  k c _ := by rw [insA_k, kOf_add]

theorem insB_good (hS : ∀ e, e < 4 → sOf xs0 e = payS (kOf x1 0) (qOf x0 0 e))
    (hM : ∀ e, e < 4 → mOf xs1 e = payM (kOf x1 0) (qOf x0 0 e)) :
    (insB arg3 harg3 arg4 harg4 arg5 harg5 arg6 harg6 arg7 harg7 arg9 harg9 arg10 harg10 x0 x1 x2 x3 x4 xs0 xs1).Good
    arg9.view arg10.view where
  s0 e he := by rw [insB_s0, insB_k, insB_q, hS e he]
  m0 e he := by rw [insB_m0, insB_k, insB_q, hM e he]
  s _ _ _ := rfl
  m _ _ _ := rfl
  k c _ := by rw [insB_k, kOf_add]

end

/-- The output block of a point over its windows. -/
def blockOut (x0 : Vec F S1x4x256x512 .fp8e4m3) (x1 : Vec F S1x1x8192x256 .fp8e4m3) (x2 : Vec F S1x1x16x64x512 .bf16) :
    Vec F S1x1x512x256 .bf16 :=
  View.canon [⟨oRect 1, pO (kOf x1) (qOf x0 1) (vOf x2)⟩, ⟨oRect 0, pO (kOf x1) (qOf x0 0) (vOf x2)⟩]

variable (m : (ℓ : Loc nD τ sig) → Buf (Elt F) ℓ)

/-- The first chunk's scores and maxima that a point leaves: of its look-ahead windows. -/
theorem left_S (c : Dev nD) (t : Fin cfg0.N) (e : ℕ) (he : e < 4) :
    sOf (outsAt0 m c t.val t.isLt).2.1 e = payS (kOf (iblk m c 4 t) 0) (qOf (iblk m c 3 t) 0 e) := by
  by_cases h0 : t.val % 256 = 0
  · rw [outsAt0_A m c t h0]
    dsimp only
    rw [left_S_A]
    rw [sOf_canon VS0_0, Ins.last_S _ _ e he, insA_kn, insA_qn]
  · rw [outsAt0_B m c t h0]
    dsimp only
    rw [left_S_B]
    rw [sOf_canon VS0_0, Ins.last_S _ _ e he, insB_kn, insB_qn]

theorem left_M (c : Dev nD) (t : Fin cfg0.N) (e : ℕ) (he : e < 4) :
    mOf (outsAt0 m c t.val t.isLt).2.2 e = payM (kOf (iblk m c 4 t) 0) (qOf (iblk m c 3 t) 0 e) := by
  by_cases h0 : t.val % 256 = 0
  · rw [outsAt0_A m c t h0]
    dsimp only
    rw [left_M_A]
    rw [mOf_canon VS0_1, Ins.last_M _ _ e he, insA_kn, insA_qn]
  · rw [outsAt0_B m c t h0]
    dsimp only
    rw [left_M_B]
    rw [mOf_canon VS0_1, Ins.last_M _ _ e he, insB_kn, insB_qn]

theorem index_next_q : ∀ t : Fin grid0.N, ∀ h : t.val + 1 < grid0.N, win0_3.index t = win0_0.index ⟨t.val + 1, h⟩ := by
  decide +kernel

theorem index_next_k : ∀ t : Fin grid0.N, ∀ h : t.val + 1 < grid0.N, win0_4.index t = win0_1.index ⟨t.val + 1, h⟩ := by
  decide +kernel

/-- The next point's queries and keys are what the windows that look ahead show. -/
theorem next_q (c : Dev nD) (t : Fin cfg0.N) (h : t.val + 1 < cfg0.N) :
    (iblk m c 3 t : Vec F S1x4x256x512 .fp8e4m3) = iblk m c 0 ⟨t.val + 1, h⟩ := by
  funext y
  show V m c main_v13 (((cfg0.win 3).blk t).view.emb y) = V m c main_v13 (((cfg0.win 0).blk ⟨t.val + 1, h⟩).view.emb y)
  congr 1
  funext a
  apply Fin.ext
  show win0_3.index t a * S1x4x256x512.size a + 1 * (y a).val
    = win0_0.index ⟨t.val + 1, h⟩ a * S1x4x256x512.size a + 1 * (y a).val
  rw [index_next_q t h]

theorem next_k (c : Dev nD) (t : Fin cfg0.N) (h : t.val + 1 < cfg0.N) :
    (iblk m c 4 t : Vec F S1x1x8192x256 .fp8e4m3) = iblk m c 1 ⟨t.val + 1, h⟩ := by
  funext y
  show V m c main_v14 (((cfg0.win 4).blk t).view.emb y) = V m c main_v14 (((cfg0.win 1).blk ⟨t.val + 1, h⟩).view.emb y)
  congr 1
  funext a
  apply Fin.ext
  show win0_4.index t a * S1x1x8192x256.size a + 1 * (y a).val
    = win0_1.index ⟨t.val + 1, h⟩ a * S1x1x8192x256.size a + 1 * (y a).val
  rw [index_next_k t h]

/-- What a point leaves in its output block. -/
theorem left_O (c : Dev nD) (t : Fin cfg0.N) :
    (outsAt0 m c t.val t.isLt).1 = blockOut (iblk m c 0 t) (iblk m c 1 t) (iblk m c 2 t) := by
  by_cases h0 : t.val % 256 = 0
  · rw [outsAt0_A m c t h0]
    dsimp only
    rw [left_O_A]
    have G := insA_good (ms0_0 t) (hs0_0 t) (ms0_1 t) (hs0_1 t) (ms0_2 t) (hs0_2 t) (ms0_3 t) (hs0_3 t) (ms0_4 t)
      (hs0_4 t) scM0_0 scM0_1 (iblk m c 0 t) (iblk m c 1 t) (iblk m c 2 t) (iblk m c 3 t) (iblk m c 4 t)
    unfold Ins.stO blockOut
    rw [G.out 1 (by omega), G.out 0 (by omega), insA_k, insA_q, insA_v]
  · rw [outsAt0_B m c t h0]
    dsimp only
    rw [left_O_B]
    have ht : t.val - 1 + 1 = t.val := by omega
    have hlt : t.val - 1 < cfg0.N := Nat.lt_of_le_of_lt (Nat.sub_le _ _) t.isLt
    have htt : (⟨t.val - 1 + 1, by rw [ht]; exact t.isLt⟩ : Fin cfg0.N) = t := Fin.ext ht
    have hS := left_S m c ⟨t.val - 1, hlt⟩
    have hM := left_M m c ⟨t.val - 1, hlt⟩
    rw [next_q m c ⟨t.val - 1, hlt⟩ (by rw [ht]; exact t.isLt), next_k m c ⟨t.val - 1, hlt⟩ (by rw [ht]; exact t.isLt),
      htt] at hS hM
    dsimp only at hS hM
    generalize (outsAt0 m c (t.val - 1) hlt).2.1 = xs at hS ⊢
    generalize (outsAt0 m c (t.val - 1) hlt).2.2 = xm at hM ⊢
    have hw0 : scM0_0.IsWhole := Memref.isWhole_whole _
    have hw1 : scM0_1.IsWhole := Memref.isWhole_whole _
    have G := insB_good (ms0_0 t) (hs0_0 t) (ms0_1 t) (hs0_1 t) (ms0_2 t) (hs0_2 t) (ms0_3 t) (hs0_3 t) (ms0_4 t)
      (hs0_4 t) scM0_0 hw0 scM0_1 hw1 (iblk m c 0 t) (iblk m c 1 t) (iblk m c 2 t) (iblk m c 3 t) (iblk m c 4 t) xs xm hS hM
    unfold Ins.stO blockOut
    rw [G.out 1 (by omega), G.out 0 (by omega), insB_k, insB_q, insB_v]

end Cert.Flash

end
-- ==== Proof.Flash.Softmax.lean ====
/- The mathematics of the online softmax, over the extended reals. A running maximum `M` and a running sum `A` are taken
   over chunks of real scores; each chunk rescales the sum by the maximum's change. At the end the sum, divided by the one
   made with all values one, is the softmax-weighted sum of the values. The values may be infinite. -/
module

public import Idealize.ShloMosaic.PureOps.Ideal
public import Idealize.ShloMosaic.Lib.Pipeline.ValueKit.Acc
public import Mathlib.Analysis.SpecialFunctions.Pow.Real

@[expose] public section

noncomputable section

namespace Cert.Flash

open Idealize.ShloMosaic Finset

/-! ## Sums of extended reals and real coefficients -/

/-- A nonnegative real factor goes inside a sum, whatever the terms. -/
theorem coe_mul_sum {ι : Type*} (S : Finset ι) (f : ι → EReal) (c : ℝ) (hc : 0 ≤ c) :
    (c : EReal) * ∑ i ∈ S, f i = ∑ i ∈ S, (c : EReal) * f i := by
  classical
  induction S using Finset.induction_on with
  | empty => simp
  | insert i S hi ih =>
    rw [sum_insert hi, sum_insert hi, ← ih]
    exact EReal.left_distrib_of_nonneg_of_ne_top (EReal.coe_nonneg.mpr hc) (EReal.coe_ne_top c) _ _

theorem coe_sum {ι : Type*} (S : Finset ι) (f : ι → ℝ) : ((∑ i ∈ S, f i : ℝ) : EReal) = ∑ i ∈ S, (f i : EReal) := by
  classical
  induction S using Finset.induction_on with
  | empty => simp
  | insert i S hi ih => rw [sum_insert hi, sum_insert hi, EReal.coe_add, ih]

/-- The maximum of finitely many reals, from a start that is a real or `⊥`. -/
theorem fold_max_coe {ι : Type*} (S : Finset ι) (f : ι → ℝ) (hS : S.Nonempty) :
    ∃ μ : ℝ, S.fold max (⊥ : EReal) (fun i => (f i : EReal)) = μ := by
  classical
  induction hS using Finset.Nonempty.cons_induction with
  | singleton a => exact ⟨f a, by simp⟩
  | cons a S ha hS ih =>
    obtain ⟨μ, h⟩ := ih
    exact ⟨max (f a) μ, by rw [Finset.cons_eq_insert, fold_insert ha, h]; exact (EReal.coe_strictMono.monotone.map_max).symm⟩

theorem exp2_sub (a b : ℝ) : Ideal.exp2 ((a : EReal) - b) = ((2 : ℝ) ^ (a - b) : ℝ) := by
  rw [← EReal.coe_sub, Ideal.exp2_coe]; rfl

/-! ## The recursion -/

/-- The running maximum and the running sum, as recursions over chunks of 512 scores. -/
structure Online (s : ℕ → Fin 512 → ℝ) (v : ℕ → Fin 512 → EReal) (M A : ℕ → EReal) : Prop where
  m0 : M 0 = ⊥
  a0 : A 0 = 0
  m : ∀ c, M (c + 1) = max (M c) (univ.fold max ⊥ fun r => (s c r : EReal))
  a : ∀ c, A (c + 1) = Ideal.exp2 (M c - M (c + 1)) * A c + ∑ r, v c r * Ideal.exp2 ((s c r : EReal) - M (c + 1))

namespace Online

variable {s : ℕ → Fin 512 → ℝ} {v : ℕ → Fin 512 → EReal} {M A : ℕ → EReal}

theorem max_coe (h : Online s v M A) : ∀ c, ∃ μ : ℝ, M (c + 1) = μ
  | 0 => by
    obtain ⟨μ, hμ⟩ := fold_max_coe univ (s 0) univ_nonempty
    exact ⟨μ, by rw [h.m, h.m0, hμ]; exact max_eq_right bot_le⟩
  | c + 1 => by
    obtain ⟨μ, hμ⟩ := fold_max_coe univ (s (c + 1)) univ_nonempty
    obtain ⟨ν, hν⟩ := h.max_coe c
    exact ⟨max ν μ, by rw [h.m, hν, hμ]; exact (EReal.coe_strictMono.monotone.map_max).symm⟩

/-- The sum after any number of chunks: every value against its own power of two, relative to the maximum. -/
theorem sum_eq (h : Online s v M A) : ∀ (c : ℕ) (μ : ℝ), M (c + 1) = μ →
    A (c + 1) = ∑ i ∈ range (c + 1), ∑ r, v i r * (((2 : ℝ) ^ (s i r - μ) : ℝ) : EReal)
  | 0, μ, hμ => by
    rw [h.a, h.a0, mul_zero, zero_add, hμ, range_one, sum_singleton]
    exact sum_congr rfl fun r _ => by rw [exp2_sub]
  | c + 1, μ, hμ => by
    obtain ⟨ν, hν⟩ := h.max_coe c
    rw [h.a, h.sum_eq c ν hν, hμ, hν, exp2_sub, sum_range_succ _ (c + 1), coe_mul_sum _ _ _ (by positivity)]
    refine congrArg₂ (· + ·) (sum_congr rfl fun i _ => ?_) (sum_congr rfl fun r _ => by rw [exp2_sub])
    rw [coe_mul_sum _ _ _ (by positivity)]
    refine sum_congr rfl fun r _ => ?_
    rw [mul_left_comm, ← EReal.coe_mul, ← Real.rpow_add two_pos]
    rw [show ν - μ + (s i r - ν) = s i r - μ by ring]

end Online

/-! ## The weights -/

/-- The softmax weight of key `k`. -/
def weight (x : Fin 8192 → ℝ) (k : Fin 8192) : ℝ := Real.exp (x k) / ∑ j, Real.exp (x j)

theorem sum_exp_pos (x : Fin 8192 → ℝ) : 0 < ∑ j, Real.exp (x j) :=
  sum_pos (fun _ _ => Real.exp_pos _) univ_nonempty

/-- Row `r` of chunk `c` is this key. -/
def key (c : ℕ) (r : Fin 512) : Fin 8192 := ⟨512 * (c % 16) + r.val, by have := r.isLt; omega⟩

theorem sum_keys {M : Type*} [AddCommMonoid M] (f : Fin 8192 → M) :
    ∑ i ∈ range 16, ∑ r, f (key i r) = ∑ k, f k := by
  rw [← Fin.sum_mul_add_fin 16 512 f (by rfl), ← Fin.sum_univ_eq_sum_range (fun i => ∑ r, f (key i r)) 16]
  refine sum_congr rfl fun i _ => sum_congr rfl fun r _ => congrArg f (Fin.ext ?_)
  show 512 * (i.val % 16) + r.val = i.val * 512 + r.val
  have := i.isLt
  omega

/-- The two running sums' quotient is the weighted sum of the values. -/
theorem online_softmax {x : Fin 8192 → ℝ} {w : Fin 8192 → EReal} {M A A1 : ℕ → EReal}
    (h : Online (fun c r => x (key c r) / Real.log 2) (fun c r => w (key c r)) M A)
    (h1 : Online (fun c r => x (key c r) / Real.log 2) (fun _ _ => 1) M A1) :
    Ideal.div (A 16) (A1 16) = ∑ k, w k * (weight x k : EReal) := by
  obtain ⟨μ, hμ⟩ := h.max_coe 15
  have hlog : Real.log 2 ≠ 0 := (Real.log_pos one_lt_two).ne'
  have hp : ∀ k, (2 : ℝ) ^ (x k / Real.log 2 - μ) = Real.exp (x k) * Real.exp (-(Real.log 2 * μ)) := fun k => by
    rw [Real.rpow_def_of_pos two_pos, ← Real.exp_add]
    congr 1
    field_simp
    ring
  have hZ : 0 < ∑ j, (2 : ℝ) ^ (x j / Real.log 2 - μ) := sum_pos (fun _ _ => by positivity) univ_nonempty
  rw [h.sum_eq 15 μ hμ, h1.sum_eq 15 μ hμ,
    sum_keys (fun k => w k * (((2 : ℝ) ^ (x k / Real.log 2 - μ) : ℝ) : EReal)),
    sum_keys (fun k => 1 * (((2 : ℝ) ^ (x k / Real.log 2 - μ) : ℝ) : EReal))]
  simp only [one_mul]
  rw [← coe_sum, Ideal.div_coe hZ.ne', mul_comm, coe_mul_sum _ _ _ (by positivity)]
  refine sum_congr rfl fun k _ => ?_
  rw [mul_left_comm, ← EReal.coe_mul]
  congr 2
  simp only [hp, weight]
  rw [← sum_mul]
  have h1 := Real.exp_pos (-(Real.log 2 * μ))
  have h2 := sum_exp_pos x
  field_simp

/-- The textbook softmax: scores less their maximum, exponentials over their sum. -/
theorem plain_softmax (x : Fin 8192 → ℝ) (w : Fin 8192 → EReal) (μ : ℝ) :
    ∑ k, w k * Ideal.div (Ideal.exp ((x k : EReal) - μ)) (∑ j, Ideal.exp ((x j : EReal) - μ))
      = ∑ k, w k * (weight x k : EReal) := by
  have he : ∀ k, Ideal.exp ((x k : EReal) - μ) = (Real.exp (x k - μ) : ℝ) := fun k => by
    rw [← EReal.coe_sub, Ideal.exp_coe]
  have hZ : 0 < ∑ j, Real.exp (x j - μ) := sum_pos (fun _ _ => Real.exp_pos _) univ_nonempty
  simp only [he]
  refine sum_congr rfl fun k _ => ?_
  rw [← coe_sum, Ideal.div_coe hZ.ne', ← EReal.coe_mul]
  congr 2
  simp only [Real.exp_sub, weight]
  rw [← sum_div]
  have h1 := Real.exp_pos μ
  have h2 := sum_exp_pos x
  field_simp

end Cert.Flash

end
-- ==== Proof.Flash.Rows.lean ====
/- One column of a tile — one query of one head — of the flash-attention kernel's recursion, at the ideal instance: the
   running maximum and the running sums are those of the online softmax, and the tile's output is their quotient. -/
module

public import proofs.«01_k».proof.Proof.Flash.Point
public import proofs.«01_k».proof.Proof.Flash.Softmax
public import Idealize.ShloMosaic.Lib.Pointwise

@[expose] public section

noncomputable section

namespace Cert.Flash

open Cert.KernelIdeal Cert.KernelIdeal.Gen Idealize.ShloMosaic Idealize.ShloMosaic.Tactic Finset

theorem ofBits_neg_inf : Ideal.ofBits .f32 0xFF800000#32 = ⊥ := by simp [Ideal.ofBits, Ideal.ieee]

/-- A score: key row `r` by query lane `l`, over the 256 stacked parts. -/
def dotP (k : Vec Ideal S1x1x512x256 .fp8e4m3) (q : Vec Ideal S1x1x256x256 .fp8e4m3) (r : Fin 512) (l : Fin 256) : EReal :=
  ∑ x : Fin 256, k (ix4 0 0 r x) * q (ix4 0 0 x l)

theorem score_at (k : Vec Ideal S1x1x512x256 .fp8e4m3) (q : Vec Ideal S1x1x256x256 .fp8e4m3) (r : Fin 512) (l : Fin 256) :
    score k q (ix2 r l) = dotP k q r l := by
  unfold dotP
  pointwise [score]

theorem payS_at (k : Vec Ideal S1x1x512x256 .fp8e4m3) (q : Vec Ideal S1x1x256x256 .fp8e4m3) (r : Fin 512) (l : Fin 256) :
    payS k q (ix4 0 0 r l) = dotP k q r l := by
  unfold dotP
  pointwise [payS, score]

theorem payM_at (k : Vec Ideal S1x1x512x256 .fp8e4m3) (q : Vec Ideal S1x1x256x256 .fp8e4m3) (l : Fin 256) :
    payM k q (ix4 0 0 0 l) = univ.fold max ⊥ fun r => dotP k q r l := by
  pointwise [payM]
  rw [ofBits_neg_inf]
  simp only [score_at]

theorem upM_at (m : FVec Ideal S1x256 .f32) (cm : Vec Ideal S1x1x1x256 .f32) (l : Fin 256) :
    upM m cm (ix2 0 l) = max (m (ix2 0 l)) (cm (ix4 0 0 0 l)) := by
  pointwise [upM]

/-- Row `d` of the values of a chunk, below which stand rows of ones. -/
def valR (v : Vec Ideal S1x1x1x64x512 .bf16) (d : Fin 80) (r : Fin 512) : EReal :=
  if h : d.val < 64 then v (ix5 0 0 0 ⟨d.val, h⟩ r) else 1

theorem upA_at (m : FVec Ideal S1x256 .f32) (a : FVec Ideal S80x256 .f32) (s : Vec Ideal S1x1x512x256 .f32)
    (cm : Vec Ideal S1x1x1x256 .f32) (v : Vec Ideal S1x1x1x64x512 .bf16) (d : Fin 80) (l : Fin 256) :
    upA m a s cm v (ix2 d l) = Ideal.exp2 (m (ix2 0 l) - upM m cm (ix2 0 l)) * a (ix2 d l)
      + ∑ r, valR v d r * Ideal.exp2 (s (ix4 0 0 r l) - upM m cm (ix2 0 l)) := by
  unfold valR
  pointwise [upA, ones]
  rfl

/-- A column's recursion is the online softmax's. -/
theorem online (k : ℕ → Vec Ideal S1x1x512x256 .fp8e4m3) (q : Vec Ideal S1x1x256x256 .fp8e4m3)
    (v : ℕ → Vec Ideal S1x1x1x64x512 .bf16) (s : ℕ → Fin 512 → ℝ) (l : Fin 256) (d : Fin 80)
    (hs : ∀ c r, dotP (k c) q r l = s c r) :
    Online s (fun c r => valR (v c) d r) (fun c => pM k q c (ix2 0 l)) (fun c => pA k q v c (ix2 d l)) where
  m0 := by
    show m0 (ix2 0 l) = ⊥
    pointwise [m0]
    exact ofBits_neg_inf
  a0 := by
    show a0 (ix2 d l) = 0
    pointwise [a0]
  m n := by
    show upM (pM k q n) (payM (k n) q) (ix2 0 l) = _
    rw [upM_at, payM_at]
    simp only [hs]
  a n := by
    show upA (pM k q n) (pA k q v n) (payS (k n) q) (payM (k n) q) (v n) (ix2 d l) = _
    rw [upA_at]
    simp only [payS_at, hs]
    rfl

/-- A tile's output at a query and a lane: lane `h` is lane `h % 64` of head `h / 64`. -/
theorem payO_at (a : ℕ → FVec Ideal S80x256 .f32) (l h : Fin 256) :
    payO (a 0) (a 1) (a 2) (a 3) (ix4 0 0 l h)
      = Ideal.div (a (h.val / 64) (ix2 ⟨h.val % 64, by omega⟩ l)) (a (h.val / 64) (ix2 64 l)) := by
  have key : ∀ (e : ℕ) (d : Fin 80), h.val / 64 = e → d.val = h.val % 64 →
      Ideal.div (a e (ix2 d l)) (a e (ix2 64 l))
        = Ideal.div (a (h.val / 64) (ix2 ⟨h.val % 64, by omega⟩ l)) (a (h.val / 64) (ix2 64 l)) := by
    rintro e d rfl hd
    rw [show d = ⟨h.val % 64, by omega⟩ from Fin.ext hd]
  pointwise [payO, quot]
  split_ifs <;> first
    | exact key 0 _ (by omega) (by show h.val = _; omega)
    | exact key 1 _ (by omega) (by show h.val - 64 = _; omega)
    | exact key 2 _ (by omega) (by show h.val - 64 - 64 = _; omega)
    | exact key 3 _ (by omega) (by show h.val - 64 - 64 - 64 = _; omega)

/-- The output of a tile, from real scores: the softmax-weighted sum of the values. -/
theorem pO_at (k : ℕ → Vec Ideal S1x1x512x256 .fp8e4m3) (q : ℕ → Vec Ideal S1x1x256x256 .fp8e4m3)
    (v : ℕ → Vec Ideal S1x1x1x64x512 .bf16) (x : Fin 8192 → ℝ) (w : Fin 8192 → EReal) (l h : Fin 256)
    (hs : ∀ c r, dotP (k c) (q (h.val / 64)) r l = ((x (key c r) / Real.log 2 : ℝ) : EReal))
    (hw : ∀ c r, v c (ix5 0 0 0 ⟨h.val % 64, Nat.mod_lt _ (by decide)⟩ r) = w (key c r)) :
    pO k q v (ix4 0 0 l h) = ∑ j, w j * (weight x j : EReal) := by
  refine (payO_at (fun e => pA k (q e) v 16) l h).trans ?_
  have h1 := online k (q (h.val / 64)) v _ l ⟨h.val % 64, by omega⟩ hs
  have h2 := online k (q (h.val / 64)) v _ l 64 hs
  have e1 : (fun c r => valR (v c) ⟨h.val % 64, by omega⟩ r) = fun c r => w (key c r) :=
    funext fun c => funext fun r => (dif_pos (Nat.mod_lt _ (by decide))).trans (hw c r)
  have e2 : (fun c r => valR (v c) 64 r) = fun _ _ => 1 := by
    funext c r
    exact dif_neg (by decide)
  rw [e1] at h1
  rw [e2] at h2
  have h3 := online_softmax h1 h2
  rw [← h3]

end Cert.Flash

end
-- ==== Proof.Flash.Blocks.lean ====
/- What the flash-attention kernel's windows hold at a grid point, in terms of the arguments. -/
module

public import proofs.«01_k».proof.Proof.Flash.Rows
public import Idealize.ShloMosaic.Lib.Pointwise

@[expose] public section

noncomputable section

namespace Cert.Flash

open Cert.KernelIdeal Cert.KernelIdeal.Gen Idealize.ShloMosaic Idealize.ShloMosaic.Tactic

variable (m : (ℓ : Loc nD τ sig) → Buf (Elt Ideal) ℓ) (c : Dev nD)

/-! ## The windows' blocks -/

theorem idx0 : ∀ t : Fin cfg0.N, win0_0.index t (0 : Fin 4) = t.val / 64 ∧ win0_0.index t (1 : Fin 4) = t.val / 16 % 4
    ∧ win0_0.index t (2 : Fin 4) = 0 ∧ win0_0.index t (3 : Fin 4) = t.val % 16 :=
  (by decide +kernel : ∀ t : Fin grid0.N, _)

theorem idx1 : ∀ t : Fin cfg0.N, win0_1.index t (0 : Fin 4) = t.val / 64 ∧ win0_1.index t (1 : Fin 4) = t.val / 16 % 4
    ∧ win0_1.index t (2 : Fin 4) = 0 ∧ win0_1.index t (3 : Fin 4) = 0 :=
  (by decide +kernel : ∀ t : Fin grid0.N, _)

theorem idx2 : ∀ t : Fin cfg0.N, win0_2.index t (0 : Fin 5) = t.val / 64 ∧ win0_2.index t (1 : Fin 5) = t.val / 16 % 4
    ∧ win0_2.index t (2 : Fin 5) = 0 ∧ win0_2.index t (3 : Fin 5) = 0 ∧ win0_2.index t (4 : Fin 5) = 0 :=
  (by decide +kernel : ∀ t : Fin grid0.N, _)

theorem pt_lt (t : Fin cfg0.N) : t.val < 256 := lt_of_lt_of_eq t.isLt N_0

/-- The point's batch, -/
def bOf (t : Fin cfg0.N) : Fin 4 := ⟨t.val / 64, by have := pt_lt t; omega⟩
/-- its key head, -/
def gOf (t : Fin cfg0.N) : Fin 4 := ⟨t.val / 16 % 4, by omega⟩

set_option maxRecDepth 8000 in
theorem iblk0 (t : Fin cfg0.N) (e : Fin 4) (x : Fin 256) (l : Fin 512) :
    (iblk m c 0 t : Vec Ideal S1x4x256x512 .fp8e4m3) (ix4 0 e x l)
      = V m c main_v13 (ix4 (bOf t) ⟨4 * (gOf t).val + e.val, by have := (gOf t).isLt; omega⟩ x
          ⟨512 * (t.val % 16) + l.val, by omega⟩) := by
  obtain ⟨h0, h1, h2, h3⟩ := idx0 t
  unfold iblk
  rw [View.read_apply]
  show V m c main_v13 _ = _
  congr 1
  funext a
  apply Fin.ext
  match a with
  | ⟨0, _⟩ => show win0_0.index t 0 * 1 + 1 * 0 = t.val / 64; rw [h0]; omega
  | ⟨1, _⟩ => show win0_0.index t 1 * 4 + 1 * e.val = 4 * (t.val / 16 % 4) + e.val; rw [h1]; omega
  | ⟨2, _⟩ => show win0_0.index t 2 * 256 + 1 * x.val = x.val; rw [h2]; omega
  | ⟨3, _⟩ => show win0_0.index t 3 * 512 + 1 * l.val = 512 * (t.val % 16) + l.val; rw [h3]; omega

set_option maxRecDepth 8000 in
theorem iblk1 (t : Fin cfg0.N) (r : Fin 8192) (x : Fin 256) :
    (iblk m c 1 t : Vec Ideal S1x1x8192x256 .fp8e4m3) (ix4 0 0 r x) = V m c main_v14 (ix4 (bOf t) (gOf t) r x) := by
  obtain ⟨h0, h1, h2, h3⟩ := idx1 t
  unfold iblk
  rw [View.read_apply]
  show V m c main_v14 _ = _
  congr 1
  funext a
  apply Fin.ext
  match a with
  | ⟨0, _⟩ => show win0_1.index t 0 * 1 + 1 * 0 = t.val / 64; rw [h0]; omega
  | ⟨1, _⟩ => show win0_1.index t 1 * 1 + 1 * 0 = t.val / 16 % 4; rw [h1]; omega
  | ⟨2, _⟩ => show win0_1.index t 2 * 8192 + 1 * r.val = r.val; rw [h2]; omega
  | ⟨3, _⟩ => show win0_1.index t 3 * 256 + 1 * x.val = x.val; rw [h3]; omega

set_option maxRecDepth 8000 in
theorem iblk2 (t : Fin cfg0.N) (n : Fin 16) (d : Fin 64) (r : Fin 512) :
    (iblk m c 2 t : Vec Ideal S1x1x16x64x512 .bf16) (ix5 0 0 n d r) = V m c main_v17 (ix5 (bOf t) (gOf t) n d r) := by
  obtain ⟨h0, h1, h2, h3, h4⟩ := idx2 t
  unfold iblk
  rw [View.read_apply]
  show V m c main_v17 _ = _
  congr 1
  funext a
  apply Fin.ext
  match a with
  | ⟨0, _⟩ => show win0_2.index t 0 * 1 + 1 * 0 = t.val / 64; rw [h0]; omega
  | ⟨1, _⟩ => show win0_2.index t 1 * 1 + 1 * 0 = t.val / 16 % 4; rw [h1]; omega
  | ⟨2, _⟩ => show win0_2.index t 2 * 16 + 1 * n.val = n.val; rw [h2]; omega
  | ⟨3, _⟩ => show win0_2.index t 3 * 64 + 1 * d.val = d.val; rw [h3]; omega
  | ⟨4, _⟩ => show win0_2.index t 4 * 512 + 1 * r.val = r.val; rw [h4]; omega

/-! ## The body's loads, and its two stores -/

theorem kOf_at (x1 : Vec Ideal S1x1x8192x256 .fp8e4m3) (n : ℕ) (r : Fin 512) (x : Fin 256) :
    kOf x1 n (ix4 0 0 r x) = x1 (ix4 0 0 (key n r) x) := by
  refine congrArg x1 (funext fun a => Fin.ext ?_)
  match a with
  | ⟨0, _⟩ => rfl
  | ⟨1, _⟩ => rfl
  | ⟨2, _⟩ => show 512 * (n % 16) + 1 * r.val = 512 * (n % 16) + r.val; omega
  | ⟨3, _⟩ => show 0 + 1 * x.val = x.val; omega

theorem qOf_at (x0 : Vec Ideal S1x4x256x512 .fp8e4m3) (j e : ℕ) (x l : Fin 256) :
    qOf x0 j e (ix4 0 0 x l) = x0 (ix4 0 ⟨e % 4, by omega⟩ x ⟨256 * (j % 2) + l.val, by omega⟩) := by
  refine congrArg x0 (funext fun a => Fin.ext ?_)
  match a with
  | ⟨0, _⟩ => rfl
  | ⟨1, _⟩ => show e % 4 + 1 * 0 = e % 4; omega
  | ⟨2, _⟩ => show 0 + 1 * x.val = x.val; omega
  | ⟨3, _⟩ => show 256 * (j % 2) + 1 * l.val = 256 * (j % 2) + l.val; omega

theorem vOf_at (x2 : Vec Ideal S1x1x16x64x512 .bf16) (n : ℕ) (d : Fin 64) (r : Fin 512) :
    vOf x2 n (ix5 0 0 0 d r) = x2 (ix5 0 0 ⟨n % 16, by omega⟩ d r) := by
  refine congrArg x2 (funext fun a => Fin.ext ?_)
  match a with
  | ⟨0, _⟩ => rfl
  | ⟨1, _⟩ => rfl
  | ⟨2, _⟩ => show n % 16 + 1 * 0 = n % 16; omega
  | ⟨3, _⟩ => show 0 + 1 * d.val = d.val; omega
  | ⟨4, _⟩ => show 0 + 1 * r.val = r.val; omega

theorem oRect_idx (j : ℕ) (l h : Fin 256) :
    (oRect j).emb (ix4 0 0 l h : S1x1x256x256.Idx) = (ix4 0 0 ⟨256 * (j % 2) + l.val, by omega⟩ h : S1x1x512x256.Idx) := by
  funext a
  apply Fin.ext
  match a with
  | ⟨0, _⟩ => rfl
  | ⟨1, _⟩ => rfl
  | ⟨2, _⟩ => show 256 * (j % 2) + 1 * l.val = 256 * (j % 2) + l.val; omega
  | ⟨3, _⟩ => show 0 + 1 * h.val = h.val; omega

/-- Tile `j` of the block that a point leaves. -/
theorem blockOut_at (x0 : Vec Ideal S1x4x256x512 .fp8e4m3) (x1 : Vec Ideal S1x1x8192x256 .fp8e4m3)
    (x2 : Vec Ideal S1x1x16x64x512 .bf16) (j : ℕ) (hj : j < 2) (l h : Fin 256) :
    blockOut x0 x1 x2 (ix4 0 0 ⟨256 * (j % 2) + l.val, by omega⟩ h) = pO (kOf x1) (qOf x0 j) (vOf x2) (ix4 0 0 l h) := by
  rw [← oRect_idx]
  unfold blockOut
  obtain rfl | rfl : j = 0 ∨ j = 1 := by omega
  · rw [View.canon_cons_of_not_mem]
    · exact View.canon_cons_emb (oRect 0) _ _ _
    · rw [oRect_idx]
      show _ ∉ (oRect 1).set
      unfold oRect
      rw [Rect.mem_set_unit]
      intro hm
      have h2 := (hm (2 : Fin 4)).1
      have h2' : 256 ≤ 0 + l.val := h2
      have := l.isLt
      omega
  · exact View.canon_cons_emb (oRect 1) _ _ _

/-! ## The operands, from the arguments -/

/-- A query's high part, and its low part, as the kernel's operand has them. -/
def qHi (q lo : FVec Ideal S4x8192x16x64 .f32) : FVec Ideal S4x16x64x8192 .fp8e4m3 :=
  Host.convertf .fp8e4m3 (transpose S4x16x64x8192 [0, 2, 3, 1]
    (subf (Host.divf q (broadcastInDim S4x8192x16x64 ![] bcast_S_S4x8192x16x64 (Host.log (constant S_ .f32 0x40000000#32)))) lo)
    transposes_S4x8192x16x64_S4x16x64x8192_0_2_3_1)
def qLo (lo : FVec Ideal S4x8192x16x64 .f32) : FVec Ideal S4x16x64x8192 .fp8e4m3 :=
  Host.convertf .fp8e4m3 (transpose S4x16x64x8192 [0, 2, 3, 1] lo transposes_S4x8192x16x64_S4x16x64x8192_0_2_3_1)
/-- A key's high part, and its low part. -/
def kHi (k lo : FVec Ideal S4x8192x4x64 .f32) : FVec Ideal S4x4x8192x64 .fp8e4m3 :=
  Host.convertf .fp8e4m3 (transpose S4x4x8192x64 [0, 2, 1, 3] (subf k lo) transposes_S4x8192x4x64_S4x4x8192x64_0_2_1_3)
def kLo (lo : FVec Ideal S4x8192x4x64 .f32) : FVec Ideal S4x4x8192x64 .fp8e4m3 :=
  Host.convertf .fp8e4m3 (transpose S4x4x8192x64 [0, 2, 1, 3] lo transposes_S4x8192x4x64_S4x4x8192x64_0_2_1_3)

def qExt (q lo : FVec Ideal S4x8192x16x64 .f32) : FVec Ideal S4x16x256x8192 .fp8e4m3 :=
  concatenate S4x16x256x8192 2 [⟨S4x16x64x8192, qHi q lo⟩, ⟨S4x16x64x8192, qHi q lo⟩, ⟨S4x16x64x8192, qLo lo⟩,
    ⟨S4x16x64x8192, qLo lo⟩] concatenates_S4x16x64x8192_S4x16x64x8192_S4x16x64x8192_S4x16x64x8192_S4x16x256x8192_d2
def kExt (k lo : FVec Ideal S4x8192x4x64 .f32) : FVec Ideal S4x4x8192x256 .fp8e4m3 :=
  concatenate S4x4x8192x256 3 [⟨S4x4x8192x64, kHi k lo⟩, ⟨S4x4x8192x64, kLo lo⟩, ⟨S4x4x8192x64, kHi k lo⟩,
    ⟨S4x4x8192x64, kLo lo⟩] concatenates_S4x4x8192x64_S4x4x8192x64_S4x4x8192x64_S4x4x8192x64_S4x4x8192x256_d3
def vExt (v : FVec Ideal S4x8192x4x64 .f32) : FVec Ideal S4x4x16x64x512 .bf16 :=
  truncf .bf16 (transpose S4x4x16x64x512 [0, 3, 1, 4, 2] (shapeCast S4x16x512x4x64 v shapeCasts_S4x8192x4x64_S4x16x512x4x64)
    transposes_S4x16x512x4x64_S4x4x16x64x512_0_3_1_4_2) bitsLt_bf16_f32

theorem V13 : V m c main_v13 = qExt (m ((c.tc : Thread nD τ).loc main_arg0)) (m ((c.tc : Thread nD τ).loc main_arg3)) := by
  unfold V
  after_results <;> rfl
theorem V14 : V m c main_v14 = kExt (m ((c.tc : Thread nD τ).loc main_arg1)) (m ((c.tc : Thread nD τ).loc main_arg4)) := by
  unfold V
  after_results <;> rfl
theorem V17 : V m c main_v17 = vExt (m ((c.tc : Thread nD τ).loc main_arg2)) := by
  unfold V
  after_results <;> rfl

theorem vExt_at (v : FVec Ideal S4x8192x4x64 .f32) (b : Fin 4) (h : Fin 4) (d : Fin 64) (n : Fin 16) (r : Fin 512) :
    vExt v (ix5 b h n d r) = v (ix4 b ⟨n.val * 512 + r.val, by omega⟩ h d) := by
  pointwise [vExt]

theorem ofBits_two : Ideal.ofBits .f32 0x40000000#32 = ((2 : ℝ) : EReal) := by
  simp [Ideal.ofBits, Ideal.ieee, -EReal.coe_mul]
  norm_num

theorem log_two : Ideal.log (Ideal.ofBits .f32 0x40000000#32) = ((Real.log 2 : ℝ) : EReal) := by
  rw [ofBits_two, Ideal.log_coe, if_neg (by norm_num)]

/-- The stacked product of a key's parts and a query's parts is the product of the key and the query, in base two. -/
theorem dot_parts (q qlo : FVec Ideal S4x8192x16x64 .f32) (k klo : FVec Ideal S4x8192x4x64 .f32)
    (Q QL : S4x8192x16x64.Idx → ℝ) (K KL : S4x8192x4x64.Idx → ℝ) (hq : ∀ i, q i = Q i) (hql : ∀ i, qlo i = QL i)
    (hk : ∀ i, k i = K i) (hkl : ∀ i, klo i = KL i) (b : Fin 4) (g : Fin 4) (h : Fin 16) (r l : Fin 8192) :
    ∑ x : Fin 256, kExt k klo (ix4 b g r x) * qExt q qlo (ix4 b h x l)
      = (((∑ d : Fin 64, K (ix4 b r g d) * Q (ix4 b l h d)) / Real.log 2 : ℝ) : EReal) := by
  rw [← Fin.sum_mul_add_fin 4 64 _ (by rfl), Fin.sum_univ_four, Finset.sum_div, coe_sum]
  simp only [← Finset.sum_add_distrib]
  refine Finset.sum_congr rfl fun d _ => ?_
  have h0 := d.isLt
  pointwise [kExt, kHi, kLo, qExt, qHi, qLo]
  have a2 : ¬ 128 + d.val < 64 := by omega
  have a3 : ¬ 128 + d.val - 64 < 64 := by omega
  have a4 : 128 + d.val - 64 - 64 < 64 := by omega
  have b2 : ¬ 192 + d.val < 64 := by omega
  have b3 : ¬ 192 + d.val - 64 < 64 := by omega
  have b4 : ¬ 192 + d.val - 64 - 64 < 64 := by omega
  have c4 : (⟨128 + d.val - 64 - 64, a4⟩ : Fin 64) = d := Fin.ext (by show 128 + d.val - 64 - 64 = d.val; omega)
  have c5 : (⟨192 + d.val - 64 - 64 - 64, by omega⟩ : Fin 64) = d :=
    Fin.ext (by show 192 + d.val - 64 - 64 - 64 = d.val; omega)
  rw [dif_neg a2, dif_neg a3, dif_pos a4, dif_neg a2, dif_neg a3, dif_pos a4, dif_neg b2, dif_neg b3, dif_neg b4,
    dif_neg b2, dif_neg b3, dif_neg b4, c4, c5, log_two, hq, hql, hk, hkl, Ideal.div_coe (Real.log_pos one_lt_two).ne']
  simp only [← EReal.coe_sub, ← EReal.coe_mul, ← EReal.coe_add]
  congr 1
  ring

end Cert.Flash
-- ==== Proof.Flash.Ref.lean ====
/- The reference's attention read at an index, on real queries and keys: the softmax-weighted sum of the values. -/
module

public import proofs.«01_k».proof.Proof.Gen.ReferenceIdeal.Run
public import proofs.«01_k».proof.Proof.Flash.Softmax
public import Idealize.ShloMosaic.Lib.Pointwise

@[expose] public section

noncomputable section

namespace Cert.FlashRef

open Cert.ReferenceIdeal Cert.ReferenceIdeal.Gen Idealize.ShloMosaic Idealize.ShloMosaic.Tactic Finset
open Cert.Flash (weight)

/-- The scores, one per batch, key head, query of its group, query position and key. -/
def sc (q : FVec Ideal S4x8192x16x64 .f32) (k : FVec Ideal S4x8192x4x64 .f32) : FVec Ideal S4x4x4x8192x8192 .f32 :=
  transpose S4x4x4x8192x8192 [0, 1, 4, 3, 2]
    (Host.dotGeneral dot_S4x8192x4x64_S4x8192x4x4x64_S4x4x8192x8192x4_3_4_1_13_02_02 none k
      (shapeCast _ q shapeCasts_S4x8192x16x64_S4x8192x4x4x64)) transposes_S4x4x8192x8192x4_S4x4x4x8192x8192_0_1_4_3_2

/-- Their maxima over the keys. -/
def mxs (s : FVec Ideal S4x4x4x8192x8192 .f32) : FVec Ideal S4x4x4x8192 .f32 :=
  maximumf (broadcastInDim S4x4x4x8192 ![] bcast_S_S4x4x4x8192 (constant S_ .f32 0xFF800000#32))
    (Host.reduce FloatOps.maximumf s (constant S_ .f32 0xFF800000#32) reducesTo_S4x4x4x8192x8192_S4x4x4x8192_d4 h_S_)

/-- A row statistic, repeated along the keys. -/
def rows (s : FVec Ideal S4x4x4x8192 .f32) : FVec Ideal S4x4x4x8192x8192 .f32 :=
  broadcastInDim S4x4x4x8192x8192 ![0, 1, 2, 3, 4] bcast_S4x4x4x8192x1_S4x4x4x8192x8192_0_1_2_3_4
    (broadcastInDim S4x4x4x8192x1 ![0, 1, 2, 3] bcast_S4x4x4x8192_S4x4x4x8192x1_0_1_2_3 s)

def exps (s : FVec Ideal S4x4x4x8192x8192 .f32) : FVec Ideal S4x4x4x8192x8192 .f32 :=
  Host.exp (subf s (rows (mxs s)))

/-- The softmax. -/
def probs (s : FVec Ideal S4x4x4x8192x8192 .f32) : FVec Ideal S4x4x4x8192x8192 .f32 :=
  Host.divf (exps s) (rows (Host.reduceAdd (exps s) (constant S_ .f32 0x00000000#32) reducesTo_S4x4x4x8192x8192_S4x4x4x8192_d4 h_S_))

/-- The attention. -/
def attn (q : FVec Ideal S4x8192x16x64 .f32) (k v : FVec Ideal S4x8192x4x64 .f32) : FVec Ideal S4x4x8192x256 .bf16 :=
  truncf .bf16 (shapeCast _ (transpose S4x4x8192x4x64 [0, 1, 4, 3, 2]
    (Host.dotGeneral dot_S4x8192x4x64_S4x4x4x8192x8192_S4x4x64x4x8192_1_4_3_23_02_01 none v (probs (sc q k)))
    transposes_S4x4x64x4x8192_S4x4x8192x4x64_0_1_4_3_2) shapeCasts_S4x4x8192x4x64_S4x4x8192x256) bitsLt_bf16_f32

theorem ofBits_neg_inf : Ideal.ofBits .f32 0xFF800000#32 = ⊥ := by simp [Ideal.ofBits, Ideal.ieee]

theorem split_at (q : FVec Ideal S4x8192x16x64 .f32) (b : Fin 4) (l : Fin 8192) (g e : Fin 4) (d : Fin 64) :
    (shapeCast S4x8192x4x4x64 q shapeCasts_S4x8192x16x64_S4x8192x4x4x64 : FVec Ideal S4x8192x4x4x64 .f32) (ix5 b l g e d)
      = q (ix4 b l ⟨g.val * 4 + e.val, by have := g.isLt; have := e.isLt; omega⟩ d) := by
  pointwise

theorem dot_at (q : FVec Ideal S4x8192x4x4x64 .f32) (k : FVec Ideal S4x8192x4x64 .f32) (b g e : Fin 4) (l r : Fin 8192) :
    (Host.dotGeneral dot_S4x8192x4x64_S4x8192x4x4x64_S4x4x8192x8192x4_3_4_1_13_02_02 none k q :
      FVec Ideal S4x4x8192x8192x4 .f32) (ix5 b g r l e) = ∑ d : Fin 64, k (ix4 b r g d) * q (ix5 b l g e d) := by
  pointwise

theorem swap_at (s : FVec Ideal S4x4x8192x8192x4 .f32) (b g e : Fin 4) (l r : Fin 8192) :
    transpose S4x4x4x8192x8192 [0, 1, 4, 3, 2] s transposes_S4x4x8192x8192x4_S4x4x4x8192x8192_0_1_4_3_2 (ix5 b g e l r)
      = s (ix5 b g r l e) := by
  pointwise

theorem sc_at (q : FVec Ideal S4x8192x16x64 .f32) (k : FVec Ideal S4x8192x4x64 .f32) (b g e : Fin 4) (l r : Fin 8192) :
    sc q k (ix5 b g e l r)
      = ∑ d : Fin 64, k (ix4 b r g d) * q (ix4 b l ⟨g.val * 4 + e.val, by have := g.isLt; have := e.isLt; omega⟩ d) :=
  (swap_at _ b g e l r).trans ((dot_at _ k b g e l r).trans
    (sum_congr rfl fun d _ => congrArg (k (ix4 b r g d) * ·) (split_at q b l g e d)))

theorem low_at (b g e : Fin 4) (l : Fin 8192) :
    (broadcastInDim S4x4x4x8192 ![] bcast_S_S4x4x4x8192 (constant S_ .f32 0xFF800000#32) : FVec Ideal S4x4x4x8192 .f32)
      (ix4 b g e l) = ⊥ := by
  pointwise
  exact ofBits_neg_inf

theorem reduce_at (s : FVec Ideal S4x4x4x8192x8192 .f32) (b g e : Fin 4) (l : Fin 8192) :
    (Host.reduce FloatOps.maximumf s (constant S_ .f32 0xFF800000#32) reducesTo_S4x4x4x8192x8192_S4x4x4x8192_d4 h_S_ :
      FVec Ideal S4x4x4x8192 .f32) (ix4 b g e l) = univ.fold max ⊥ fun r : Fin 8192 => s (ix5 b g e l r) := by
  pointwise
  rw [ofBits_neg_inf]

theorem max_at {S : Shape} (x y : FVec Ideal S .f32) (i : S.Idx) : maximumf x y i = max (x i) (y i) := rfl

theorem mxs_at (s : FVec Ideal S4x4x4x8192x8192 .f32) (b g e : Fin 4) (l : Fin 8192) :
    mxs s (ix4 b g e l) = univ.fold max ⊥ fun r : Fin 8192 => s (ix5 b g e l r) := by
  unfold mxs
  rw [max_at, low_at, reduce_at]
  generalize univ.fold max ⊥ (fun r : Fin 8192 => s (ix5 b g e l r)) = y
  exact max_eq_right bot_le

theorem exps_at (s : FVec Ideal S4x4x4x8192x8192 .f32) (b g e : Fin 4) (l r : Fin 8192) :
    exps s (ix5 b g e l r) = Ideal.exp (s (ix5 b g e l r) - mxs s (ix4 b g e l)) := by
  pointwise [exps, rows]

theorem probs_at (s : FVec Ideal S4x4x4x8192x8192 .f32) (b g e : Fin 4) (l r : Fin 8192) :
    probs s (ix5 b g e l r) = Ideal.div (exps s (ix5 b g e l r)) (∑ j : Fin 8192, exps s (ix5 b g e l j)) := by
  pointwise [probs, rows]

theorem attn_at (q : FVec Ideal S4x8192x16x64 .f32) (k v : FVec Ideal S4x8192x4x64 .f32) (b g : Fin 4) (l : Fin 8192)
    (h : Fin 256) :
    attn q k v (ix4 b g l h) = ∑ r : Fin 8192, v (ix4 b r g ⟨h.val % 64, by omega⟩)
      * probs (sc q k) (ix5 b g ⟨h.val / 64, by have := h.isLt; omega⟩ l r) := by
  pointwise [attn]

/-- On scores that are real, an element of the attention is the weighted sum. -/
theorem attn_eq (q : FVec Ideal S4x8192x16x64 .f32) (k v : FVec Ideal S4x8192x4x64 .f32) (b g : Fin 4) (l : Fin 8192)
    (h : Fin 256) (x : Fin 8192 → ℝ)
    (hx : ∀ r, sc q k (ix5 b g ⟨h.val / 64, by have := h.isLt; omega⟩ l r) = x r) :
    attn q k v (ix4 b g l h) = ∑ r : Fin 8192, v (ix4 b r g ⟨h.val % 64, by omega⟩) * (weight x r : EReal) := by
  obtain ⟨μ, hμ⟩ := Cert.Flash.fold_max_coe univ x univ_nonempty
  rw [attn_at, ← Cert.Flash.plain_softmax x _ μ]
  simp only [probs_at, exps_at, mxs_at, hx, hμ]

end Cert.FlashRef

end
-- ==== Proof.Flash.Pre.lean ====
/- What the precondition says: queries, keys and their low parts are real numbers. -/
module

public import proofs.«01_k».proof.Proof.Gen.Pre_finite_scores
public import Idealize.ShloMosaic.Lib.Pointwise

@[expose] public section

noncomputable section

namespace Cert.FlashPre

open Cert.Pre_finite_scores Idealize.ShloMosaic Idealize.ShloMosaic.Tactic

theorem ofBits_inf : Ideal.ofBits .f32 0x7F800000#32 = ⊤ := by simp [Ideal.ofBits, Ideal.ieee]

theorem real_of_abs_lt (x : EReal) (h : FloatOps.absf (F := Ideal) (φ := .f32) x < Ideal.ofBits .f32 0x7F800000#32) :
    x = (x.toReal : EReal) := by
  rw [ofBits_inf] at h
  induction x with
  | bot => exact absurd h (by simp [Ideal.absf_def])
  | top => exact absurd h (by simp [Ideal.absf_def])
  | coe r => rfl

theorem and_one : ∀ a b c d : Bool, IntOp.andi (IntOp.andi (BitVec.ofBool a) (BitVec.ofBool b))
    (IntOp.andi (BitVec.ofBool c) (BitVec.ofBool d)) = 1#1 → a = true ∧ b = true ∧ c = true ∧ d = true := by decide

variable [Facts] (q qlo : FVec Ideal S4x8192x16x64 .f32) (k v klo : FVec Ideal S4x8192x4x64 .f32)

theorem fn_at (b : Fin 4) (l : Fin 8192) (g e : Fin 4) (d : Fin 64) (h : fn (F := Ideal) q k v qlo klo (ix5 b l g e d) = 1#1) :
    let i : S4x8192x16x64.Idx := ix4 b l ⟨g.val * 4 + e.val, by omega⟩ d
    let j : S4x8192x4x64.Idx := ix4 b l g d
    q i = ((q i).toReal : EReal) ∧ qlo i = ((qlo i).toReal : EReal) ∧ k j = ((k j).toReal : EReal)
      ∧ klo j = ((klo j).toReal : EReal) := by
  intro i j
  revert h
  pointwise [fn]
  intro h
  obtain ⟨h1, h2, h3, h4⟩ := and_one _ _ _ _ h
  exact ⟨real_of_abs_lt _ (of_decide_eq_true h1), real_of_abs_lt _ (of_decide_eq_true h2),
    real_of_abs_lt _ (of_decide_eq_true h3), real_of_abs_lt _ (of_decide_eq_true h4)⟩

/-- Under the precondition every query, key and low part is its own real number. -/
theorem reals (h : fn (F := Ideal) q k v qlo klo = fun _ => 1#1) :
    (∀ i, q i = ((q i).toReal : EReal)) ∧ (∀ i, qlo i = ((qlo i).toReal : EReal))
      ∧ (∀ i, k i = ((k i).toReal : EReal)) ∧ (∀ i, klo i = ((klo i).toReal : EReal)) := by
  have H := fun b l g e d => fn_at q qlo k v klo b l g e d (congrFun h _)
  have hi : ∀ i : S4x8192x16x64.Idx, ∃ (b : Fin 4) (l : Fin 8192) (g e : Fin 4) (d : Fin 64),
      i = ix4 b l ⟨g.val * 4 + e.val, by omega⟩ d := fun i => by
    have h2 : (i 2).val < 16 := (i 2).isLt
    refine ⟨i 0, i 1, ⟨(i 2).val / 4, by omega⟩, ⟨(i 2).val % 4, by omega⟩, i 3, ?_⟩
    refine (eq_ix4 i).trans (congrArg (fun x => ix4 (i 0) (i 1) x (i 3)) (Fin.ext ?_))
    show (i 2).val = (i 2).val / 4 * 4 + (i 2).val % 4
    omega
  refine ⟨fun i => ?_, fun i => ?_, fun i => ?_, fun i => ?_⟩
  · obtain ⟨b, l, g, e, d, rfl⟩ := hi i
    exact (H b l g e d).1
  · obtain ⟨b, l, g, e, d, rfl⟩ := hi i
    exact (H b l g e d).2.1
  · rw [eq_ix4 i]
    exact (H (i 0) (i 1) (i 2) 0 (i 3)).2.2.1
  · rw [eq_ix4 i]
    exact (H (i 0) (i 1) (i 2) 0 (i 3)).2.2.2

end Cert.FlashPre

end
-- ==== Proof.Flash.Value.lean ====
/- The flash-attention kernel's result, element by element, is the reference's attention. -/
module

public import proofs.«01_k».proof.Proof.Gen.KernelIdeal.Value
public import proofs.«01_k».proof.Proof.Flash.Blocks
public import proofs.«01_k».proof.Proof.Flash.Ref
public import proofs.«01_k».proof.Proof.Flash.Pre

@[expose] public section

noncomputable section

namespace Cert.Flash

open Cert.KernelIdeal Cert.KernelIdeal.Gen Idealize.ShloMosaic Idealize.ShloMosaic.Tactic

variable (m : (ℓ : Loc nD τ sig) → Buf (Elt Ideal) ℓ) (c : Dev nD)

/-- The arguments. -/
abbrev aq : FVec Ideal S4x8192x16x64 .f32 := m ((c.tc : Thread nD τ).loc main_arg0)
abbrev ak : FVec Ideal S4x8192x4x64 .f32 := m ((c.tc : Thread nD τ).loc main_arg1)
abbrev av : FVec Ideal S4x8192x4x64 .f32 := m ((c.tc : Thread nD τ).loc main_arg2)
abbrev aqlo : FVec Ideal S4x8192x16x64 .f32 := m ((c.tc : Thread nD τ).loc main_arg3)
abbrev aklo : FVec Ideal S4x8192x4x64 .f32 := m ((c.tc : Thread nD τ).loc main_arg4)

/-- Queries, keys and low parts are these real numbers. -/
structure AreReal (Q QL : S4x8192x16x64.Idx → ℝ) (K KL : S4x8192x4x64.Idx → ℝ) : Prop where
  q : ∀ i, aq m c i = Q i
  qlo : ∀ i, aqlo m c i = QL i
  k : ∀ i, ak m c i = K i
  klo : ∀ i, aklo m c i = KL i

/-- A score. -/
def scoreR (Q : S4x8192x16x64.Idx → ℝ) (K : S4x8192x4x64.Idx → ℝ) (b g : Fin 4) (h : Fin 16) (l r : Fin 8192) : ℝ :=
  ∑ d : Fin 64, K (ix4 b r g d) * Q (ix4 b l h d)

variable {m c} {Q QL : S4x8192x16x64.Idx → ℝ} {K KL : S4x8192x4x64.Idx → ℝ}

/-- What a point leaves in its output block, at row `l` of tile `j`, which is row `L` of the array. -/
theorem point_at (R : AreReal m c Q QL K KL) (t : Fin cfg0.N) (j : ℕ) (hj : j < 2) (l h : Fin 256) (b g : Fin 4) (L : Fin 8192)
    (hb : b = bOf t) (hg : g = gOf t) (hL : L = ⟨512 * (t.val % 16) + (256 * (j % 2) + l.val), by omega⟩) :
    (outsAt0 m c t.val t.isLt).1 (ix4 0 0 ⟨256 * (j % 2) + l.val, by omega⟩ h)
      = ∑ r : Fin 8192, av m c (ix4 b r g ⟨h.val % 64, by omega⟩)
          * (weight (scoreR Q K b g ⟨4 * g.val + h.val / 64, by omega⟩ L) r : EReal) := by
  subst hb hg hL
  rw [left_O, blockOut_at _ _ _ j hj]
  refine pO_at _ _ _ _ (fun r => av m c (ix4 (bOf t) r (gOf t) ⟨h.val % 64, by omega⟩)) l h (fun n r => ?_) (fun n r => ?_)
  · refine Eq.trans ?_ (dot_parts (aq m c) (aqlo m c) (ak m c) (aklo m c) Q QL K KL R.q R.qlo R.k R.klo _ _ _ _ _)
    unfold dotP
    refine Finset.sum_congr rfl fun x _ => ?_
    rw [kOf_at, qOf_at, iblk0, iblk1, V13, V14]
    refine congrArg (fun y : Fin 16 => kExt (ak m c) (aklo m c) (ix4 (bOf t) (gOf t) (key n r) x)
      * qExt (aq m c) (aqlo m c) (ix4 (bOf t) y x ⟨512 * (t.val % 16) + (256 * (j % 2) + l.val), by omega⟩)) (Fin.ext ?_)
    show 4 * (gOf t).val + h.val / 64 % 4 = 4 * (gOf t).val + h.val / 64
    have := h.isLt
    omega
  · rw [vOf_at, iblk2, V17, vExt_at]
    refine congrArg (fun y => av m c (ix4 (bOf t) y (gOf t) ⟨h.val % 64, by omega⟩)) (Fin.ext ?_)
    show n % 16 * 512 + r.val = 512 * (n % 16) + r.val
    omega

/-- The kernel's result at an index. -/
theorem G5_at (R : AreReal m c Q QL K KL) (b g : Fin 4) (l : Fin 8192) (h : Fin 256) :
    (Cert.KernelIdeal.Value.G5 m c : FVec Ideal S4x4x8192x256 .bf16) (ix4 b g l h)
      = ∑ r : Fin 8192, av m c (ix4 b r g ⟨h.val % 64, by omega⟩)
          * (weight (scoreR Q K b g ⟨4 * g.val + h.val / 64, by omega⟩ l) r : EReal) := by
  have hb := b.isLt
  have hg := g.isLt
  have hl := l.isLt
  have hh := h.isLt
  have ht : 64 * (b.val / 1 - 0) + 16 * (g.val / 1 - 0) + 1 * (l.val / 512 - 0) + 1 * (h.val / 256 - 0) < cfg0.N := by
    rw [show cfg0.N = 256 from N_0]; omega
  refine Eq.trans ?_ (point_at R ⟨_, ht⟩ (l.val % 512 / 256) (by omega) ⟨l.val % 256, by omega⟩ h b g l
    (Fin.ext (by show b.val = (_ + _) / 64; omega)) (Fin.ext (by show g.val = (_ + _) / 16 % 4; omega))
    (Fin.ext (by show l.val = _ + _; dsimp only; omega)))
  rw [Cert.KernelIdeal.Value.outsAt0_sweep]
  unfold Cert.KernelIdeal.Value.G5
  refine (dif_pos ht).trans ?_
  refine congrArg _ (funext fun a => Fin.ext ?_)
  match a with
  | ⟨0, _⟩ => show b.val % 1 = 0; omega
  | ⟨1, _⟩ => show g.val % 1 = 0; omega
  | ⟨2, _⟩ => show l.val % 512 = 256 * (l.val % 512 / 256 % 2) + l.val % 256; omega
  | ⟨3, _⟩ => show h.val % 256 = h.val; omega

/-- The kernel's result is the reference's attention of the same arguments. -/
theorem result_eq (R : AreReal m c Q QL K KL) :
    (Cert.KernelIdeal.Value.G5 m c : FVec Ideal S4x4x8192x256 .bf16) = FlashRef.attn (aq m c) (ak m c) (av m c) := by
  refine funext fun (i : S4x4x8192x256.Idx) => ?_
  obtain ⟨b, g, l, h, rfl⟩ : ∃ (b g : Fin 4) (l : Fin 8192) (h : Fin 256), i = ix4 b g l h :=
    ⟨i 0, i 1, i 2, i 3, eq_ix4 i⟩
  refine (G5_at R b g l h).trans (Eq.symm ?_)
  refine FlashRef.attn_eq (aq m c) (ak m c) (av m c) b g l h _ fun r => ?_
  rw [FlashRef.sc_at, scoreR, coe_sum]
  refine Finset.sum_congr rfl fun d _ => ?_
  rw [R.k, R.q, ← EReal.coe_mul]
  refine congrArg (fun y : Fin 16 => ((K (ix4 b r g d) * Q (ix4 b l y d) : ℝ) : EReal)) (Fin.ext ?_)
  show g.val * 4 + h.val / 64 = 4 * g.val + h.val / 64
  omega

end Cert.Flash

end
-- ==== Proof.Mlp.Rows.lean ====
/- One row of the MLP kernel, over the extended reals: the projected attention added to the residual, the norm, the
   squared-ReLU MLP in four chunks of hidden units, and the rows of the body's values. -/
module

public import proofs.«01_k».proof.Proof.Gen.Kernel2Ideal.Frame
public import Idealize.ShloMosaic.Lib.Pointwise
public import Idealize.ShloMosaic.Lib.Pipeline.ValueKit.Acc

@[expose] public section

noncomputable section

namespace Cert.Mlp

open Cert.Kernel2Ideal Cert.Kernel2Ideal.Gen Idealize.ShloMosaic Idealize.ShloMosaic.Tactic Finset

/-! ## A row -/

/-- A residual row plus a row of the attention, projected. -/
def resRow (x o : Fin 1024 → EReal) (w : Fin 1024 → Fin 1024 → EReal) (i : Fin 1024) : EReal :=
  x i + ∑ j, o j * w j i

/-- A row normalised by its root mean square, times the gain. -/
def rmsRow (y g : Fin 1024 → EReal) (i : Fin 1024) : EReal :=
  y i * Ideal.rsqrt (Ideal.div (∑ j, y j * y j) (Ideal.ofBits .f32 0x44800000#32) + Ideal.ofBits .f32 0x358637BD#32) * g i

/-- The square of the positive part. -/
def sqRelu (x : EReal) : EReal := max x 0 * max x 0

/-- The contribution of one hidden unit. -/
def unit (h : Fin 1024 → EReal) (win : Fin 1024 → Fin 4096 → EReal) (wout : Fin 4096 → Fin 1024 → EReal) (i : Fin 1024)
    (f : Fin 4096) : EReal :=
  sqRelu (∑ d, h d * win d f) * wout f i

/-- The MLP's row, with its residual. -/
def mlpRow (y g : Fin 1024 → EReal) (win : Fin 1024 → Fin 4096 → EReal) (wout : Fin 4096 → Fin 1024 → EReal)
    (i : Fin 1024) : EReal :=
  y i + ∑ f, unit (rmsRow y g) win wout i f

/-- Four chunks of a thousand and twenty-four, added one after another, are the whole sum. -/
theorem chunks (y : EReal) (u : Fin 4096 → EReal) (s : ℕ → EReal)
    (hs : ∀ n : Fin 4, s n.val = ∑ f : Fin 1024, u ⟨n.val * 1024 + f.val, by omega⟩) :
    y + s 0 + s 1 + s 2 + s 3 = y + ∑ f, u f := by
  rw [← Fin.sum_mul_add_fin 4 1024 _ (by rfl), Fin.sum_univ_four, ← hs 0, ← hs 1, ← hs 2, ← hs 3]
  show y + s 0 + s 1 + s 2 + s 3 = y + (s 0 + s 1 + s 2 + s 3)
  simp only [add_assoc]

/-! ## The body's values -/

/-- The four groups of heads side by side. -/
def cat (a : ℕ → Vec Ideal S1x1x1024x256 .bf16) : FVec Ideal S1024x1024 .bf16 :=
  concatenate S1024x1024 1 [⟨S1024x256, shapeCast S1024x256 (a 0) shapeCasts_S1x1x1024x256_S1024x256⟩,
    ⟨S1024x256, shapeCast S1024x256 (a 1) shapeCasts_S1x1x1024x256_S1024x256⟩,
    ⟨S1024x256, shapeCast S1024x256 (a 2) shapeCasts_S1x1x1024x256_S1024x256⟩,
    ⟨S1024x256, shapeCast S1024x256 (a 3) shapeCasts_S1x1x1024x256_S1024x256⟩] concatenates_S1024x256_S1024x256_S1024x256_S1024x256_S1024x1024_d1

/-- A product of two tiles. -/
def prod (x y : FVec Ideal S1024x1024 .bf16) : FVec Ideal S1024x1024 .f32 :=
  matmul dot_S1024x1024_S1024x1024_S1024x1024_1_0_0_1_n_n none x y (constant S1024x1024 .f32 0x00000000#32)

/-- A loaded tile. -/
abbrev same (x : Vec Ideal S1024x1024 .bf16) : FVec Ideal S1024x1024 .bf16 := shapeCast S1024x1024 x shapeCasts_S1024x1024_S1024x1024

/-- The norm. -/
def nrm (y : FVec Ideal S1024x1024 .f32) (g : Vec Ideal S1x1024 .f32) : FVec Ideal S1024x1024 .f32 :=
  mulf (mulf y (broadcastTo S1024x1024 (rsqrt (addf (divf (shapeCast S1024x1
      (multiReduction .add [1] S1024 (mulf y y) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
      broadcasts_S1024x1_S1024x1024))
    (broadcastTo S1024x1024 (shapeCast S1x1024 g shapeCasts_S1x1024_S1x1024) broadcasts_S1x1024_S1024x1024)

/-- The part of a chunk of hidden units. -/
def ff (h : FVec Ideal S1024x1024 .bf16) (w1 w2 : Vec Ideal S1024x1024 .bf16) : FVec Ideal S1024x1024 .f32 :=
  prod (truncf .bf16 (mulf (maximumf (prod h (same w1)) (broadcast S1024x1024 (Scalar.ofBits .f32 0x00000000#32)))
    (maximumf (prod h (same w1)) (broadcast S1024x1024 (Scalar.ofBits .f32 0x00000000#32)))) bitsLt_bf16_f32) (same w2)

/-- The residual row block. -/
def res (a : ℕ → Vec Ideal S1x1x1024x256 .bf16) (x : Vec Ideal S1x1024x1024 .f32) (w : Vec Ideal S1024x1024 .bf16) :
    FVec Ideal S1024x1024 .f32 :=
  addf (shapeCast S1024x1024 x shapeCasts_S1x1024x1024_S1024x1024) (prod (cat a) (same w))

/-- The block before the final norm. -/
def mlp (y : FVec Ideal S1024x1024 .f32) (g : Vec Ideal S1x1024 .f32) (w1 w2 : ℕ → Vec Ideal S1024x1024 .bf16) :
    FVec Ideal S1024x1024 .f32 :=
  let h : FVec Ideal S1024x1024 .bf16 := truncf .bf16 (nrm y g) bitsLt_bf16_f32
  addf (addf (addf (addf y (ff h (w1 0) (w2 0))) (ff h (w1 1) (w2 1))) (ff h (w1 2) (w2 2))) (ff h (w1 3) (w2 3))

theorem cat_at (a : ℕ → Vec Ideal S1x1x1024x256 .bf16) (r j : Fin 1024) :
    cat a (ix2 r j) = a (j.val / 256) (ix4 0 0 r ⟨j.val % 256, by omega⟩) := by
  have key : ∀ (e : ℕ) (d : Fin 256), j.val / 256 = e → d.val = j.val % 256 →
      a e (ix4 0 0 r d) = a (j.val / 256) (ix4 0 0 r ⟨j.val % 256, by omega⟩) := by
    rintro e d rfl hd
    rw [show d = ⟨j.val % 256, by omega⟩ from Fin.ext hd]
  pointwise [cat]
  split_ifs <;> first
    | exact key 0 _ (by omega) (by show j.val = _; omega)
    | exact key 1 _ (by omega) (by show j.val - 256 = _; omega)
    | exact key 2 _ (by omega) (by show j.val - 256 - 256 = _; omega)
    | exact key 3 _ (by omega) (by show j.val - 256 - 256 - 256 = _; omega)

theorem prod_at (x y : FVec Ideal S1024x1024 .bf16) (r i : Fin 1024) : prod x y (ix2 r i) = ∑ j : Fin 1024, x (ix2 r j) * y (ix2 j i) := by
  pointwise [prod]

theorem nrm_at (y : FVec Ideal S1024x1024 .f32) (g : Vec Ideal S1x1024 .f32) (r i : Fin 1024) :
    nrm y g (ix2 r i) = rmsRow (fun j => y (ix2 r j)) (fun j => g (ix2 0 j)) i := by
  pointwise [nrm, rmsRow]

theorem res_at (a : ℕ → Vec Ideal S1x1x1024x256 .bf16) (x : Vec Ideal S1x1024x1024 .f32) (w : Vec Ideal S1024x1024 .bf16)
    (r i : Fin 1024) :
    res a x w (ix2 r i) = resRow (fun j => x (ix3 0 r j)) (fun j => a (j.val / 256) (ix4 0 0 r ⟨j.val % 256, by omega⟩))
      (fun j i => w (ix2 j i)) i := by
  pointwise [res, resRow]
  simp only [prod_at, cat_at]

theorem ff_at (h : FVec Ideal S1024x1024 .bf16) (w1 w2 : Vec Ideal S1024x1024 .bf16) (r i : Fin 1024) :
    ff h w1 w2 (ix2 r i) = ∑ f : Fin 1024, sqRelu (∑ d : Fin 1024, h (ix2 r d) * w1 (ix2 d f)) * w2 (ix2 f i) := by
  unfold ff
  rw [prod_at]
  refine sum_congr rfl fun f _ => ?_
  pointwise [sqRelu, prod]

theorem mlp_at (y : FVec Ideal S1024x1024 .f32) (g : Vec Ideal S1x1024 .f32) (w1 w2 : ℕ → Vec Ideal S1024x1024 .bf16)
    (win : Fin 1024 → Fin 4096 → EReal) (wout : Fin 4096 → Fin 1024 → EReal)
    (h1 : ∀ (n : Fin 4) (d f : Fin 1024), w1 n.val (ix2 d f) = win d ⟨n.val * 1024 + f.val, by omega⟩)
    (h2 : ∀ (n : Fin 4) (f i : Fin 1024), w2 n.val (ix2 f i) = wout ⟨n.val * 1024 + f.val, by omega⟩ i) (r i : Fin 1024) :
    mlp y g w1 w2 (ix2 r i) = mlpRow (fun j => y (ix2 r j)) (fun j => g (ix2 0 j)) win wout i := by
  refine chunks (y (ix2 r i)) (unit _ win wout i) (fun n => ff (truncf .bf16 (nrm y g) bitsLt_bf16_f32) (w1 n) (w2 n) (ix2 r i))
    fun n => ?_
  rw [ff_at]
  refine sum_congr rfl fun f _ => ?_
  rw [h2]
  unfold unit
  congr 2
  refine sum_congr rfl fun d _ => ?_
  rw [h1, ← nrm_at]
  rfl

end Cert.Mlp

end
-- ==== Proof.Mlp.Block.lean ====
/- The MLP kernel's block at a grid point, row by row, and its windows' blocks in terms of the arguments. -/
module

public import proofs.«01_k».proof.Proof.Mlp.Rows
public import proofs.«01_k».proof.Proof.Gen.Kernel2Ideal.Value

@[expose] public section

noncomputable section

namespace Cert.Mlp

open Cert.Kernel2Ideal Cert.Kernel2Ideal.Gen Idealize.ShloMosaic Idealize.ShloMosaic.Tactic Finset

/-! ## The body's loads -/

/-- A group of heads, -/
def aRect (n : ℕ) : Rect S1x4x1024x256 :=
  Rect.unit ![0, n % 4, 0, 0] S1x1x1024x256.size (by intro a; fin_cases a <;> simp [S1x1x1024x256, S1x4x1024x256]; omega)
/-- a chunk of the input weights' columns, -/
def inRect (n : ℕ) : Rect S1024x4096 :=
  Rect.unit ![0, 1024 * (n % 4)] S1024x1024.size (by intro a; fin_cases a <;> simp [S1024x1024, S1024x4096]; omega)
/-- and of the output weights' rows. -/
def outRect (n : ℕ) : Rect S4096x1024 :=
  Rect.unit ![1024 * (n % 4), 0] S1024x1024.size (by intro a; fin_cases a <;> simp [S1024x1024, S4096x1024]; omega)

def aOf (x : Vec Ideal S1x4x1024x256 .bf16) (n : ℕ) : Vec Ideal S1x1x1024x256 .bf16 := View.ld x (aRect n)
def w1Of (x : Vec Ideal S1024x4096 .bf16) (n : ℕ) : Vec Ideal S1024x1024 .bf16 := View.ld x (inRect n)
def w2Of (x : Vec Ideal S4096x1024 .bf16) (n : ℕ) : Vec Ideal S1024x1024 .bf16 := View.ld x (outRect n)

theorem aOf_at (x : Vec Ideal S1x4x1024x256 .bf16) (n : ℕ) (r : Fin 1024) (d : Fin 256) :
    aOf x n (ix4 0 0 r d) = x (ix4 0 ⟨n % 4, by omega⟩ r d) := by
  refine congrArg x (funext fun a => Fin.ext ?_)
  match a with
  | ⟨0, _⟩ => rfl
  | ⟨1, _⟩ => show n % 4 + 1 * 0 = n % 4; omega
  | ⟨2, _⟩ => show 0 + 1 * r.val = r.val; omega
  | ⟨3, _⟩ => show 0 + 1 * d.val = d.val; omega

theorem w1Of_at (x : Vec Ideal S1024x4096 .bf16) (n : Fin 4) (d f : Fin 1024) :
    w1Of x n.val (ix2 d f) = x (ix2 d ⟨n.val * 1024 + f.val, by omega⟩) := by
  refine congrArg x (funext fun a => Fin.ext ?_)
  match a with
  | ⟨0, _⟩ => show 0 + 1 * d.val = d.val; omega
  | ⟨1, _⟩ => show 1024 * (n.val % 4) + 1 * f.val = n.val * 1024 + f.val; omega

theorem w2Of_at (x : Vec Ideal S4096x1024 .bf16) (n : Fin 4) (f i : Fin 1024) :
    w2Of x n.val (ix2 f i) = x (ix2 ⟨n.val * 1024 + f.val, by omega⟩ i) := by
  refine congrArg x (funext fun a => Fin.ext ?_)
  match a with
  | ⟨0, _⟩ => show 1024 * (n.val % 4) + 1 * f.val = n.val * 1024 + f.val; omega
  | ⟨1, _⟩ => show 0 + 1 * i.val = i.val; omega

/-! ## The block -/

variable (x0 : Vec Ideal S1x1024x1024 .f32) (x1 : Vec Ideal S1x4x1024x256 .bf16) (x2 : Vec Ideal S1024x1024 .bf16)
  (x3 : Vec Ideal S1x1024 .f32) (x4 : Vec Ideal S1024x4096 .bf16) (x5 : Vec Ideal S4096x1024 .bf16) (x6 : Vec Ideal S1x1024 .f32)

/-- What the body computes before the final norm. -/
def body : FVec Ideal S1024x1024 .f32 :=
  mlp (res (aOf x1) (View.ld x0 r0_4) (View.ld x2 r0_5)) (View.ld x3 r0_6) (w1Of x4) (w2Of x5)

theorem zero2 : (![0, 0] : Fin 2 → ℕ) = fun _ => 0 := by decide
theorem zero3 : (![0, 0, 0] : Fin 3 → ℕ) = fun _ => 0 := by decide

theorem body_at (r i : Fin 1024) :
    body x0 x1 x2 x3 x4 x5 (ix2 r i)
      = mlpRow (resRow (fun j => x0 (ix3 0 r j)) (fun j => x1 (ix4 0 ⟨j.val / 256, by omega⟩ r ⟨j.val % 256, by omega⟩))
          (fun j k => x2 (ix2 j k))) (fun j => x3 (ix2 0 j)) (fun d f => x4 (ix2 d f)) (fun f k => x5 (ix2 f k)) i := by
  unfold body
  rw [View.ld_unit_zero zero3, View.ld_unit_zero zero2, View.ld_unit_zero zero2]
  refine (mlp_at _ _ _ _ (fun d f => x4 (ix2 d f)) (fun f k => x5 (ix2 f k)) (w1Of_at x4) (w2Of_at x5) r i).trans ?_
  congr 1
  funext j
  rw [res_at]
  congr 1
  funext k
  rw [aOf_at]
  refine congrArg (fun y => x1 (ix4 0 y r ⟨k.val % 256, by omega⟩)) (Fin.ext ?_)
  show k.val / 256 % 4 = k.val / 256
  omega

/-- The block that a point leaves: the body's rows, normalised. -/
theorem out_at (r i : Fin 1024) :
    out0_7 x0 x1 x2 x3 x4 x5 x6 (ix3 0 r i)
      = rmsRow (fun j => body x0 x1 x2 x3 x4 x5 (ix2 r j)) (fun j => x6 (ix2 0 j)) i := by
  have e : out0_7 x0 x1 x2 x3 x4 x5 x6 = View.canon [⟨r0_4, shapeCast S1x1024x1024
      (nrm (body x0 x1 x2 x3 x4 x5) (View.ld x6 r0_6)) shapeCasts_S1024x1024_S1x1024x1024⟩] := rfl
  rw [e, View.canon_unit_zero zero3, View.ld_unit_zero zero2]
  generalize body x0 x1 x2 x3 x4 x5 = y
  pointwise
  rw [nrm_at]

/-! ## The windows' blocks -/

variable (m : (ℓ : Loc nD τ sig) → Buf (Elt Ideal) ℓ) (c : Dev nD)

theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx1 : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

theorem pt_lt (t : Fin cfg0.N) : t.val < 32 := lt_of_lt_of_eq t.isLt N_0

/-- The point's batch, -/
def bOf (t : Fin cfg0.N) : Fin 4 := ⟨t.val / 8, by have := pt_lt t; omega⟩
/-- and the array's row at a row of its block. -/
def lOf (t : Fin cfg0.N) (r : Fin 1024) : Fin 8192 := ⟨1024 * (t.val % 8) + r.val, by omega⟩

theorem iblk0 (t : Fin cfg0.N) (r i : Fin 1024) :
    (iblk m c 0 t : Vec Ideal S1x1024x1024 .f32) (ix3 0 r i) = V m c main_arg0 (ix3 (bOf t) (lOf t r) i) := by
  obtain ⟨h0, h1, h2⟩ := idx0 t
  unfold iblk
  rw [View.read_apply]
  show V m c main_arg0 _ = _
  congr 1
  funext a
  apply Fin.ext
  match a with
  | ⟨0, _⟩ => show win0_0.index t 0 * 1 + 1 * 0 = t.val / 8; rw [h0]; omega
  | ⟨1, _⟩ => show win0_0.index t 1 * 1024 + 1 * r.val = 1024 * (t.val % 8) + r.val; rw [h1]; omega
  | ⟨2, _⟩ => show win0_0.index t 2 * 1024 + 1 * i.val = i.val; rw [h2]; omega

theorem iblk1 (t : Fin cfg0.N) (g : Fin 4) (r : Fin 1024) (d : Fin 256) :
    (iblk m c 1 t : Vec Ideal S1x4x1024x256 .bf16) (ix4 0 g r d) = V m c main_v2 (ix4 (bOf t) g (lOf t r) d) := by
  obtain ⟨h0, h1, h2, h3⟩ := idx1 t
  unfold iblk
  rw [View.read_apply]
  show V m c main_v2 _ = _
  congr 1
  funext a
  apply Fin.ext
  match a with
  | ⟨0, _⟩ => show win0_1.index t 0 * 1 + 1 * 0 = t.val / 8; rw [h0]; omega
  | ⟨1, _⟩ => show win0_1.index t 1 * 4 + 1 * g.val = g.val; rw [h1]; omega
  | ⟨2, _⟩ => show win0_1.index t 2 * 1024 + 1 * r.val = 1024 * (t.val % 8) + r.val; rw [h2]; omega
  | ⟨3, _⟩ => show win0_1.index t 3 * 256 + 1 * d.val = d.val; rw [h3]; omega

theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 8 ∧ win0_7.index t (1 : Fin 3) = t.val % 8
    ∧ win0_7.index t (2 : Fin 3) = 0 :=
  (by decide +kernel : ∀ t : Fin grid0.N, _)

theorem iblk2 (t : Fin cfg0.N) (p : Fin 1024) (q : Fin 1024) :
    (iblk m c 2 t : Vec Ideal S1024x1024 .bf16) (ix2 p q) = V m c main_v3 (ix2 p q) := by
  obtain ⟨h0, h1⟩ := idx2 t
  unfold iblk
  rw [View.read_apply]
  show V m c main_v3 _ = _
  congr 1
  funext a
  apply Fin.ext
  match a with
  | ⟨0, _⟩ => show win0_2.index t 0 * 1024 + 1 * p.val = p.val; rw [h0]; omega
  | ⟨1, _⟩ => show win0_2.index t 1 * 1024 + 1 * q.val = q.val; rw [h1]; omega

theorem iblk3 (t : Fin cfg0.N) (q : Fin 1024) :
    (iblk m c 3 t : Vec Ideal S1x1024 .f32) (ix2 0 q) = V m c main_v4 (ix2 0 q) := by
  obtain ⟨h0, h1⟩ := idx3 t
  unfold iblk
  rw [View.read_apply]
  show V m c main_v4 _ = _
  congr 1
  funext a
  apply Fin.ext
  match a with
  | ⟨0, _⟩ => show win0_3.index t 0 * 1 + 1 * 0 = 0; rw [h0]
  | ⟨1, _⟩ => show win0_3.index t 1 * 1024 + 1 * q.val = q.val; rw [h1]; omega

theorem iblk4 (t : Fin cfg0.N) (p : Fin 1024) (q : Fin 4096) :
    (iblk m c 4 t : Vec Ideal S1024x4096 .bf16) (ix2 p q) = V m c main_v5 (ix2 p q) := by
  obtain ⟨h0, h1⟩ := idx4 t
  unfold iblk
  rw [View.read_apply]
  show V m c main_v5 _ = _
  congr 1
  funext a
  apply Fin.ext
  match a with
  | ⟨0, _⟩ => show win0_4.index t 0 * 1024 + 1 * p.val = p.val; rw [h0]; omega
  | ⟨1, _⟩ => show win0_4.index t 1 * 4096 + 1 * q.val = q.val; rw [h1]; omega

theorem iblk5 (t : Fin cfg0.N) (p : Fin 4096) (q : Fin 1024) :
    (iblk m c 5 t : Vec Ideal S4096x1024 .bf16) (ix2 p q) = V m c main_v6 (ix2 p q) := by
  obtain ⟨h0, h1⟩ := idx5 t
  unfold iblk
  rw [View.read_apply]
  show V m c main_v6 _ = _
  congr 1
  funext a
  apply Fin.ext
  match a with
  | ⟨0, _⟩ => show win0_5.index t 0 * 4096 + 1 * p.val = p.val; rw [h0]; omega
  | ⟨1, _⟩ => show win0_5.index t 1 * 1024 + 1 * q.val = q.val; rw [h1]; omega

theorem iblk6 (t : Fin cfg0.N) (q : Fin 1024) :
    (iblk m c 6 t : Vec Ideal S1x1024 .f32) (ix2 0 q) = V m c main_v7 (ix2 0 q) := by
  obtain ⟨h0, h1⟩ := idx6 t
  unfold iblk
  rw [View.read_apply]
  show V m c main_v7 _ = _
  congr 1
  funext a
  apply Fin.ext
  match a with
  | ⟨0, _⟩ => show win0_6.index t 0 * 1 + 1 * 0 = 0; rw [h0]
  | ⟨1, _⟩ => show win0_6.index t 1 * 1024 + 1 * q.val = q.val; rw [h1]; omega

/-! ## The operands in terms of the arguments -/

theorem v_x (i : S4x8192x1024.Idx) : V m c main_arg0 i = m ((c.tc : Thread nD τ).loc main_arg0) i := by
  unfold V; after_results <;> rfl

/-- The attention's output with its heads split and carried before the rows. -/
def oHeads (x : FVec Ideal S4x8192x1024 .f32) : FVec Ideal S4x4x8192x256 .bf16 :=
  truncf .bf16 (transpose S4x4x8192x256 [0, 2, 1, 3] (shapeCast S4x8192x4x256 x shapeCasts_S4x8192x1024_S4x8192x4x256)
    transposes_S4x8192x4x256_S4x4x8192x256_0_2_1_3) bitsLt_bf16_f32

theorem oHeads_at (x : FVec Ideal S4x8192x1024 .f32) (b : Fin 4) (g : Fin 4) (l : Fin 8192) (d : Fin 256) :
    oHeads x (ix4 b g l d) = x (ix3 b l ⟨g.val * 256 + d.val, by omega⟩) := by
  pointwise [oHeads]

theorem v_o : V m c main_v2 = oHeads (m ((c.tc : Thread nD τ).loc main_arg1)) := by
  unfold V; after_results <;> rfl

theorem v_wo (p q : Fin 1024) : V m c main_v3 (ix2 p q) = m ((c.tc : Thread nD τ).loc main_arg2) (ix2 p q) := by
  unfold V; after_results <;> rfl
theorem v_g (q : Fin 1024) : V m c main_v4 (ix2 0 q) = m ((c.tc : Thread nD τ).loc main_arg3) (ix1 q) := by
  have e : V m c main_v4 = broadcastInDim S1x1024 ![1] bcast_S1024_S1x1024_1 (m ((c.tc : Thread nD τ).loc main_arg3) : FVec Ideal S1024 .f32) := by
    unfold V; after_results <;> rfl
  rw [e]
  generalize (m ((c.tc : Thread nD τ).loc main_arg3) : FVec Ideal S1024 .f32) = x
  pointwise
theorem v_in (p : Fin 1024) (q : Fin 4096) : V m c main_v5 (ix2 p q) = m ((c.tc : Thread nD τ).loc main_arg4) (ix2 p q) := by
  unfold V; after_results <;> rfl
theorem v_out (p : Fin 4096) (q : Fin 1024) : V m c main_v6 (ix2 p q) = m ((c.tc : Thread nD τ).loc main_arg5) (ix2 p q) := by
  unfold V; after_results <;> rfl
theorem v_gf (q : Fin 1024) : V m c main_v7 (ix2 0 q) = m ((c.tc : Thread nD τ).loc main_arg6) (ix1 q) := by
  have e : V m c main_v7 = broadcastInDim S1x1024 ![1] bcast_S1024_S1x1024_1 (m ((c.tc : Thread nD τ).loc main_arg6) : FVec Ideal S1024 .f32) := by
    unfold V; after_results <;> rfl
  rw [e]
  generalize (m ((c.tc : Thread nD τ).loc main_arg6) : FVec Ideal S1024 .f32) = x
  pointwise

end Cert.Mlp

end
-- ==== Proof.Mlp.Ref.lean ====
/- The end of a layer as the reference computes it, row by row. -/
module

public import proofs.«01_k».proof.Proof.Mlp.Rows
public import proofs.«01_k».proof.Proof.Gen.Reference2Ideal.Run

@[expose] public section

noncomputable section

namespace Cert.Mlp

open Cert.Reference2Ideal Cert.Reference2Ideal.Gen Idealize.ShloMosaic Idealize.ShloMosaic.Tactic Finset

/-- The residual after the attention, -/
def rRes (x o : FVec Ideal S4x8192x1024 .f32) (wo : FVec Ideal S1024x1024 .f32) : FVec Ideal S4x8192x1024 .f32 :=
  addf x (Host.dotGeneral dot_S4x8192x1024_S1024x1024_S4x8192x1024_2_0_01_1_n_n none o wo)

/-- the norm, -/
def rNrm (y : FVec Ideal S4x8192x1024 .f32) (g : FVec Ideal S1024 .f32) : FVec Ideal S4x8192x1024 .f32 :=
  mulf (mulf y (broadcastInDim S4x8192x1024 ![0, 1, 2] bcast_S4x8192x1_S4x8192x1024_0_1_2 (Host.rsqrt (addf (Host.divf
      (broadcastInDim S4x8192x1 ![0, 1] bcast_S4x8192_S4x8192x1_0_1
        (Host.reduceAdd (mulf y y) (constant S_ .f32 0x00000000#32) reducesTo_S4x8192x1024_S4x8192_d2 h_S_))
      (broadcastInDim S4x8192x1 ![] bcast_S_S4x8192x1 (constant S_ .f32 0x44800000#32)))
      (broadcastInDim S4x8192x1 ![] bcast_S_S4x8192x1 (constant S_ .f32 0x358637BD#32))))))
    (broadcastInDim S4x8192x1024 ![0, 1, 2] bcast_S1x1x1024_S4x8192x1024_0_1_2 (broadcastInDim S1x1x1024 ![2] bcast_S1024_S1x1x1024_2 g))

/-- the hidden units before their squares, -/
def rHid (y : FVec Ideal S4x8192x1024 .f32) (g : FVec Ideal S1024 .f32) (win : FVec Ideal S1024x4096 .f32) : FVec Ideal S4x8192x4096 .f32 :=
  maximumf (Host.dotGeneral dot_S4x8192x1024_S1024x4096_S4x8192x4096_2_0_01_1_n_n none (rNrm y g) win)
    (broadcastInDim S4x8192x4096 ![] bcast_S_S4x8192x4096 (constant S_ .f32 0x00000000#32))

/-- and the residual after the MLP. -/
def rMlp (y : FVec Ideal S4x8192x1024 .f32) (g : FVec Ideal S1024 .f32) (win : FVec Ideal S1024x4096 .f32)
    (wout : FVec Ideal S4096x1024 .f32) : FVec Ideal S4x8192x1024 .f32 :=
  addf y (Host.dotGeneral dot_S4x8192x4096_S4096x1024_S4x8192x1024_2_0_01_1_n_n none (mulf (rHid y g win) (rHid y g win)) wout)

theorem rRes_at (x o : FVec Ideal S4x8192x1024 .f32) (wo : FVec Ideal S1024x1024 .f32) (b : Fin 4) (l : Fin 8192) (i : Fin 1024) :
    rRes x o wo (ix3 b l i)
      = resRow (fun j => x (ix3 b l j)) (fun j => o (ix3 b l j)) (fun j k => wo (ix2 j k)) i := by
  pointwise [rRes, resRow]

theorem rNrm_at (y : FVec Ideal S4x8192x1024 .f32) (g : FVec Ideal S1024 .f32) (b : Fin 4) (l : Fin 8192) (i : Fin 1024) :
    rNrm y g (ix3 b l i) = rmsRow (fun j => y (ix3 b l j)) (fun j => g (ix1 j)) i := by
  pointwise [rNrm, rmsRow]

theorem rMlp_at (y : FVec Ideal S4x8192x1024 .f32) (g : FVec Ideal S1024 .f32) (win : FVec Ideal S1024x4096 .f32)
    (wout : FVec Ideal S4096x1024 .f32) (b : Fin 4) (l : Fin 8192) (i : Fin 1024) :
    rMlp y g win wout (ix3 b l i)
      = mlpRow (fun j => y (ix3 b l j)) (fun j => g (ix1 j)) (fun d f => win (ix2 d f)) (fun f k => wout (ix2 f k)) i := by
  pointwise [rMlp, rHid, mlpRow, unit, sqRelu]
  simp only [rNrm_at]

variable (m : (ℓ : Loc nD τ sig) → Buf (Elt Ideal) ℓ) (c : Dev nD)

/-- The reference's result in these terms. -/
theorem result2 : Value.res_main_v32 m c
    = rNrm (rMlp (rRes (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5)))
      (m ((c.tc : Thread nD τ).loc main_arg6)) := rfl

end Cert.Mlp

end
-- ==== Proof.Mlp.Final.lean ====
/- The last layer's MLP kernel leaves the reference's result. -/
module

public import proofs.«01_k».proof.Proof.Mlp.Block
public import proofs.«01_k».proof.Proof.Mlp.Ref

@[expose] public section

noncomputable section

namespace Cert.Mlp

open Cert.Kernel2Ideal Cert.Kernel2Ideal.Gen Idealize.ShloMosaic Idealize.ShloMosaic.Tactic Finset

variable (m : (ℓ : Loc nD τ sig) → Buf (Elt Ideal) ℓ) (c : Dev nD)

/-- The reference's residual after the MLP, of the kernel's arguments. -/
def refMlp : FVec Ideal S4x8192x1024 .f32 :=
  rMlp (rRes (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- A point's body has that residual's rows. -/
theorem body_row (t : Fin cfg0.N) (r i : Fin 1024) :
    body (iblk m c 0 t) (iblk m c 1 t) (iblk m c 2 t) (iblk m c 3 t) (iblk m c 4 t) (iblk m c 5 t) (ix2 r i)
      = refMlp m c (ix3 (bOf t) (lOf t r) i) := by
  unfold refMlp
  rw [rMlp_at]
  refine (body_at _ _ _ _ _ _ r i).trans ?_
  congr 1
  · funext j
    rw [rRes_at]
    congr 1
    · funext k
      rw [iblk0, v_x]
    · funext k
      rw [iblk1, v_o, oHeads_at]
      refine congrArg (fun y => (m ((c.tc : Thread nD τ).loc main_arg1) : FVec Ideal S4x8192x1024 .f32) (ix3 (bOf t) (lOf t r) y)) (Fin.ext ?_)
      show k.val / 256 * 256 + k.val % 256 = k.val
      omega
    · funext k q
      rw [iblk2, v_wo]
  · funext j
    rw [iblk3, v_g]
  · funext d f
    rw [iblk4, v_in]
  · funext f k
    rw [iblk5, v_out]

/-- The array's index at an element of a point's block of the output. -/
theorem blk7 (t : Fin cfg0.N) (r i : Fin 1024) :
    ((cfg0.win 7).blk t).view.emb (ix3 0 r i) = (ix3 (bOf t) (lOf t r) i : S4x8192x1024.Idx) := by
  obtain ⟨h0, h1, h2⟩ := idx7 t
  funext a
  apply Fin.ext
  match a with
  | ⟨0, _⟩ => show win0_7.index t 0 * 1 + 1 * 0 = t.val / 8; rw [h0]; omega
  | ⟨1, _⟩ => show win0_7.index t 1 * 1024 + 1 * r.val = 1024 * (t.val % 8) + r.val; rw [h1]; omega
  | ⟨2, _⟩ => show win0_7.index t 2 * 1024 + 1 * i.val = i.val; rw [h2]; omega

/-- Every index of the array lies in a point's block. -/
theorem at_point (x : S4x8192x1024.Idx) : ∃ (t : Fin cfg0.N) (r i : Fin 1024), x = ix3 (bOf t) (lOf t r) i := by
  obtain ⟨b, l, i, rfl⟩ : ∃ (b : Fin 4) (l : Fin 8192) (i : Fin 1024), x = ix3 b l i := ⟨x 0, x 1, x 2, eq_ix3 x⟩
  have hl := l.isLt
  have hb := b.isLt
  obtain ⟨t, r, rfl, rfl⟩ : ∃ (t : Fin cfg0.N) (r : Fin 1024), bOf t = b ∧ lOf t r = l :=
    ⟨⟨8 * b.val + l.val / 1024, lt_of_lt_of_eq (by omega) N_0.symm⟩, ⟨l.val % 1024, by omega⟩,
      Fin.ext (by show (8 * b.val + l.val / 1024) / 8 = b.val; omega),
      Fin.ext (by show 1024 * ((8 * b.val + l.val / 1024) % 8) + l.val % 1024 = l.val; omega)⟩
  exact ⟨t, r, i, rfl⟩

/-- The kernel's result is the reference's, of the same arguments. -/
theorem result_final :
    ((dats m 0 c).arrAt 7 cfg0.N : FVec Ideal S4x8192x1024 .f32)
      = rNrm (refMlp m c) (m ((c.tc : Thread nD τ).loc main_arg6)) := by
  refine funext fun (x : S4x8192x1024.Idx) => ?_
  obtain ⟨t, r, i, rfl⟩ := at_point x
  have e := congrFun (Cert.Kernel2Ideal.Value.blocks7 m c t (flush0_7 t)) (ix3 0 r i)
  rw [View.read_apply] at e
  refine (congrArg ((dats m 0 c).arrAt 7 cfg0.N) (blk7 t r i).symm).trans (e.trans ?_)
  refine (congrFun (Cert.Kernel2Ideal.Value.flushed7 m c t) (ix3 0 r i)).trans ?_
  refine (out_at _ _ _ _ _ _ _ r i).trans ?_
  rw [rNrm_at]
  congr 1
  · funext j
    rw [body_row]
  · funext j
    rw [iblk6, v_gf]

end Cert.Mlp

end
-- ==== Proof.Mlp.Middle.lean ====
/- The MLP kernel of an earlier layer, which leaves the residual without the final norm. Its operands, windows and rows are
   those of the last layer's kernel. -/
module

public import proofs.«01_k».proof.Proof.Mlp.Final
public import proofs.«01_k».proof.Proof.Gen.Kernel3Ideal.Value
public import proofs.«01_k».proof.Proof.Gen.Reference3Ideal.Run

@[expose] public section

noncomputable section

namespace Cert.Mlp

open Cert.Kernel3Ideal Cert.Kernel3Ideal.Gen Idealize.ShloMosaic Idealize.ShloMosaic.Tactic Finset

variable (m : (ℓ : Loc nD τ sig) → Buf (Elt Ideal) ℓ) (c : Dev nD)

/-- A window's block is that of the last layer's kernel, of the same memory. -/
theorem iblk_same (w : Fin 8) (t : Fin cfg0.N) : iblk m c w t = Cert.Kernel2Ideal.Gen.iblk m c w t := rfl

/-- The block that a point leaves is the residual after the MLP. -/
theorem out_middle_at (x0 : Vec Ideal S1x1024x1024 .f32) (x1 : Vec Ideal S1x4x1024x256 .bf16) (x2 : Vec Ideal S1024x1024 .bf16)
    (x3 : Vec Ideal S1x1024 .f32) (x4 : Vec Ideal S1024x4096 .bf16) (x5 : Vec Ideal S4096x1024 .bf16) (x6 : Vec Ideal S1x1024 .f32)
    (r i : Fin 1024) : out0_7 x0 x1 x2 x3 x4 x5 x6 (ix3 0 r i) = body x0 x1 x2 x3 x4 x5 (ix2 r i) := by
  have e : out0_7 x0 x1 x2 x3 x4 x5 x6 = View.canon [⟨r0_4, shapeCast S1x1024x1024
      (body x0 x1 x2 x3 x4 x5) shapeCasts_S1024x1024_S1x1024x1024⟩] := rfl
  rw [e, View.canon_unit_zero zero3]
  generalize body x0 x1 x2 x3 x4 x5 = y
  pointwise

/-- The kernel's result is the reference's, of the same arguments. -/
theorem result_middle : ((dats m 0 c).arrAt 7 cfg0.N : FVec Ideal S4x8192x1024 .f32) = refMlp m c := by
  refine funext fun (x : S4x8192x1024.Idx) => ?_
  obtain ⟨t, r, i, rfl⟩ := at_point x
  have e := congrFun (Cert.Kernel3Ideal.Value.blocks7 m c t (flush0_7 t)) (ix3 0 r i)
  rw [View.read_apply] at e
  refine (congrArg ((dats m 0 c).arrAt 7 cfg0.N) (blk7 t r i).symm).trans (e.trans ?_)
  refine (congrFun (Cert.Kernel3Ideal.Value.flushed7 m c t) (ix3 0 r i)).trans ?_
  refine (out_middle_at _ _ _ _ _ _ _ r i).trans ?_
  simp only [iblk_same]
  exact body_row m c t r i

end Cert.Mlp

end
-- ==== Proof.Mlp.RefSample.lean ====
/- The end of a layer as the reference computes it, row by row, for the sample's batch of two. -/
module

public import proofs.«01_k».proof.Proof.Mlp.Rows
public import proofs.«01_k».proof.Proof.Gen.Reference4Ideal.Run

@[expose] public section

noncomputable section

namespace Cert.Mlp.Sample

open Cert.Reference4Ideal Cert.Reference4Ideal.Gen Idealize.ShloMosaic Idealize.ShloMosaic.Tactic Finset

/-- The residual after the attention, -/
def rRes (x o : FVec Ideal S2x8192x1024 .f32) (wo : FVec Ideal S1024x1024 .f32) : FVec Ideal S2x8192x1024 .f32 :=
  addf x (Host.dotGeneral dot_S2x8192x1024_S1024x1024_S2x8192x1024_2_0_01_1_n_n none o wo)

/-- the norm, -/
def rNrm (y : FVec Ideal S2x8192x1024 .f32) (g : FVec Ideal S1024 .f32) : FVec Ideal S2x8192x1024 .f32 :=
  mulf (mulf y (broadcastInDim S2x8192x1024 ![0, 1, 2] bcast_S2x8192x1_S2x8192x1024_0_1_2 (Host.rsqrt (addf (Host.divf
      (broadcastInDim S2x8192x1 ![0, 1] bcast_S2x8192_S2x8192x1_0_1
        (Host.reduceAdd (mulf y y) (constant S_ .f32 0x00000000#32) reducesTo_S2x8192x1024_S2x8192_d2 h_S_))
      (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- the hidden units before their squares, -/
def rHid (y : FVec Ideal S2x8192x1024 .f32) (g : FVec Ideal S1024 .f32) (win : FVec Ideal S1024x4096 .f32) : FVec Ideal S2x8192x4096 .f32 :=
  maximumf (Host.dotGeneral dot_S2x8192x1024_S1024x4096_S2x8192x4096_2_0_01_1_n_n none (rNrm y g) win)
    (broadcastInDim S2x8192x4096 ![] bcast_S_S2x8192x4096 (constant S_ .f32 0x00000000#32))

/-- and the residual after the MLP. -/
def rMlp (y : FVec Ideal S2x8192x1024 .f32) (g : FVec Ideal S1024 .f32) (win : FVec Ideal S1024x4096 .f32)
    (wout : FVec Ideal S4096x1024 .f32) : FVec Ideal S2x8192x1024 .f32 :=
  addf y (Host.dotGeneral dot_S2x8192x4096_S4096x1024_S2x8192x1024_2_0_01_1_n_n none (mulf (rHid y g win) (rHid y g win)) wout)

theorem rRes_at (x o : FVec Ideal S2x8192x1024 .f32) (wo : FVec Ideal S1024x1024 .f32) (b : Fin 2) (l : Fin 8192) (i : Fin 1024) :
    rRes x o wo (ix3 b l i)
      = resRow (fun j => x (ix3 b l j)) (fun j => o (ix3 b l j)) (fun j k => wo (ix2 j k)) i := by
  pointwise [rRes, resRow]

theorem rNrm_at (y : FVec Ideal S2x8192x1024 .f32) (g : FVec Ideal S1024 .f32) (b : Fin 2) (l : Fin 8192) (i : Fin 1024) :
    rNrm y g (ix3 b l i) = rmsRow (fun j => y (ix3 b l j)) (fun j => g (ix1 j)) i := by
  pointwise [rNrm, rmsRow]

theorem rMlp_at (y : FVec Ideal S2x8192x1024 .f32) (g : FVec Ideal S1024 .f32) (win : FVec Ideal S1024x4096 .f32)
    (wout : FVec Ideal S4096x1024 .f32) (b : Fin 2) (l : Fin 8192) (i : Fin 1024) :
    rMlp y g win wout (ix3 b l i)
      = mlpRow (fun j => y (ix3 b l j)) (fun j => g (ix1 j)) (fun d f => win (ix2 d f)) (fun f k => wout (ix2 f k)) i := by
  pointwise [rMlp, rHid, mlpRow, unit, sqRelu]
  simp only [rNrm_at]

variable (m : (ℓ : Loc nD τ sig) → Buf (Elt Ideal) ℓ) (c : Dev nD)

/-- The reference's result in these terms. -/
theorem result4 : Value.res_main_v32 m c
    = rNrm (rMlp (rRes (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5)))
      (m ((c.tc : Thread nD τ).loc main_arg6)) := rfl

end Cert.Mlp.Sample

end
-- ==== Proof.Mlp.Sample.lean ====
/- The last layer's MLP kernel for the sample, a batch of two: its blocks are those of the prompt's call, and its windows
   read them from arrays of two batches. -/
module

public import proofs.«01_k».proof.Proof.Mlp.Block
public import proofs.«01_k».proof.Proof.Mlp.RefSample
public import proofs.«01_k».proof.Proof.Gen.Kernel4Ideal.Value

@[expose] public section

noncomputable section

namespace Cert.Mlp.Sample

open Cert.Kernel4Ideal Cert.Kernel4Ideal.Gen Idealize.ShloMosaic Idealize.ShloMosaic.Tactic Finset

/-! ## The windows' blocks -/

variable (m : (ℓ : Loc nD τ sig) → Buf (Elt Ideal) ℓ) (c : Dev nD)

theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx1 : ∀ t : Fin cfg0.N, win0_1.index t (0 : Fin 4) = t.val / 8 ∧ win0_1.index t (1 : Fin 4) = 0
    ∧ win0_1.index t (2 : Fin 4) = t.val % 8 ∧ win0_1.index t (3 : Fin 4) = 0 :=
  (by decide +kernel : ∀ t : Fin grid0.N, _)

theorem pt_lt (t : Fin cfg0.N) : t.val < 16 := lt_of_lt_of_eq t.isLt N_0

/-- The point's batch, -/
def bOf (t : Fin cfg0.N) : Fin 2 := ⟨t.val / 8, by have := pt_lt t; omega⟩
/-- and the array's row at a row of its block. -/
def lOf (t : Fin cfg0.N) (r : Fin 1024) : Fin 8192 := ⟨1024 * (t.val % 8) + r.val, by omega⟩

theorem iblk0 (t : Fin cfg0.N) (r i : Fin 1024) :
    (iblk m c 0 t : Vec Ideal S1x1024x1024 .f32) (ix3 0 r i) = V m c main_arg0 (ix3 (bOf t) (lOf t r) i) := by
  obtain ⟨h0, h1, h2⟩ := idx0 t
  unfold iblk
  rw [View.read_apply]
  show V m c main_arg0 _ = _
  congr 1
  funext a
  apply Fin.ext
  match a with
  | ⟨0, _⟩ => show win0_0.index t 0 * 1 + 1 * 0 = t.val / 8; rw [h0]; omega
  | ⟨1, _⟩ => show win0_0.index t 1 * 1024 + 1 * r.val = 1024 * (t.val % 8) + r.val; rw [h1]; omega
  | ⟨2, _⟩ => show win0_0.index t 2 * 1024 + 1 * i.val = i.val; rw [h2]; omega

theorem iblk1 (t : Fin cfg0.N) (g : Fin 4) (r : Fin 1024) (d : Fin 256) :
    (iblk m c 1 t : Vec Ideal S1x4x1024x256 .bf16) (ix4 0 g r d) = V m c main_v2 (ix4 (bOf t) g (lOf t r) d) := by
  obtain ⟨h0, h1, h2, h3⟩ := idx1 t
  unfold iblk
  rw [View.read_apply]
  show V m c main_v2 _ = _
  congr 1
  funext a
  apply Fin.ext
  match a with
  | ⟨0, _⟩ => show win0_1.index t 0 * 1 + 1 * 0 = t.val / 8; rw [h0]; omega
  | ⟨1, _⟩ => show win0_1.index t 1 * 4 + 1 * g.val = g.val; rw [h1]; omega
  | ⟨2, _⟩ => show win0_1.index t 2 * 1024 + 1 * r.val = 1024 * (t.val % 8) + r.val; rw [h2]; omega
  | ⟨3, _⟩ => show win0_1.index t 3 * 256 + 1 * d.val = d.val; rw [h3]; omega

theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 3) = t.val / 8 ∧ win0_7.index t (1 : Fin 3) = t.val % 8
    ∧ win0_7.index t (2 : Fin 3) = 0 :=
  (by decide +kernel : ∀ t : Fin grid0.N, _)

theorem iblk2 (t : Fin cfg0.N) (p : Fin 1024) (q : Fin 1024) :
    (iblk m c 2 t : Vec Ideal S1024x1024 .bf16) (ix2 p q) = V m c main_v3 (ix2 p q) := by
  obtain ⟨h0, h1⟩ := idx2 t
  unfold iblk
  rw [View.read_apply]
  show V m c main_v3 _ = _
  congr 1
  funext a
  apply Fin.ext
  match a with
  | ⟨0, _⟩ => show win0_2.index t 0 * 1024 + 1 * p.val = p.val; rw [h0]; omega
  | ⟨1, _⟩ => show win0_2.index t 1 * 1024 + 1 * q.val = q.val; rw [h1]; omega

theorem iblk3 (t : Fin cfg0.N) (q : Fin 1024) :
    (iblk m c 3 t : Vec Ideal S1x1024 .f32) (ix2 0 q) = V m c main_v4 (ix2 0 q) := by
  obtain ⟨h0, h1⟩ := idx3 t
  unfold iblk
  rw [View.read_apply]
  show V m c main_v4 _ = _
  congr 1
  funext a
  apply Fin.ext
  match a with
  | ⟨0, _⟩ => show win0_3.index t 0 * 1 + 1 * 0 = 0; rw [h0]
  | ⟨1, _⟩ => show win0_3.index t 1 * 1024 + 1 * q.val = q.val; rw [h1]; omega

theorem iblk4 (t : Fin cfg0.N) (p : Fin 1024) (q : Fin 4096) :
    (iblk m c 4 t : Vec Ideal S1024x4096 .bf16) (ix2 p q) = V m c main_v5 (ix2 p q) := by
  obtain ⟨h0, h1⟩ := idx4 t
  unfold iblk
  rw [View.read_apply]
  show V m c main_v5 _ = _
  congr 1
  funext a
  apply Fin.ext
  match a with
  | ⟨0, _⟩ => show win0_4.index t 0 * 1024 + 1 * p.val = p.val; rw [h0]; omega
  | ⟨1, _⟩ => show win0_4.index t 1 * 4096 + 1 * q.val = q.val; rw [h1]; omega

theorem iblk5 (t : Fin cfg0.N) (p : Fin 4096) (q : Fin 1024) :
    (iblk m c 5 t : Vec Ideal S4096x1024 .bf16) (ix2 p q) = V m c main_v6 (ix2 p q) := by
  obtain ⟨h0, h1⟩ := idx5 t
  unfold iblk
  rw [View.read_apply]
  show V m c main_v6 _ = _
  congr 1
  funext a
  apply Fin.ext
  match a with
  | ⟨0, _⟩ => show win0_5.index t 0 * 4096 + 1 * p.val = p.val; rw [h0]; omega
  | ⟨1, _⟩ => show win0_5.index t 1 * 1024 + 1 * q.val = q.val; rw [h1]; omega

theorem iblk6 (t : Fin cfg0.N) (q : Fin 1024) :
    (iblk m c 6 t : Vec Ideal S1x1024 .f32) (ix2 0 q) = V m c main_v7 (ix2 0 q) := by
  obtain ⟨h0, h1⟩ := idx6 t
  unfold iblk
  rw [View.read_apply]
  show V m c main_v7 _ = _
  congr 1
  funext a
  apply Fin.ext
  match a with
  | ⟨0, _⟩ => show win0_6.index t 0 * 1 + 1 * 0 = 0; rw [h0]
  | ⟨1, _⟩ => show win0_6.index t 1 * 1024 + 1 * q.val = q.val; rw [h1]; omega

/-! ## The operands in terms of the arguments -/

theorem v_x (i : S2x8192x1024.Idx) : V m c main_arg0 i = m ((c.tc : Thread nD τ).loc main_arg0) i := by
  unfold V; after_results <;> rfl

/-- The attention's output with its heads split and carried before the rows. -/
def oHeads (x : FVec Ideal S2x8192x1024 .f32) : FVec Ideal S2x4x8192x256 .bf16 :=
  truncf .bf16 (transpose S2x4x8192x256 [0, 2, 1, 3] (shapeCast S2x8192x4x256 x shapeCasts_S2x8192x1024_S2x8192x4x256)
    transposes_S2x8192x4x256_S2x4x8192x256_0_2_1_3) bitsLt_bf16_f32

theorem oHeads_at (x : FVec Ideal S2x8192x1024 .f32) (b : Fin 2) (g : Fin 4) (l : Fin 8192) (d : Fin 256) :
    oHeads x (ix4 b g l d) = x (ix3 b l ⟨g.val * 256 + d.val, by omega⟩) := by
  pointwise [oHeads]

theorem v_o : V m c main_v2 = oHeads (m ((c.tc : Thread nD τ).loc main_arg1)) := by
  unfold V; after_results <;> rfl

theorem v_wo (p q : Fin 1024) : V m c main_v3 (ix2 p q) = m ((c.tc : Thread nD τ).loc main_arg2) (ix2 p q) := by
  unfold V; after_results <;> rfl
theorem v_g (q : Fin 1024) : V m c main_v4 (ix2 0 q) = m ((c.tc : Thread nD τ).loc main_arg3) (ix1 q) := by
  have e : V m c main_v4 = broadcastInDim S1x1024 ![1] bcast_S1024_S1x1024_1 (m ((c.tc : Thread nD τ).loc main_arg3) : FVec Ideal S1024 .f32) := by
    unfold V; after_results <;> rfl
  rw [e]
  generalize (m ((c.tc : Thread nD τ).loc main_arg3) : FVec Ideal S1024 .f32) = x
  pointwise
theorem v_in (p : Fin 1024) (q : Fin 4096) : V m c main_v5 (ix2 p q) = m ((c.tc : Thread nD τ).loc main_arg4) (ix2 p q) := by
  unfold V; after_results <;> rfl
theorem v_out (p : Fin 4096) (q : Fin 1024) : V m c main_v6 (ix2 p q) = m ((c.tc : Thread nD τ).loc main_arg5) (ix2 p q) := by
  unfold V; after_results <;> rfl
theorem v_gf (q : Fin 1024) : V m c main_v7 (ix2 0 q) = m ((c.tc : Thread nD τ).loc main_arg6) (ix1 q) := by
  have e : V m c main_v7 = broadcastInDim S1x1024 ![1] bcast_S1024_S1x1024_1 (m ((c.tc : Thread nD τ).loc main_arg6) : FVec Ideal S1024 .f32) := by
    unfold V; after_results <;> rfl
  rw [e]
  generalize (m ((c.tc : Thread nD τ).loc main_arg6) : FVec Ideal S1024 .f32) = x
  pointwise

/-! ## The result -/

/-- The reference's residual after the MLP, of the kernel's arguments. -/
def refMlp : FVec Ideal S2x8192x1024 .f32 :=
  rMlp (rRes (m ((c.tc : Thread nD τ).loc main_arg0)) (m ((c.tc : Thread nD τ).loc main_arg1)) (m ((c.tc : Thread nD τ).loc main_arg2)))
    (m ((c.tc : Thread nD τ).loc main_arg3)) (m ((c.tc : Thread nD τ).loc main_arg4)) (m ((c.tc : Thread nD τ).loc main_arg5))

/-- A point's body has that residual's rows. -/
theorem body_row (t : Fin cfg0.N) (r i : Fin 1024) :
    body (iblk m c 0 t) (iblk m c 1 t) (iblk m c 2 t) (iblk m c 3 t) (iblk m c 4 t) (iblk m c 5 t) (ix2 r i)
      = refMlp m c (ix3 (bOf t) (lOf t r) i) := by
  unfold refMlp
  rw [rMlp_at]
  refine (body_at _ _ _ _ _ _ r i).trans ?_
  congr 1
  · funext j
    rw [rRes_at]
    congr 1
    · funext k
      rw [iblk0, v_x]
    · funext k
      rw [iblk1, v_o, oHeads_at]
      refine congrArg (fun y => (m ((c.tc : Thread nD τ).loc main_arg1) : FVec Ideal S2x8192x1024 .f32) (ix3 (bOf t) (lOf t r) y)) (Fin.ext ?_)
      show k.val / 256 * 256 + k.val % 256 = k.val
      omega
    · funext k q
      rw [iblk2, v_wo]
  · funext j
    rw [iblk3, v_g]
  · funext d f
    rw [iblk4, v_in]
  · funext f k
    rw [iblk5, v_out]

/-- The array's index at an element of a point's block of the output. -/
theorem blk7 (t : Fin cfg0.N) (r i : Fin 1024) :
    ((cfg0.win 7).blk t).view.emb (ix3 0 r i) = (ix3 (bOf t) (lOf t r) i : S2x8192x1024.Idx) := by
  obtain ⟨h0, h1, h2⟩ := idx7 t
  funext a
  apply Fin.ext
  match a with
  | ⟨0, _⟩ => show win0_7.index t 0 * 1 + 1 * 0 = t.val / 8; rw [h0]; omega
  | ⟨1, _⟩ => show win0_7.index t 1 * 1024 + 1 * r.val = 1024 * (t.val % 8) + r.val; rw [h1]; omega
  | ⟨2, _⟩ => show win0_7.index t 2 * 1024 + 1 * i.val = i.val; rw [h2]; omega

/-- Every index of the array lies in a point's block. -/
theorem at_point (x : S2x8192x1024.Idx) : ∃ (t : Fin cfg0.N) (r i : Fin 1024), x = ix3 (bOf t) (lOf t r) i := by
  obtain ⟨b, l, i, rfl⟩ : ∃ (b : Fin 2) (l : Fin 8192) (i : Fin 1024), x = ix3 b l i := ⟨x 0, x 1, x 2, eq_ix3 x⟩
  have hl := l.isLt
  have hb := b.isLt
  obtain ⟨t, r, rfl, rfl⟩ : ∃ (t : Fin cfg0.N) (r : Fin 1024), bOf t = b ∧ lOf t r = l :=
    ⟨⟨8 * b.val + l.val / 1024, lt_of_lt_of_eq (by omega) N_0.symm⟩, ⟨l.val % 1024, by omega⟩,
      Fin.ext (by show (8 * b.val + l.val / 1024) / 8 = b.val; omega),
      Fin.ext (by show 1024 * ((8 * b.val + l.val / 1024) % 8) + l.val % 1024 = l.val; omega)⟩
  exact ⟨t, r, i, rfl⟩

/-- The kernel's result is the reference's, of the same arguments. -/
theorem result_sample :
    ((dats m 0 c).arrAt 7 cfg0.N : FVec Ideal S2x8192x1024 .f32)
      = rNrm (refMlp m c) (m ((c.tc : Thread nD τ).loc main_arg6)) := by
  refine funext fun (x : S2x8192x1024.Idx) => ?_
  obtain ⟨t, r, i, rfl⟩ := at_point x
  have e := congrFun (Cert.Kernel4Ideal.Value.blocks7 m c t (flush0_7 t)) (ix3 0 r i)
  rw [View.read_apply] at e
  refine (congrArg ((dats m 0 c).arrAt 7 cfg0.N) (blk7 t r i).symm).trans (e.trans ?_)
  refine (congrFun (Cert.Kernel4Ideal.Value.flushed7 m c t) (ix3 0 r i)).trans ?_
  refine (out_at _ _ _ _ _ _ _ r i).trans ?_
  rw [rNrm_at]
  congr 1
  · funext j
    rw [body_row]
  · funext j
    rw [iblk6, v_gf]

end Cert.Mlp.Sample

end
-- ==== Proof.Qkv.Block.lean ====
/- The projection kernel's blocks at a grid point, element by element: queries, keys and values of normalised rows. -/
module

public import proofs.«01_k».proof.Proof.Mlp.Block
public import proofs.«01_k».proof.Proof.Gen.Kernel5Ideal.Value

@[expose] public section

noncomputable section

namespace Cert.Qkv

open Cert.Kernel5Ideal Cert.Kernel5Ideal.Gen Idealize.ShloMosaic Idealize.ShloMosaic.Tactic Finset
open Cert.Mlp (rmsRow nrm nrm_at prod prod_at same zero2 zero3)

/-! ## The body's products -/

/-- A product with the second factor transposed. -/
def prodT (x y : FVec Ideal S1024x1024 .bf16) : FVec Ideal S1024x1024 .f32 :=
  matmul dot_S1024x1024_S1024x1024_S1024x1024_1_1_0_0_n_n none (shapeCast S1024x1024 x shapeCasts_S1024x1024_S1024x1024) y
    (constant S1024x1024 .f32 0x00000000#32)

theorem prodT_at (x y : FVec Ideal S1024x1024 .bf16) (p r : Fin 1024) :
    prodT x y (ix2 p r) = ∑ j : Fin 1024, x (ix2 p j) * y (ix2 r j) := by
  unfold prodT
  pointwise

variable (x0 : Vec Ideal S1x1024x1024 .f32) (x1 : Vec Ideal S1x1024 .f32) (x2 : Vec Ideal S2048x1024 .bf16)
  (x3 : Vec Ideal S1024x1024 .bf16)

/-- The normalised rows. -/
def hid : FVec Ideal S1024x1024 .bf16 := k0_pay4 (View.ld x0 r0_0) (View.ld x1 r0_1)

theorem hid_at (r d : Fin 1024) : hid x0 x1 (ix2 r d) = rmsRow (fun j => x0 (ix3 0 r j)) (fun j => x1 (ix2 0 j)) d := by
  unfold hid
  rw [View.ld_unit_zero zero3, View.ld_unit_zero zero2]
  refine (nrm_at (shapeCast S1024x1024 x0 shapeCasts_S1x1024x1024_S1024x1024) x1 r d).trans ?_
  congr 1
  funext j
  pointwise

/-! ## The queries -/

theorem qSlices (n : ℕ) : S1024x1024.Slices ![0, 512 * (n % 2)] S1024x512 :=
  ⟨rfl, fun a => match a with
    | ⟨0, _⟩ => (by decide : 0 + 1024 ≤ 1024)
    | ⟨1, _⟩ => (by omega : 512 * (n % 2) + 512 ≤ 1024)⟩

/-- A tile of 512 scaled queries. -/
def qPiece (v : FVec Ideal S1024x1024 .f32) (n : ℕ) : FVec Ideal S1x1x1024x512 .bf16 :=
  shapeCast S1x1x1024x512 (truncf .bf16 (mulf (extractStridedSlice S1024x512 ![0, 512 * (n % 2)] v (qSlices n))
    (broadcast S1024x512 (Scalar.ofBits .f32 0x3E38AA3B#32))) bitsLt_bf16_f32) shapeCasts_S1024x512_S1x1x1024x512

theorem qPiece_at (v : FVec Ideal S1024x1024 .f32) (n : ℕ) (a b : Fin 1) (p : Fin 1024) (r : Fin 512) :
    qPiece v n (ix4 a b p r) = v (ix2 p ⟨512 * (n % 2) + r.val, by omega⟩) * Ideal.ofBits .f32 0x3E38AA3B#32 := by
  unfold qPiece
  pointwise

/-- Where the tile goes. -/
def qRect (n : ℕ) : Rect S1x2x1024x512 :=
  Rect.unit ![0, n % 2, 0, 0] S1x1x1024x512.size fun a => match a with
    | ⟨0, _⟩ => (by decide : 0 + 1 ≤ 1)
    | ⟨1, _⟩ => (by omega : n % 2 + 1 ≤ 2)
    | ⟨2, _⟩ => (by decide : 0 + 1024 ≤ 1024)
    | ⟨3, _⟩ => (by decide : 0 + 512 ≤ 512)

/-- The weights' upper half, which makes the queries. -/
def wq : FVec Ideal S1024x1024 .bf16 := View.ld x2 r0_7

theorem wq_at (p j : Fin 1024) : wq x2 (ix2 p j) = x2 (ix2 ⟨p.val, by omega⟩ j) := by
  show x2 _ = x2 _
  congr 1
  funext a
  apply Fin.ext
  match a with
  | ⟨0, _⟩ => show 0 + 1 * p.val = p.val; omega
  | ⟨1, _⟩ => show 0 + 1 * j.val = j.val; omega

/-- The block of queries, by tile, feature and row. -/
def qBlk : FVec Ideal S1x2x1024x512 .bf16 := fun y =>
  prodT (wq x2) (hid x0 x1) (ix2 (y 2) ⟨512 * (y 1).val + (y 3).val, by have h1 := (y 1).isLt; have h3 := (y 3).isLt; change _ < 2 at h1; change _ < 512 at h3; omega⟩)
    * Ideal.ofBits .f32 0x3E38AA3B#32

/-- The tile and its place. -/
def qPc (v : FVec Ideal S1024x1024 .f32) (n : ℕ) : View.Piece (Elt Ideal) S1x2x1024x512 .bf16 := ⟨qRect n, qPiece v n⟩

theorem qEmb (n : ℕ) (a b : Fin 1) (p : Fin 1024) (r : Fin 512) :
    (qRect n).emb (ix4 a b p r : S1x1x1024x512.Idx) = (ix4 0 ⟨n % 2, by omega⟩ p r : S1x2x1024x512.Idx) := by
  funext k
  apply Fin.ext
  match k with
  | ⟨0, _⟩ => show 0 + 1 * a.val = 0; omega
  | ⟨1, _⟩ => show n % 2 + 1 * b.val = n % 2; omega
  | ⟨2, _⟩ => show 0 + 1 * p.val = p.val; omega
  | ⟨3, _⟩ => show 0 + 1 * r.val = r.val; omega

theorem qPc_eq (n : ℕ) (x : (qPc (prodT (wq x2) (hid x0 x1)) n).1.shape.Idx) :
    (qPc (prodT (wq x2) (hid x0 x1)) n).2 x = qBlk x0 x1 x2 ((qPc (prodT (wq x2) (hid x0 x1)) n).1.emb x) := by
  obtain ⟨a, b, p, r, rfl⟩ : ∃ (a b : Fin 1) (p : Fin 1024) (r : Fin 512), x = (ix4 a b p r : S1x1x1024x512.Idx) :=
    ⟨x 0, x 1, x 2, x 3, eq_ix4 x⟩
  refine (qPiece_at _ n a b p r).trans ?_
  show _ = qBlk x0 x1 x2 ((qRect n).emb _)
  rw [qEmb]
  rfl

theorem out4 : out0_4 x0 x1 x2 x3 = qBlk x0 x1 x2 := by
  refine funext fun (y : S1x2x1024x512.Idx) => ?_
  unfold out0_4
  refine View.canon_apply_of_pieces (Val := Elt Ideal) (qBlk x0 x1 x2) _ ?_ y (cover0_4 (F := Ideal) _ _ y)
  change ∀ p ∈ (List.range 2).reverse.map (qPc (prodT (wq x2) (hid x0 x1))), _
  intro p hp
  obtain ⟨n, -, rfl⟩ := List.mem_map.1 hp
  exact qPc_eq x0 x1 x2 n

/-! ## The keys -/

theorem kSlices (n : ℕ) : S1024x1024.Slices ![0, 256 * (n % 4)] S1024x256 :=
  ⟨rfl, fun a => match a with
    | ⟨0, _⟩ => (by decide : 0 + 1024 ≤ 1024)
    | ⟨1, _⟩ => (by omega : 256 * (n % 4) + 256 ≤ 1024)⟩

/-- A group's 256 features of the keys. -/
def kPiece (v : FVec Ideal S1024x1024 .f32) (n : ℕ) : FVec Ideal S1x1x1024x256 .bf16 :=
  shapeCast S1x1x1024x256 (extractStridedSlice S1024x256 ![0, 256 * (n % 4)] (truncf .bf16 v bitsLt_bf16_f32) (kSlices n))
    shapeCasts_S1024x256_S1x1x1024x256

theorem kPiece_at (v : FVec Ideal S1024x1024 .f32) (n : ℕ) (a b : Fin 1) (p : Fin 1024) (r : Fin 256) :
    kPiece v n (ix4 a b p r) = v (ix2 p ⟨256 * (n % 4) + r.val, by omega⟩) := by
  unfold kPiece
  pointwise

/-- Where they go. -/
def kRect (n : ℕ) : Rect S1x4x1024x256 :=
  Rect.unit ![0, n % 4, 0, 0] S1x1x1024x256.size fun a => match a with
    | ⟨0, _⟩ => (by decide : 0 + 1 ≤ 1)
    | ⟨1, _⟩ => (by omega : n % 4 + 1 ≤ 4)
    | ⟨2, _⟩ => (by decide : 0 + 1024 ≤ 1024)
    | ⟨3, _⟩ => (by decide : 0 + 256 ≤ 256)

/-- The block of keys, by group, row and feature. -/
def kBlk : FVec Ideal S1x4x1024x256 .bf16 := fun y =>
  prod (hid x0 x1) (same x3) (ix2 (y 2) ⟨256 * (y 1).val + (y 3).val, by have h1 := (y 1).isLt; have h3 := (y 3).isLt; change _ < 4 at h1; change _ < 256 at h3; omega⟩)

def kPc (v : FVec Ideal S1024x1024 .f32) (n : ℕ) : View.Piece (Elt Ideal) S1x4x1024x256 .bf16 := ⟨kRect n, kPiece v n⟩

theorem kEmb (n : ℕ) (a b : Fin 1) (p : Fin 1024) (r : Fin 256) :
    (kRect n).emb (ix4 a b p r : S1x1x1024x256.Idx) = (ix4 0 ⟨n % 4, by omega⟩ p r : S1x4x1024x256.Idx) := by
  funext k
  apply Fin.ext
  match k with
  | ⟨0, _⟩ => show 0 + 1 * a.val = 0; omega
  | ⟨1, _⟩ => show n % 4 + 1 * b.val = n % 4; omega
  | ⟨2, _⟩ => show 0 + 1 * p.val = p.val; omega
  | ⟨3, _⟩ => show 0 + 1 * r.val = r.val; omega

theorem kPc_eq (n : ℕ) (x : (kPc (prod (hid x0 x1) (same x3)) n).1.shape.Idx) :
    (kPc (prod (hid x0 x1) (same x3)) n).2 x = kBlk x0 x1 x3 ((kPc (prod (hid x0 x1) (same x3)) n).1.emb x) := by
  obtain ⟨a, b, p, r, rfl⟩ : ∃ (a b : Fin 1) (p : Fin 1024) (r : Fin 256), x = (ix4 a b p r : S1x1x1024x256.Idx) :=
    ⟨x 0, x 1, x 2, x 3, eq_ix4 x⟩
  refine (kPiece_at _ n a b p r).trans ?_
  show _ = kBlk x0 x1 x3 ((kRect n).emb _)
  rw [kEmb]
  rfl

theorem ld3 : View.ld x3 r0_2 = x3 := View.ld_unit_zero zero2 _ x3

theorem out5 : out0_5 x0 x1 x2 x3 = kBlk x0 x1 x3 := by
  refine funext fun (y : S1x4x1024x256.Idx) => ?_
  unfold out0_5
  rw [ld3]
  refine View.canon_apply_of_pieces (Val := Elt Ideal) (kBlk x0 x1 x3) _ ?_ y (cover0_5 (F := Ideal) _ _ _ _ y)
  change ∀ p ∈ (List.range 4).reverse.map (kPc (prod (hid x0 x1) (same x3))), _
  intro p hp
  obtain ⟨n, -, rfl⟩ := List.mem_map.1 hp
  exact kPc_eq x0 x1 x3 n

/-! ## The values -/

theorem vSlices (n : ℕ) : S1024x1024.Slices ![64 * (n / 4 % 16), 256 * (n % 4)] S64x256 :=
  ⟨rfl, fun a => match a with
    | ⟨0, _⟩ => (by omega : 64 * (n / 4 % 16) + 64 ≤ 1024)
    | ⟨1, _⟩ => (by omega : 256 * (n % 4) + 256 ≤ 1024)⟩

/-- A head's 64 features of 256 values. -/
def vPiece (v : FVec Ideal S1024x1024 .f32) (n : ℕ) : FVec Ideal S1x1x1x64x256 .bf16 :=
  shapeCast S1x1x1x64x256 (truncf .bf16 (extractStridedSlice S64x256 ![64 * (n / 4 % 16), 256 * (n % 4)] v (vSlices n)) bitsLt_bf16_f32)
    shapeCasts_S64x256_S1x1x1x64x256

theorem vPiece_at (v : FVec Ideal S1024x1024 .f32) (n : ℕ) (a b d : Fin 1) (p : Fin 64) (r : Fin 256) :
    vPiece v n (ix5 a b d p r) = v (ix2 ⟨64 * (n / 4 % 16) + p.val, by omega⟩ ⟨256 * (n % 4) + r.val, by omega⟩) := by
  unfold vPiece
  pointwise

/-- Where they go. -/
def vRect (n : ℕ) : Rect S1x16x4x64x256 :=
  Rect.unit ![0, n / 4 % 16, n % 4, 0, 0] S1x1x1x64x256.size fun a => match a with
    | ⟨0, _⟩ => (by decide : 0 + 1 ≤ 1)
    | ⟨1, _⟩ => (by omega : n / 4 % 16 + 1 ≤ 16)
    | ⟨2, _⟩ => (by omega : n % 4 + 1 ≤ 4)
    | ⟨3, _⟩ => (by decide : 0 + 64 ≤ 64)
    | ⟨4, _⟩ => (by decide : 0 + 256 ≤ 256)

/-- The weights' lower half, which makes the values. -/
def wv : FVec Ideal S1024x1024 .bf16 := View.ld x2 r0_10

theorem wv_at (p j : Fin 1024) : wv x2 (ix2 p j) = x2 (ix2 ⟨1024 + p.val, by omega⟩ j) := by
  show x2 _ = x2 _
  congr 1
  funext a
  apply Fin.ext
  match a with
  | ⟨0, _⟩ => show 1024 + 1 * p.val = 1024 + p.val; omega
  | ⟨1, _⟩ => show 0 + 1 * j.val = j.val; omega

/-- The block of values, by head, chunk of 256 rows, feature and row of the chunk. -/
def vBlk : FVec Ideal S1x16x4x64x256 .bf16 := fun y =>
  prodT (wv x2) (hid x0 x1) (ix2
    ⟨64 * (y 1).val + (y 3).val, by have h1 := (y 1).isLt; have h3 := (y 3).isLt; change _ < 16 at h1; change _ < 64 at h3; omega⟩
    ⟨256 * (y 2).val + (y 4).val, by have h1 := (y 2).isLt; have h3 := (y 4).isLt; change _ < 4 at h1; change _ < 256 at h3; omega⟩)

def vPc (v : FVec Ideal S1024x1024 .f32) (n : ℕ) : View.Piece (Elt Ideal) S1x16x4x64x256 .bf16 := ⟨vRect n, vPiece v n⟩

theorem vEmb (n : ℕ) (a b d : Fin 1) (p : Fin 64) (r : Fin 256) :
    (vRect n).emb (ix5 a b d p r : S1x1x1x64x256.Idx)
      = (ix5 0 ⟨n / 4 % 16, by omega⟩ ⟨n % 4, by omega⟩ p r : S1x16x4x64x256.Idx) := by
  funext k
  apply Fin.ext
  match k with
  | ⟨0, _⟩ => show 0 + 1 * a.val = 0; omega
  | ⟨1, _⟩ => show n / 4 % 16 + 1 * b.val = n / 4 % 16; omega
  | ⟨2, _⟩ => show n % 4 + 1 * d.val = n % 4; omega
  | ⟨3, _⟩ => show 0 + 1 * p.val = p.val; omega
  | ⟨4, _⟩ => show 0 + 1 * r.val = r.val; omega

theorem vPc_eq (n : ℕ) (x : (vPc (prodT (wv x2) (hid x0 x1)) n).1.shape.Idx) :
    (vPc (prodT (wv x2) (hid x0 x1)) n).2 x = vBlk x0 x1 x2 ((vPc (prodT (wv x2) (hid x0 x1)) n).1.emb x) := by
  obtain ⟨a, b, d, p, r, rfl⟩ : ∃ (a b d : Fin 1) (p : Fin 64) (r : Fin 256), x = (ix5 a b d p r : S1x1x1x64x256.Idx) :=
    ⟨x 0, x 1, x 2, x 3, x 4, eq_ix5 x⟩
  refine (vPiece_at _ n a b d p r).trans ?_
  show _ = vBlk x0 x1 x2 ((vRect n).emb _)
  rw [vEmb]
  rfl

theorem out6_pieces (y : S1x16x4x64x256.Idx) : out0_6 x0 x1 x2 x3 y
    = View.canon ((List.range 64).reverse.map (vPc (prodT (wv x2) (hid x0 x1)))) y := rfl

theorem vCover (v : FVec Ideal S1024x1024 .f32) (y : S1x16x4x64x256.Idx) :
    ∃ p ∈ (List.range 64).reverse.map (vPc v), y ∈ p.1.set := by
  obtain ⟨a, h, d, p, r, rfl⟩ : ∃ (a : Fin 1) (h : Fin 16) (d : Fin 4) (p : Fin 64) (r : Fin 256), y = ix5 a h d p r :=
    ⟨y 0, y 1, y 2, y 3, y 4, eq_ix5 y⟩
  refine ⟨vPc v (4 * h.val + d.val), List.mem_map.2 ⟨_, by simp; omega, rfl⟩, ?_⟩
  have e : (ix5 a h d p r : S1x16x4x64x256.Idx) = (vRect (4 * h.val + d.val)).emb (ix5 0 0 0 p r : S1x1x1x64x256.Idx) := by
    rw [vEmb]
    funext k
    apply Fin.ext
    match k with
    | ⟨0, _⟩ => show a.val = 0; omega
    | ⟨1, _⟩ => show h.val = (4 * h.val + d.val) / 4 % 16; omega
    | ⟨2, _⟩ => show d.val = (4 * h.val + d.val) % 4; omega
    | ⟨3, _⟩ => rfl
    | ⟨4, _⟩ => rfl
  rw [e]
  exact LoadRect.idx_mem _ _

theorem out6 : out0_6 x0 x1 x2 x3 = vBlk x0 x1 x2 := by
  refine funext fun (y : S1x16x4x64x256.Idx) => ?_
  refine (out6_pieces x0 x1 x2 x3 y).trans (View.canon_apply_of_pieces (Val := Elt Ideal) (vBlk x0 x1 x2) _ ?_ y (vCover _ y))
  intro p hp
  obtain ⟨n, -, rfl⟩ := List.mem_map.1 hp
  exact vPc_eq x0 x1 x2 n

end Cert.Qkv

end
-- ==== Proof.Qkv.Ref.lean ====
/- The projections as the reference computes them, element by element. -/
module

public import proofs.«01_k».proof.Proof.Mlp.Ref
public import proofs.«01_k».proof.Proof.Gen.Reference5Ideal.Run

@[expose] public section

noncomputable section

namespace Cert.Qkv

open Cert.Reference5Ideal Cert.Reference5Ideal.Gen Idealize.ShloMosaic Idealize.ShloMosaic.Tactic Finset
open Cert.Mlp (rmsRow rNrm rNrm_at)

variable (x : FVec Ideal S4x8192x1024 .f32) (g : FVec Ideal S1024 .f32) (w : FVec Ideal S1024x3072 .f32)

/-- A feature of a row's projection. -/
def feat (b : Fin 4) (l : Fin 8192) (e : Fin 3072) : EReal :=
  ∑ j : Fin 1024, rmsRow (fun k => x (ix3 b l k)) (fun k => g (ix1 k)) j * w (ix2 j e)

/-- The normalised rows times the weights, -/
def rProj : FVec Ideal S4x8192x3072 .f32 :=
  Host.dotGeneral dot_S4x8192x1024_S1024x3072_S4x8192x3072_2_0_01_1_n_n none (rNrm x g) w

theorem rProj_at (b : Fin 4) (l : Fin 8192) (e : Fin 3072) : rProj x g w (ix3 b l e) = feat x g w b l e := by
  unfold rProj
  pointwise
  simp only [rNrm_at]
  rfl

/-- the scaled queries in tiles of 512 rows, features first, -/
def rQ : FVec Ideal S4x16x1024x512 .bf16 :=
  transpose S4x16x1024x512 [0, 1, 3, 2] (shapeCast S4x16x512x1024 (truncf .bf16 (mulf
      (extractStridedSlice S4x8192x1024 ![0, 0, 0] (rProj x g w) slices_S4x8192x3072_S4x8192x1024_0_0_0)
      (broadcastInDim S4x8192x1024 ![] bcast_S_S4x8192x1024 (constant S_ .f32 0x3E38AA3B#32))) bitsLt_bf16_f32)
    shapeCasts_S4x8192x1024_S4x16x512x1024) transposes_S4x16x512x1024_S4x16x1024x512_0_1_3_2

theorem rQ_at (b : Fin 4) (t : Fin 16) (f : Fin 1024) (r : Fin 512) :
    rQ x g w (ix4 b t f r)
      = feat x g w b ⟨t.val * 512 + r.val, by omega⟩ ⟨f.val, by omega⟩ * Ideal.ofBits .f32 0x3E38AA3B#32 := by
  rw [← rProj_at]
  unfold rQ
  generalize rProj x g w = y
  pointwise

/-- the keys in groups of 256 features, -/
def rK : FVec Ideal S4x4x8192x256 .bf16 :=
  transpose S4x4x8192x256 [0, 2, 1, 3] (shapeCast S4x8192x4x256 (truncf .bf16
      (extractStridedSlice S4x8192x1024 ![0, 0, 1024] (rProj x g w) slices_S4x8192x3072_S4x8192x1024_0_0_1024) bitsLt_bf16_f32)
    shapeCasts_S4x8192x1024_S4x8192x4x256) transposes_S4x8192x4x256_S4x4x8192x256_0_2_1_3

theorem rK_at (b : Fin 4) (h : Fin 4) (l : Fin 8192) (d : Fin 256) :
    rK x g w (ix4 b h l d) = feat x g w b l ⟨1024 + (h.val * 256 + d.val), by omega⟩ := by
  rw [← rProj_at]
  unfold rK
  generalize rProj x g w = y
  pointwise

/-- and the values by head, in chunks of 256 rows, features first. -/
def rV : FVec Ideal S4x16x32x64x256 .bf16 :=
  transpose S4x16x32x64x256 [0, 3, 1, 4, 2] (shapeCast S4x32x256x16x64 (truncf .bf16
      (extractStridedSlice S4x8192x1024 ![0, 0, 2048] (rProj x g w) slices_S4x8192x3072_S4x8192x1024_0_0_2048) bitsLt_bf16_f32)
    shapeCasts_S4x8192x1024_S4x32x256x16x64) transposes_S4x32x256x16x64_S4x16x32x64x256_0_3_1_4_2

theorem rV_at (b : Fin 4) (h : Fin 16) (t : Fin 32) (d : Fin 64) (r : Fin 256) :
    rV x g w (ix5 b h t d r) = feat x g w b ⟨t.val * 256 + r.val, by omega⟩ ⟨2048 + (h.val * 64 + d.val), by omega⟩ := by
  rw [← rProj_at]
  unfold rV
  generalize rProj x g w = y
  pointwise

end Cert.Qkv

end
-- ==== Proof.Qkv.Value.lean ====
/- The projection kernel's three results are the reference's. -/
module

public import proofs.«01_k».proof.Proof.Qkv.Block
public import proofs.«01_k».proof.Proof.Qkv.Ref

@[expose] public section

noncomputable section

namespace Cert.Qkv

open Cert.Kernel5Ideal Cert.Kernel5Ideal.Gen Idealize.ShloMosaic Idealize.ShloMosaic.Tactic Finset
open Cert.Mlp (rmsRow prod prod_at same)

/-! ## The windows' blocks -/

variable (m : (ℓ : Loc nD τ sig) → Buf (Elt Ideal) ℓ) (c : Dev nD)

theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 4) = t.val / 8 ∧ win0_4.index t (1 : Fin 4) = t.val % 8
    ∧ win0_4.index t (2 : Fin 4) = 0 ∧ win0_4.index t (3 : Fin 4) = 0 :=
  (by decide +kernel : ∀ t : Fin grid0.N, _)
theorem idx5 : ∀ t : Fin cfg0.N, win0_5.index t (0 : Fin 4) = t.val / 8 ∧ win0_5.index t (1 : Fin 4) = 0
    ∧ win0_5.index t (2 : Fin 4) = t.val % 8 ∧ win0_5.index t (3 : Fin 4) = 0 :=
  (by decide +kernel : ∀ t : Fin grid0.N, _)
theorem idx6 : ∀ t : Fin cfg0.N, win0_6.index t (0 : Fin 5) = t.val / 8 ∧ win0_6.index t (1 : Fin 5) = 0
    ∧ win0_6.index t (2 : Fin 5) = t.val % 8 ∧ win0_6.index t (3 : Fin 5) = 0 ∧ win0_6.index t (4 : Fin 5) = 0 :=
  (by decide +kernel : ∀ t : Fin grid0.N, _)

theorem pt_lt (t : Fin cfg0.N) : t.val < 32 := lt_of_lt_of_eq t.isLt N_0

/-- The point's batch, -/
def bOf (t : Fin cfg0.N) : Fin 4 := ⟨t.val / 8, by have := pt_lt t; omega⟩
/-- and the array's row at a row of its block. -/
def lOf (t : Fin cfg0.N) (r : Fin 1024) : Fin 8192 := ⟨1024 * (t.val % 8) + r.val, by omega⟩

theorem iblk0 (t : Fin cfg0.N) (r i : Fin 1024) :
    (iblk m c 0 t : Vec Ideal S1x1024x1024 .f32) (ix3 0 r i) = V m c main_arg0 (ix3 (bOf t) (lOf t r) i) := by
  obtain ⟨h0, h1, h2⟩ := idx0 t
  unfold iblk
  rw [View.read_apply]
  show V m c main_arg0 _ = _
  congr 1
  funext a
  apply Fin.ext
  match a with
  | ⟨0, _⟩ => show win0_0.index t 0 * 1 + 1 * 0 = t.val / 8; rw [h0]; omega
  | ⟨1, _⟩ => show win0_0.index t 1 * 1024 + 1 * r.val = 1024 * (t.val % 8) + r.val; rw [h1]; omega
  | ⟨2, _⟩ => show win0_0.index t 2 * 1024 + 1 * i.val = i.val; rw [h2]; omega

theorem iblk1 (t : Fin cfg0.N) (q : Fin 1024) :
    (iblk m c 1 t : Vec Ideal S1x1024 .f32) (ix2 0 q) = V m c main_v5 (ix2 0 q) := by
  obtain ⟨h0, h1⟩ := idx1 t
  unfold iblk
  rw [View.read_apply]
  show V m c main_v5 _ = _
  congr 1
  funext a
  apply Fin.ext
  match a with
  | ⟨0, _⟩ => show win0_1.index t 0 * 1 + 1 * 0 = 0; rw [h0]
  | ⟨1, _⟩ => show win0_1.index t 1 * 1024 + 1 * q.val = q.val; rw [h1]; omega

theorem iblk2 (t : Fin cfg0.N) (p : Fin 2048) (q : Fin 1024) :
    (iblk m c 2 t : Vec Ideal S2048x1024 .bf16) (ix2 p q) = V m c main_v4 (ix2 p q) := by
  obtain ⟨h0, h1⟩ := idx2 t
  unfold iblk
  rw [View.read_apply]
  show V m c main_v4 _ = _
  congr 1
  funext a
  apply Fin.ext
  match a with
  | ⟨0, _⟩ => show win0_2.index t 0 * 2048 + 1 * p.val = p.val; rw [h0]; omega
  | ⟨1, _⟩ => show win0_2.index t 1 * 1024 + 1 * q.val = q.val; rw [h1]; omega

theorem iblk3 (t : Fin cfg0.N) (p q : Fin 1024) :
    (iblk m c 3 t : Vec Ideal S1024x1024 .bf16) (ix2 p q) = V m c main_v7 (ix2 p q) := by
  obtain ⟨h0, h1⟩ := idx3 t
  unfold iblk
  rw [View.read_apply]
  show V m c main_v7 _ = _
  congr 1
  funext a
  apply Fin.ext
  match a with
  | ⟨0, _⟩ => show win0_3.index t 0 * 1024 + 1 * p.val = p.val; rw [h0]; omega
  | ⟨1, _⟩ => show win0_3.index t 1 * 1024 + 1 * q.val = q.val; rw [h1]; omega

/-! ## The operands in terms of the arguments -/

/-- The arguments: the residual, the norm's gain and the weights. -/
abbrev argX : FVec Ideal S4x8192x1024 .f32 := m ((c.tc : Thread nD τ).loc main_arg0)
abbrev argG : FVec Ideal S1024 .f32 := m ((c.tc : Thread nD τ).loc main_arg1)
abbrev argW : FVec Ideal S1024x3072 .f32 := m ((c.tc : Thread nD τ).loc main_arg2)

theorem v_x (i : S4x8192x1024.Idx) : V m c main_arg0 i = argX m c i := by
  unfold V; after_results <;> rfl

theorem v_g (q : Fin 1024) : V m c main_v5 (ix2 0 q) = argG m c (ix1 q) := by
  have e : V m c main_v5 = broadcastInDim S1x1024 ![1] bcast_S1024_S1x1024_1 (argG m c) := by
    unfold V; after_results <;> rfl
  rw [e]
  generalize argG m c = x
  pointwise

/-- The weights of queries and values side by side, transposed. -/
def wQV (w : FVec Ideal S1024x3072 .f32) : FVec Ideal S2048x1024 .bf16 :=
  truncf .bf16 (transpose S2048x1024 [1, 0] (concatenate S1024x2048 1
      [⟨S1024x1024, extractStridedSlice S1024x1024 ![0, 0] w slices_S1024x3072_S1024x1024_0_0⟩,
        ⟨S1024x1024, extractStridedSlice S1024x1024 ![0, 2048] w slices_S1024x3072_S1024x1024_0_2048⟩]
      concatenates_S1024x1024_S1024x1024_S1024x2048_d1) transposes_S1024x2048_S2048x1024_1_0) bitsLt_bf16_f32

theorem v_w : V m c main_v4 = wQV (argW m c) := by
  unfold V; after_results <;> rfl

theorem wQV_q (w : FVec Ideal S1024x3072 .f32) (p j : Fin 1024) :
    wQV w (ix2 ⟨p.val, by omega⟩ j) = w (ix2 j ⟨p.val, by omega⟩) := by
  unfold wQV
  pointwise

theorem wQV_v (w : FVec Ideal S1024x3072 .f32) (p j : Fin 1024) :
    wQV w (ix2 ⟨1024 + p.val, by omega⟩ j) = w (ix2 j ⟨2048 + p.val, by omega⟩) := by
  unfold wQV
  pointwise

theorem v_k (j p : Fin 1024) : V m c main_v7 (ix2 j p) = argW m c (ix2 j ⟨1024 + p.val, by omega⟩) := by
  have e : V m c main_v7 = truncf .bf16 (extractStridedSlice S1024x1024 ![0, 1024] (argW m c) slices_S1024x3072_S1024x1024_0_1024)
      bitsLt_bf16_f32 := by
    unfold V; after_results <;> rfl
  rw [e]
  generalize argW m c = x
  pointwise

/-! ## The products at a point -/

theorem hid_row (t : Fin cfg0.N) (r d : Fin 1024) : hid (iblk m c 0 t) (iblk m c 1 t) (ix2 r d)
    = rmsRow (fun k => argX m c (ix3 (bOf t) (lOf t r) k)) (fun k => argG m c (ix1 k)) d := by
  refine (hid_at _ _ r d).trans ?_
  congr 1
  · funext j
    rw [iblk0, v_x]
  · funext j
    rw [iblk1, v_g]

theorem q_row (t : Fin cfg0.N) (f r : Fin 1024) :
    prodT (wq (iblk m c 2 t)) (hid (iblk m c 0 t) (iblk m c 1 t)) (ix2 f r)
      = feat (argX m c) (argG m c) (argW m c) (bOf t) (lOf t r) ⟨f.val, by omega⟩ := by
  rw [prodT_at]
  refine Finset.sum_congr rfl fun j _ => ?_
  rw [wq_at, hid_row, iblk2, v_w, wQV_q, mul_comm]

theorem v_row (t : Fin cfg0.N) (f r : Fin 1024) :
    prodT (wv (iblk m c 2 t)) (hid (iblk m c 0 t) (iblk m c 1 t)) (ix2 f r)
      = feat (argX m c) (argG m c) (argW m c) (bOf t) (lOf t r) ⟨2048 + f.val, by omega⟩ := by
  rw [prodT_at]
  refine Finset.sum_congr rfl fun j _ => ?_
  rw [wv_at, hid_row, iblk2, v_w, wQV_v, mul_comm]

theorem k_row (t : Fin cfg0.N) (r f : Fin 1024) :
    prod (hid (iblk m c 0 t) (iblk m c 1 t)) (same (iblk m c 3 t)) (ix2 r f)
      = feat (argX m c) (argG m c) (argW m c) (bOf t) (lOf t r) ⟨1024 + f.val, by omega⟩ := by
  refine (prod_at _ _ r f).trans (Finset.sum_congr rfl fun j _ => ?_)
  rw [hid_row]
  congr 1
  have e : same (iblk m c 3 t) (ix2 j f) = (iblk m c 3 t : Vec Ideal S1024x1024 .bf16) (ix2 j f) := by
    generalize (iblk m c 3 t : Vec Ideal S1024x1024 .bf16) = y
    unfold same
    pointwise
  rw [e, iblk3, v_k]

/-! ## The results -/

/-- The point of a batch and of an eighth of its rows. -/
def pt (b : Fin 4) (i : Fin 8) : Fin cfg0.N := ⟨8 * b.val + i.val, lt_of_lt_of_eq (by omega) N_0.symm⟩

theorem bOf_pt (b : Fin 4) (i : Fin 8) : bOf (pt b i) = b := Fin.ext (by show (8 * b.val + i.val) / 8 = b.val; omega)

theorem lOf_pt (b : Fin 4) (i : Fin 8) (r : Fin 1024) (l : Fin 8192) (h : l.val = 1024 * i.val + r.val) : lOf (pt b i) r = l :=
  Fin.ext (by show 1024 * ((8 * b.val + i.val) % 8) + r.val = l.val; omega)

theorem blk4 (b : Fin 4) (i : Fin 8) (s : Fin 2) (f : Fin 1024) (r : Fin 512) :
    ((cfg0.win 4).blk (pt b i)).view.emb (ix4 0 s f r) = (ix4 b ⟨2 * i.val + s.val, by omega⟩ f r : S4x16x1024x512.Idx) := by
  obtain ⟨h0, h1, h2, h3⟩ := idx4 (pt b i)
  funext a
  apply Fin.ext
  match a with
  | ⟨0, _⟩ => show win0_4.index (pt b i) 0 * 1 + 1 * 0 = b.val; rw [h0]; show (8 * b.val + i.val) / 8 * 1 + 1 * 0 = _; omega
  | ⟨1, _⟩ => show win0_4.index (pt b i) 1 * 2 + 1 * s.val = 2 * i.val + s.val; rw [h1]; show (8 * b.val + i.val) % 8 * 2 + 1 * s.val = _; omega
  | ⟨2, _⟩ => show win0_4.index (pt b i) 2 * 1024 + 1 * f.val = f.val; rw [h2]; omega
  | ⟨3, _⟩ => show win0_4.index (pt b i) 3 * 512 + 1 * r.val = r.val; rw [h3]; omega

/-- The queries, -/
theorem result_q : ((dats m 0 c).arrAt 4 cfg0.N : FVec Ideal S4x16x1024x512 .bf16) = rQ (argX m c) (argG m c) (argW m c) := by
  refine funext fun (y : S4x16x1024x512.Idx) => ?_
  obtain ⟨b, n, f, r, rfl⟩ : ∃ (b : Fin 4) (n : Fin 16) (f : Fin 1024) (r : Fin 512), y = ix4 b n f r := ⟨y 0, y 1, y 2, y 3, eq_ix4 y⟩
  obtain ⟨i, s, rfl⟩ : ∃ (i : Fin 8) (s : Fin 2), n = ⟨2 * i.val + s.val, by omega⟩ :=
    ⟨⟨n.val / 2, by omega⟩, ⟨n.val % 2, by omega⟩, Fin.ext (by show n.val = 2 * (n.val / 2) + n.val % 2; omega)⟩
  have e := congrFun (Cert.Kernel5Ideal.Value.blocks4 m c (pt b i) (flush0_4 _)) (ix4 0 s f r)
  rw [View.read_apply] at e
  refine (congrArg ((dats m 0 c).arrAt 4 cfg0.N) (blk4 b i s f r).symm).trans (e.trans ?_)
  refine (congrFun (Cert.Kernel5Ideal.Value.flushed4 m c (pt b i)) (ix4 0 s f r)).trans ?_
  refine (congrFun (out4 _ _ _ _) (ix4 0 s f r)).trans ?_
  rw [rQ_at]
  refine congrArg (· * Ideal.ofBits .f32 0x3E38AA3B#32) ((q_row m c (pt b i) f ⟨512 * s.val + r.val, by omega⟩).trans ?_)
  rw [bOf_pt, lOf_pt b i _ ⟨(2 * i.val + s.val) * 512 + r.val, by omega⟩ (by show (2 * i.val + s.val) * 512 + r.val = 1024 * i.val + (512 * s.val + r.val); omega)]

theorem blk5 (b : Fin 4) (i : Fin 8) (h : Fin 4) (r : Fin 1024) (d : Fin 256) :
    ((cfg0.win 5).blk (pt b i)).view.emb (ix4 0 h r d) = (ix4 b h ⟨1024 * i.val + r.val, by omega⟩ d : S4x4x8192x256.Idx) := by
  obtain ⟨h0, h1, h2, h3⟩ := idx5 (pt b i)
  funext a
  apply Fin.ext
  match a with
  | ⟨0, _⟩ => show win0_5.index (pt b i) 0 * 1 + 1 * 0 = b.val; rw [h0]; show (8 * b.val + i.val) / 8 * 1 + 1 * 0 = _; omega
  | ⟨1, _⟩ => show win0_5.index (pt b i) 1 * 4 + 1 * h.val = h.val; rw [h1]; omega
  | ⟨2, _⟩ => show win0_5.index (pt b i) 2 * 1024 + 1 * r.val = 1024 * i.val + r.val; rw [h2]; show (8 * b.val + i.val) % 8 * 1024 + 1 * r.val = _; omega
  | ⟨3, _⟩ => show win0_5.index (pt b i) 3 * 256 + 1 * d.val = d.val; rw [h3]; omega

/-- the keys, -/
theorem result_k : ((dats m 0 c).arrAt 5 cfg0.N : FVec Ideal S4x4x8192x256 .bf16) = rK (argX m c) (argG m c) (argW m c) := by
  refine funext fun (y : S4x4x8192x256.Idx) => ?_
  obtain ⟨b, h, l, d, rfl⟩ : ∃ (b : Fin 4) (h : Fin 4) (l : Fin 8192) (d : Fin 256), y = ix4 b h l d := ⟨y 0, y 1, y 2, y 3, eq_ix4 y⟩
  obtain ⟨i, r, rfl⟩ : ∃ (i : Fin 8) (r : Fin 1024), l = ⟨1024 * i.val + r.val, by omega⟩ :=
    ⟨⟨l.val / 1024, by omega⟩, ⟨l.val % 1024, by omega⟩, Fin.ext (by show l.val = 1024 * (l.val / 1024) + l.val % 1024; omega)⟩
  have e := congrFun (Cert.Kernel5Ideal.Value.blocks5 m c (pt b i) (flush0_5 _)) (ix4 0 h r d)
  rw [View.read_apply] at e
  refine (congrArg ((dats m 0 c).arrAt 5 cfg0.N) (blk5 b i h r d).symm).trans (e.trans ?_)
  refine (congrFun (Cert.Kernel5Ideal.Value.flushed5 m c (pt b i)) (ix4 0 h r d)).trans ?_
  refine (congrFun (out5 _ _ _ _) (ix4 0 h r d)).trans ?_
  rw [rK_at]
  refine (k_row m c (pt b i) r ⟨256 * h.val + d.val, by omega⟩).trans ?_
  rw [bOf_pt, lOf_pt b i _ ⟨1024 * i.val + r.val, by omega⟩ rfl]
  refine congrArg (feat _ _ _ _ _) (Fin.ext ?_)
  show 1024 + (256 * h.val + d.val) = 1024 + (h.val * 256 + d.val)
  omega

theorem blk6 (b : Fin 4) (i : Fin 8) (h : Fin 16) (s : Fin 4) (d : Fin 64) (r : Fin 256) :
    ((cfg0.win 6).blk (pt b i)).view.emb (ix5 0 h s d r) = (ix5 b h ⟨4 * i.val + s.val, by omega⟩ d r : S4x16x32x64x256.Idx) := by
  obtain ⟨h0, h1, h2, h3, h4⟩ := idx6 (pt b i)
  funext a
  apply Fin.ext
  match a with
  | ⟨0, _⟩ => show win0_6.index (pt b i) 0 * 1 + 1 * 0 = b.val; rw [h0]; show (8 * b.val + i.val) / 8 * 1 + 1 * 0 = _; omega
  | ⟨1, _⟩ => show win0_6.index (pt b i) 1 * 16 + 1 * h.val = h.val; rw [h1]; omega
  | ⟨2, _⟩ => show win0_6.index (pt b i) 2 * 4 + 1 * s.val = 4 * i.val + s.val; rw [h2]; show (8 * b.val + i.val) % 8 * 4 + 1 * s.val = _; omega
  | ⟨3, _⟩ => show win0_6.index (pt b i) 3 * 64 + 1 * d.val = d.val; rw [h3]; omega
  | ⟨4, _⟩ => show win0_6.index (pt b i) 4 * 256 + 1 * r.val = r.val; rw [h4]; omega

/-- and the values. -/
theorem result_v : ((dats m 0 c).arrAt 6 cfg0.N : FVec Ideal S4x16x32x64x256 .bf16) = rV (argX m c) (argG m c) (argW m c) := by
  refine funext fun (y : S4x16x32x64x256.Idx) => ?_
  obtain ⟨b, h, n, d, r, rfl⟩ : ∃ (b : Fin 4) (h : Fin 16) (n : Fin 32) (d : Fin 64) (r : Fin 256), y = ix5 b h n d r :=
    ⟨y 0, y 1, y 2, y 3, y 4, eq_ix5 y⟩
  obtain ⟨i, s, rfl⟩ : ∃ (i : Fin 8) (s : Fin 4), n = ⟨4 * i.val + s.val, by omega⟩ :=
    ⟨⟨n.val / 4, by omega⟩, ⟨n.val % 4, by omega⟩, Fin.ext (by show n.val = 4 * (n.val / 4) + n.val % 4; omega)⟩
  have e := congrFun (Cert.Kernel5Ideal.Value.blocks6 m c (pt b i) (flush0_6 _)) (ix5 0 h s d r)
  rw [View.read_apply] at e
  refine (congrArg ((dats m 0 c).arrAt 6 cfg0.N) (blk6 b i h s d r).symm).trans (e.trans ?_)
  refine (congrFun (Cert.Kernel5Ideal.Value.flushed6 m c (pt b i)) (ix5 0 h s d r)).trans ?_
  refine (congrFun (out6 _ _ _ _) (ix5 0 h s d r)).trans ?_
  rw [rV_at]
  refine (v_row m c (pt b i) ⟨64 * h.val + d.val, by omega⟩ ⟨256 * s.val + r.val, by omega⟩).trans ?_
  rw [bOf_pt, lOf_pt b i _ ⟨(4 * i.val + s.val) * 256 + r.val, by omega⟩ (by show (4 * i.val + s.val) * 256 + r.val = 1024 * i.val + (256 * s.val + r.val); omega)]
  refine congrArg (feat _ _ _ _ _) (Fin.ext ?_)
  show 2048 + (64 * h.val + d.val) = 2048 + (h.val * 64 + d.val)
  omega

end Cert.Qkv

end
-- ==== Proof.QkvA.Trace.lean ====
/- The body of the global attention's projection kernel at a grid point, written as the steps that it takes: the product
   into the scratch, the eight stores that turn its halves by the rotary angles, and what is read of the scratch for the
   three outputs. The pieces that the frame's run found are these, by evaluation (`run_q` and its neighbours below). -/
module

public import proofs.«01_k».proof.Proof.Gen.Kernel6Ideal.Value

@[expose] public section

noncomputable section

namespace Cert.QkvA

open Cert.Kernel6Ideal Cert.Kernel6Ideal.Gen Idealize.ShloMosaic Idealize.ShloMosaic.Tactic

variable {F : FTy → Type} [FloatOps F]

/-! ## The rectangles -/

/-- Sixteen features of the sixteen query heads in the scratch. -/
def qR (u : ℕ) : Rect S24x64x1024 :=
  Rect.unit ![0, 16 * (u % 4), 0] S16x16x1024.size (by
    intro a; fin_cases a <;> simp [S16x16x1024, S24x64x1024]; omega)

/-- Sixteen features of the four key heads. -/
def kR (u : ℕ) : Rect S24x64x1024 :=
  Rect.unit ![16, 16 * (u % 4), 0] S4x16x1024.size (by
    intro a; fin_cases a <;> simp [S4x16x1024, S24x64x1024]; omega)

/-- The whole scratch. -/
def allR : Rect S24x64x1024 :=
  Rect.unit ![0, 0, 0] S24x64x1024.size (by
    intro a; fin_cases a <;> simp [S24x64x1024])

/-- All query heads, -/
def qAll : Rect S24x64x1024 :=
  Rect.unit ![0, 0, 0] S16x64x1024.size (by
    intro a; fin_cases a <;> simp [S16x64x1024, S24x64x1024])

/-- all key heads, -/
def kAll : Rect S24x64x1024 :=
  Rect.unit ![16, 0, 0] S4x64x1024.size (by
    intro a; fin_cases a <;> simp [S4x64x1024, S24x64x1024])

/-- one key head, -/
def kOne (g : ℕ) : Rect S24x64x1024 :=
  Rect.unit ![16 + g % 4, 0, 0] S1x64x1024.size (by
    intro a; fin_cases a <;> simp [S1x64x1024, S24x64x1024]; omega)

/-- and half the rows of one value head. -/
def vOne (g e : ℕ) : Rect S24x64x1024 :=
  Rect.unit ![20 + g % 4, 0, 512 * (e % 2)] S1x64x512.size (by
    intro a; fin_cases a <;> simp [S1x64x512, S24x64x1024] <;> omega)

/-- Sixteen features of a head's gain, -/
def gR (u : ℕ) : Rect S64x1024 :=
  Rect.unit ![16 * (u % 4), 0] S16x1024.size (by
    intro a; fin_cases a <;> simp [S16x1024, S64x1024]; omega)

/-- and the sixteen angles by one coordinate. -/
def cR (a : ℕ) : Rect S32x1024 :=
  Rect.unit ![16 * (a % 2), 0] S16x1024.size (by
    intro a; fin_cases a <;> simp [S16x1024, S32x1024]; omega)

/-- Where a part of the queries goes, -/
def oQ (n : ℕ) : Rect S1x16x256x1024 :=
  Rect.unit ![0, 0, 64 * (n % 4), 0] S1x16x64x1024.size (by
    intro a; fin_cases a <;> simp [S1x16x64x1024, S1x16x256x1024]; omega)

/-- where a key head goes, -/
def oK (g : ℕ) : Rect S1x4x1024x256 :=
  Rect.unit ![0, g % 4, 0, 0] S1x1x1024x256.size (by
    intro a; fin_cases a <;> simp [S1x1x1024x256, S1x4x1024x256]; omega)

/-- and where half the rows of a value head go. -/
def oV (g e : ℕ) : Rect S1x4x2x64x512 :=
  Rect.unit ![0, g % 4, e % 2, 0, 0] S1x1x1x64x512.size (by
    intro a; fin_cases a <;> simp [S1x1x1x64x512, S1x4x2x64x512] <;> omega)

/-! ## The steps -/

/-- A key head's lower half as turned, -/
def kLo (t : Vec F S4x64x1024 .f32) (x : Vec F S4x16x1024 .f32) (g : Vec F S16x1024 .f32) (y : Vec F S4x16x1024 .f32)
    (h c s : Vec F S16x1024 .f32) : FVec F S4x16x1024 .f32 := k0_pay22 (k0_pay21 t x g y h c s)

/-- and its upper half. -/
def kHi (t : Vec F S4x64x1024 .f32) (x : Vec F S4x16x1024 .f32) (g : Vec F S16x1024 .f32) (y : Vec F S4x16x1024 .f32)
    (h c s : Vec F S16x1024 .f32) : FVec F S4x16x1024 .f32 :=
  k0_pay23 (k0_pay17 t x g) (k0_pay18 t y h) (k0_pay19 c) (k0_pay20 s)

/-- What the body reads: the product's factors, the gains and angles by rows, and the scratch after given stores. -/
structure Ins (F : FTy → Type) [FloatOps F] where
  prod : FVec F S24x64x1024 .f32
  gq : ℕ → Vec F S16x1024 .f32
  gk : ℕ → Vec F S16x1024 .f32
  cs : ℕ → Vec F S16x1024 .f32
  sn : ℕ → Vec F S16x1024 .f32
  rd : List (View.Piece (Elt F) S24x64x1024 .f32) → (r : Rect S24x64x1024) → r.shape.Idx → Elt F .f32

namespace Ins

variable (I : Ins F)

/-- Sixteen features of the query heads, -/
def rq (L : List (View.Piece (Elt F) S24x64x1024 .f32)) (u : ℕ) : Vec F S16x16x1024 .f32 := I.rd L (qR u)

/-- sixteen features of the key heads, -/
def rk (L : List (View.Piece (Elt F) S24x64x1024 .f32)) (u : ℕ) : Vec F S4x16x1024 .f32 := I.rd L (kR u)

/-- the query heads, -/
def rQ (L : List (View.Piece (Elt F) S24x64x1024 .f32)) : Vec F S16x64x1024 .f32 := I.rd L qAll

/-- the key heads, -/
def rK (L : List (View.Piece (Elt F) S24x64x1024 .f32)) : Vec F S4x64x1024 .f32 := I.rd L kAll

/-- a key head, -/
def rK1 (L : List (View.Piece (Elt F) S24x64x1024 .f32)) (g : ℕ) : Vec F S1x64x1024 .f32 := I.rd L (kOne g)

/-- and half of a value head's rows, as loaded. -/
def rV1 (L : List (View.Piece (Elt F) S24x64x1024 .f32)) (g e : ℕ) : Vec F S1x64x512 .f32 := I.rd L (vOne g e)

def L1 : List (View.Piece (Elt F) S24x64x1024 .f32) := [⟨allR, I.prod⟩]

/-- The query heads' norms, -/
def qn : FVec F S16x1x1024 .f32 := k0_pay3 (I.rQ I.L1)

def L2 := (⟨qR 0, k0_pay8 I.qn (I.rq I.L1 0) (I.gq 0) (I.rq I.L1 1) (I.gq 1) (I.cs 0) (I.sn 0)⟩
  : View.Piece (Elt F) S24x64x1024 .f32) :: I.L1

def L3 := (⟨qR 1, k0_pay9 I.qn (I.rq I.L1 0) (I.gq 0) (I.rq I.L1 1) (I.gq 1) (I.cs 0) (I.sn 0)⟩
  : View.Piece (Elt F) S24x64x1024 .f32) :: I.L2

def L4 := (⟨qR 2, k0_pay8 I.qn (I.rq I.L3 2) (I.gq 2) (I.rq I.L3 3) (I.gq 3) (I.cs 1) (I.sn 1)⟩
  : View.Piece (Elt F) S24x64x1024 .f32) :: I.L3

def L5 := (⟨qR 3, k0_pay9 I.qn (I.rq I.L3 2) (I.gq 2) (I.rq I.L3 3) (I.gq 3) (I.cs 1) (I.sn 1)⟩
  : View.Piece (Elt F) S24x64x1024 .f32) :: I.L4

/-- the key heads before they are turned, -/
def kt : Vec F S4x64x1024 .f32 := I.rK I.L5

def L6 := (⟨kR 0, kLo I.kt (I.rk I.L5 0) (I.gk 0) (I.rk I.L5 1) (I.gk 1) (I.cs 0) (I.sn 0)⟩
  : View.Piece (Elt F) S24x64x1024 .f32) :: I.L5

def L7 := (⟨kR 1, kHi I.kt (I.rk I.L5 0) (I.gk 0) (I.rk I.L5 1) (I.gk 1) (I.cs 0) (I.sn 0)⟩
  : View.Piece (Elt F) S24x64x1024 .f32) :: I.L6

def L8 := (⟨kR 2, kLo I.kt (I.rk I.L7 2) (I.gk 2) (I.rk I.L7 3) (I.gk 3) (I.cs 1) (I.sn 1)⟩
  : View.Piece (Elt F) S24x64x1024 .f32) :: I.L7

def L9 := (⟨kR 3, kHi I.kt (I.rk I.L7 2) (I.gk 2) (I.rk I.L7 3) (I.gk 3) (I.cs 1) (I.sn 1)⟩
  : View.Piece (Elt F) S24x64x1024 .f32) :: I.L8

def pcQ (n : ℕ) : View.Piece (Elt F) S1x16x256x1024 .fp8e4m3 :=
  ⟨oQ n, bif Nat.ble 2 n then k0_pay37 (k0_pay33 (I.rQ I.L9)) else k0_pay34 (I.rQ I.L9)⟩

/-- the queries' four parts, -/
def stQ : List (View.Piece (Elt F) S1x16x256x1024 .fp8e4m3) := [I.pcQ 3, I.pcQ 2, I.pcQ 1, I.pcQ 0]

def pcK (g : ℕ) : View.Piece (Elt F) S1x4x1024x256 .fp8e4m3 := ⟨oK g, k0_pay38 (I.rK1 I.L9 g)⟩

/-- the keys' four heads, -/
def stK : List (View.Piece (Elt F) S1x4x1024x256 .fp8e4m3) := [I.pcK 3, I.pcK 2, I.pcK 1, I.pcK 0]

def pcV (g e : ℕ) : View.Piece (Elt F) S1x4x2x64x512 .bf16 := ⟨oV g e, k0_pay39 (I.rV1 I.L9 g e)⟩

/-- and the values' four heads by halves of the rows. -/
def stV : List (View.Piece (Elt F) S1x4x2x64x512 .bf16) :=
  [I.pcV 3 1, I.pcV 3 0, I.pcV 2 1, I.pcV 2 0, I.pcV 1 1, I.pcV 1 0, I.pcV 0 1, I.pcV 0 0]

end Ins

/-! ## The run -/

section

variable (c : Dev nD) (i : grid0.Coords) (arg2 : Memref sig .tc .vmem S1x1024x1024 .f32) (harg2 : arg2.IsWhole)
  (arg3 : Memref sig .tc .vmem S1x1024 .f32) (harg3 : arg3.IsWhole)
  (arg4 : Memref sig .tc .vmem S1536x1024 .bf16) (harg4 : arg4.IsWhole)
  (arg5 : Memref sig .tc .vmem S64x1024 .f32) (harg5 : arg5.IsWhole)
  (arg6 : Memref sig .tc .vmem S64x1024 .f32) (harg6 : arg6.IsWhole)
  (arg7 : Memref sig .tc .vmem S32x1024 .f32) (harg7 : arg7.IsWhole)
  (arg8 : Memref sig .tc .vmem S32x1024 .f32) (harg8 : arg8.IsWhole)
  (arg9 : Memref sig .tc .vmem S1x16x256x1024 .fp8e4m3) (harg9 : arg9.IsWhole)
  (arg10 : Memref sig .tc .vmem S1x4x1024x256 .fp8e4m3) (harg10 : arg10.IsWhole)
  (arg11 : Memref sig .tc .vmem S1x4x2x64x512 .bf16) (harg11 : arg11.IsWhole)
  (arg12 : Memref sig .tc .vmem S24x64x1024 .f32) (harg12 : arg12.IsWhole)
  (x0 : Vec F S1x1024x1024 .f32) (x1 : Vec F S1x1024 .f32) (x2 : Vec F S1536x1024 .bf16)
  (x3 x4 : Vec F S64x1024 .f32) (x5 x6 : Vec F S32x1024 .f32)

def xR : Rect S1x1024x1024 :=
  Rect.unit ![0, 0, 0] S1x1024x1024.size (by intro a; fin_cases a <;> simp [S1x1024x1024])

def nR : Rect S1x1024 := Rect.unit ![0, 0] S1x1024.size (by intro a; fin_cases a <;> simp [S1x1024])

def wR : Rect S1536x1024 := Rect.unit ![0, 0] S1536x1024.size (by intro a; fin_cases a <;> simp [S1536x1024])

/-- What the body reads, as the run states it. -/
def ins : Ins F where
  prod := k0_pay2 (View.readAt (Elt F) arg2.view xR.toLoadRect (harg2.unread x0))
    (View.readAt (Elt F) arg3.view nR.toLoadRect (harg3.unread x1))
    (View.readAt (Elt F) arg4.view wR.toLoadRect (harg4.unread x2))
  gq u := View.readAt (Elt F) arg5.view (gR u).toLoadRect (harg5.unread x3)
  gk u := View.readAt (Elt F) arg6.view (gR u).toLoadRect (harg6.unread x4)
  cs a := View.readAt (Elt F) arg7.view (cR a).toLoadRect (harg7.unread x5)
  sn a := View.readAt (Elt F) arg8.view (cR a).toLoadRect (harg8.unread x6)
  rd L r := arg12.view.readCov L r.toLoadRect

theorem run_q : (kernelRun0_A c i arg2 harg2 arg3 harg3 arg4 harg4 arg5 harg5 arg6 harg6 arg7 harg7 arg8 harg8 arg9 harg9
      arg10 harg10 arg11 harg11 arg12 harg12 x0 x1 x2 x3 x4 x5 x6).1
    = (ins arg2 harg2 arg3 harg3 arg4 harg4 arg5 harg5 arg6 harg6 arg7 harg7 arg8 harg8 arg12 x0 x1 x2 x3 x4 x5 x6).stQ := by
  sl_kernel_rfl

theorem run_k : (kernelRun0_A c i arg2 harg2 arg3 harg3 arg4 harg4 arg5 harg5 arg6 harg6 arg7 harg7 arg8 harg8 arg9 harg9
      arg10 harg10 arg11 harg11 arg12 harg12 x0 x1 x2 x3 x4 x5 x6).2.1
    = (ins arg2 harg2 arg3 harg3 arg4 harg4 arg5 harg5 arg6 harg6 arg7 harg7 arg8 harg8 arg12 x0 x1 x2 x3 x4 x5 x6).stK := by
  sl_kernel_rfl

theorem run_v : (kernelRun0_A c i arg2 harg2 arg3 harg3 arg4 harg4 arg5 harg5 arg6 harg6 arg7 harg7 arg8 harg8 arg9 harg9
      arg10 harg10 arg11 harg11 arg12 harg12 x0 x1 x2 x3 x4 x5 x6).2.2.1
    = (ins arg2 harg2 arg3 harg3 arg4 harg4 arg5 harg5 arg6 harg6 arg7 harg7 arg8 harg8 arg12 x0 x1 x2 x3 x4 x5 x6).stV := by
  sl_kernel_rfl

/-- The same without the memory: what the blocks hold, and the scratch as the last store at each place. -/
def at_ : Ins F where
  prod := k0_pay2 (View.ld x0 xR) (View.ld x1 nR) (View.ld x2 wR)
  gq u := View.ld x3 (gR u)
  gk u := View.ld x4 (gR u)
  cs a := View.ld x5 (cR a)
  sn a := View.ld x6 (cR a)
  rd L r := fun x => View.canon L (r.emb x)

theorem ins_eq : ins arg2 harg2 arg3 harg3 arg4 harg4 arg5 harg5 arg6 harg6 arg7 harg7 arg8 harg8 arg12 x0 x1 x2 x3 x4 x5 x6
    = at_ x0 x1 x2 x3 x4 x5 x6 := by
  have e0 : View.readAt (Elt F) arg2.view xR.toLoadRect (harg2.unread x0) = View.ld x0 xR :=
    congrArg (fun X => View.ld X xR) (harg2.read_unread x0)
  have e1 : View.readAt (Elt F) arg3.view nR.toLoadRect (harg3.unread x1) = View.ld x1 nR :=
    congrArg (fun X => View.ld X nR) (harg3.read_unread x1)
  have e2 : View.readAt (Elt F) arg4.view wR.toLoadRect (harg4.unread x2) = View.ld x2 wR :=
    congrArg (fun X => View.ld X wR) (harg4.read_unread x2)
  have e3 : (fun u => View.readAt (Elt F) arg5.view (gR u).toLoadRect (harg5.unread x3)) = fun u => View.ld x3 (gR u) :=
    funext fun u => congrArg (fun X => View.ld X (gR u)) (harg5.read_unread x3)
  have e4 : (fun u => View.readAt (Elt F) arg6.view (gR u).toLoadRect (harg6.unread x4)) = fun u => View.ld x4 (gR u) :=
    funext fun u => congrArg (fun X => View.ld X (gR u)) (harg6.read_unread x4)
  have e5 : (fun u => View.readAt (Elt F) arg7.view (cR u).toLoadRect (harg7.unread x5)) = fun u => View.ld x5 (cR u) :=
    funext fun u => congrArg (fun X => View.ld X (cR u)) (harg7.read_unread x5)
  have e6 : (fun u => View.readAt (Elt F) arg8.view (cR u).toLoadRect (harg8.unread x6)) = fun u => View.ld x6 (cR u) :=
    funext fun u => congrArg (fun X => View.ld X (cR u)) (harg8.read_unread x6)
  have e7 : (fun (L : List (View.Piece (Elt F) S24x64x1024 .f32)) (r : Rect S24x64x1024) => arg12.view.readCov L r.toLoadRect)
      = fun L r => fun x => View.canon L (r.emb x) :=
    funext fun L => funext fun r => funext fun x => congrFun (View.readCov_eq_canon' arg12.view L r.toLoadRect) x
  unfold ins at_
  rw [e0, e1, e2, e3, e4, e5, e6, e7]

theorem left_q : out0_A_7 c i arg2 harg2 arg3 harg3 arg4 harg4 arg5 harg5 arg6 harg6 arg7 harg7 arg8 harg8 arg9 harg9
      arg10 harg10 arg11 harg11 arg12 harg12 x0 x1 x2 x3 x4 x5 x6
    = View.canon (at_ x0 x1 x2 x3 x4 x5 x6).stQ := by
  unfold out0_A_7
  rw [run_q, View.read_writes_junk_eq_canon, ins_eq]

theorem left_k : out0_A_8 c i arg2 harg2 arg3 harg3 arg4 harg4 arg5 harg5 arg6 harg6 arg7 harg7 arg8 harg8 arg9 harg9
      arg10 harg10 arg11 harg11 arg12 harg12 x0 x1 x2 x3 x4 x5 x6
    = View.canon (at_ x0 x1 x2 x3 x4 x5 x6).stK := by
  unfold out0_A_8
  rw [run_k, View.read_writes_junk_eq_canon, ins_eq]

theorem left_v : out0_A_9 c i arg2 harg2 arg3 harg3 arg4 harg4 arg5 harg5 arg6 harg6 arg7 harg7 arg8 harg8 arg9 harg9
      arg10 harg10 arg11 harg11 arg12 harg12 x0 x1 x2 x3 x4 x5 x6
    = View.canon (at_ x0 x1 x2 x3 x4 x5 x6).stV := by
  unfold out0_A_9
  rw [run_v, View.read_writes_junk_eq_canon, ins_eq]

end

end Cert.QkvA

end
-- ==== Proof.QkvA.Spec.lean ====
/- The global attention's heads, over the extended reals: the norm of a head, the turn of its four quarters by the rotary
   angles, and the clipped part and the remainder that the float8 operands hold. -/
module

public import proofs.«01_k».proof.Proof.Mlp.Rows

@[expose] public section

noncomputable section

namespace Cert.QkvA

open Idealize.ShloMosaic Idealize.ShloMosaic.Tactic Finset

/-- A head normalised by its root mean square, times the gain. -/
def headN (x g : Fin 64 → EReal) (d : Fin 64) : EReal :=
  x d * Ideal.rsqrt (Ideal.div (∑ e, x e * x e) (Ideal.ofBits .f32 0x42800000#32) + Ideal.ofBits .f32 0x358637BD#32) * g d

/-- Each half of a head has a lower and an upper quarter, turned as a pair by sixteen angles. -/
def turn (y : Fin 64 → EReal) (c s : Fin 32 → EReal) (d : Fin 64) : EReal :=
  if d.val % 32 < 16 then
    y d * c ⟨16 * (d.val / 32) + d.val % 16, by omega⟩
      - y ⟨(d.val + 16) % 64, by omega⟩ * s ⟨16 * (d.val / 32) + d.val % 16, by omega⟩
  else
    y d * c ⟨16 * (d.val / 32) + d.val % 16, by omega⟩
      + y ⟨(d.val + 48) % 64, by omega⟩ * s ⟨16 * (d.val / 32) + d.val % 16, by omega⟩

theorem turn_lo (y : Fin 64 → EReal) (c s : Fin 32 → EReal) (d e : Fin 64) (p : Fin 32) (hd : d.val % 32 < 16)
    (he : e.val = d.val + 16) (hp : p.val = 16 * (d.val / 32) + d.val % 16) :
    turn y c s d = y d * c p - y e * s p := by
  unfold turn
  rw [if_pos hd]
  have e1 : (⟨16 * (d.val / 32) + d.val % 16, by omega⟩ : Fin 32) = p := Fin.ext hp.symm
  have e2 : (⟨(d.val + 16) % 64, by omega⟩ : Fin 64) = e := Fin.ext (by show (d.val + 16) % 64 = e.val; omega)
  rw [e1, e2]

theorem turn_hi (y : Fin 64 → EReal) (c s : Fin 32 → EReal) (d e : Fin 64) (p : Fin 32) (hd : ¬ d.val % 32 < 16)
    (he : e.val + 16 = d.val) (hp : p.val = 16 * (d.val / 32) + d.val % 16) :
    turn y c s d = y d * c p + y e * s p := by
  unfold turn
  rw [if_neg hd]
  have e1 : (⟨16 * (d.val / 32) + d.val % 16, by omega⟩ : Fin 32) = p := Fin.ext hp.symm
  have e2 : (⟨(d.val + 48) % 64, by omega⟩ : Fin 64) = e := Fin.ext (by show (d.val + 48) % 64 = e.val; omega)
  rw [e1, e2]

/-- A value clipped to the float8 range. -/
def clip (z : EReal) : EReal := min (Ideal.ofBits .f32 0x43E00000#32) (max (Ideal.ofBits .f32 0xC3E00000#32) z)

/-- The part that a float8 operand holds, or what it leaves of the clipped value. -/
def part (rest : Bool) (z : EReal) : EReal := bif rest then clip z - clip z else clip z

theorem ofBits_64 : Ideal.ofBits .f32 0x42800000#32 = ((64 : ℝ) : EReal) := by
  simp [Ideal.ofBits, Ideal.ieee, -EReal.coe_mul]
  norm_num

theorem ofBits_64th : Ideal.ofBits .f32 0x3C800000#32 = ((1 / 64 : ℝ) : EReal) := by
  simp [Ideal.ofBits, Ideal.ieee, -EReal.coe_mul]
  norm_num

/-- The kernel multiplies by a sixty-fourth where the reference divides. -/
theorem mul_64th (z : EReal) : z * Ideal.ofBits .f32 0x3C800000#32 = Ideal.div z (Ideal.ofBits .f32 0x42800000#32) := by
  rw [ofBits_64, ofBits_64th, Ideal.div_coe (by norm_num)]

/-- The factor of a head's norm, as the kernel has it. -/
def fac (x : Fin 64 → EReal) : EReal :=
  Ideal.rsqrt ((∑ e, x e * x e) * Ideal.ofBits .f32 0x3C800000#32 + Ideal.ofBits .f32 0x358637BD#32)

theorem headN_eq (x g : Fin 64 → EReal) (d : Fin 64) : x d * fac x * g d = headN x g d := by
  unfold fac headN
  rw [mul_64th]

end Cert.QkvA

end
-- ==== Proof.QkvA.Pays.lean ====
/- The values of the projection kernel's body, element by element. -/
module

public import proofs.«01_k».proof.Proof.QkvA.Trace
public import proofs.«01_k».proof.Proof.QkvA.Spec

@[expose] public section

noncomputable section

namespace Cert.QkvA

open Cert.Kernel6Ideal Cert.Kernel6Ideal.Gen Idealize.ShloMosaic Idealize.ShloMosaic.Tactic Finset
open Cert.Mlp (rmsRow nrm nrm_at)

/-- The product, with the features by heads. -/
def proj (w : FVec Ideal S1536x1024 .bf16) (h : FVec Ideal S1024x1024 .bf16) : FVec Ideal S24x64x1024 .f32 :=
  shapeCast S24x64x1024 (shapeCast S24x64x1024 (matmul dot_S1536x1024_S1024x1024_S1536x1024_1_1_0_0_n_n none
      (shapeCast S1536x1024 w shapeCasts_S1536x1024_S1536x1024) h (constant S1536x1024 .f32 0x00000000#32))
    shapeCasts_S1536x1024_S24x64x1024) shapeCasts_S24x64x1024_S24x64x1024

theorem proj_at (w : FVec Ideal S1536x1024 .bf16) (h : FVec Ideal S1024x1024 .bf16) (a : Fin 24) (d : Fin 64) (r : Fin 1024) :
    proj w h (ix3 a d r) = ∑ j : Fin 1024, w (ix2 ⟨a.val * 64 + d.val, by omega⟩ j) * h (ix2 r j) := by
  unfold proj
  pointwise

theorem pay2_eq (x : Vec Ideal S1x1024x1024 .f32) (g : Vec Ideal S1x1024 .f32) (w : Vec Ideal S1536x1024 .bf16) :
    k0_pay2 x g w = proj w (truncf .bf16 (nrm (shapeCast S1024x1024 x shapeCasts_S1x1024x1024_S1024x1024) g) bitsLt_bf16_f32) := rfl

theorem pay3_at (t : Vec Ideal S16x64x1024 .f32) (h : Fin 16) (r : Fin 1024) :
    k0_pay3 t (ix3 h 0 r) = fac (fun d => t (ix3 h d r)) := by
  unfold k0_pay3 fac
  pointwise

theorem pay16_at (t : Vec Ideal S4x64x1024 .f32) (h : Fin 4) (r : Fin 1024) :
    k0_pay16 t (ix3 h 0 r) = fac (fun d => t (ix3 h d r)) := by
  unfold k0_pay16 fac
  pointwise

theorem pay4_at (n : FVec Ideal S16x1x1024 .f32) (x : Vec Ideal S16x16x1024 .f32) (g : Vec Ideal S16x1024 .f32) (h j : Fin 16)
    (r : Fin 1024) : k0_pay4 n x g (ix3 h j r) = x (ix3 h j r) * n (ix3 h 0 r) * g (ix2 j r) := by
  unfold k0_pay4
  pointwise

theorem pay5_eq : @k0_pay5 = @k0_pay4 := rfl

theorem pay8_at (n : FVec Ideal S16x1x1024 .f32) (x y : Vec Ideal S16x16x1024 .f32) (g h c s : Vec Ideal S16x1024 .f32)
    (a j : Fin 16) (r : Fin 1024) : k0_pay8 n x g y h c s (ix3 a j r)
      = k0_pay4 n x g (ix3 a j r) * c (ix2 j r) - k0_pay4 n y h (ix3 a j r) * s (ix2 j r) := by
  unfold k0_pay8
  rw [pay5_eq]
  unfold k0_pay6 k0_pay7
  generalize k0_pay4 n x g = X
  generalize k0_pay4 n y h = Y
  pointwise

theorem pay9_at (n : FVec Ideal S16x1x1024 .f32) (x y : Vec Ideal S16x16x1024 .f32) (g h c s : Vec Ideal S16x1024 .f32)
    (a j : Fin 16) (r : Fin 1024) : k0_pay9 n x g y h c s (ix3 a j r)
      = k0_pay4 n y h (ix3 a j r) * c (ix2 j r) + k0_pay4 n x g (ix3 a j r) * s (ix2 j r) := by
  unfold k0_pay9
  rw [pay5_eq]
  unfold k0_pay6 k0_pay7
  generalize k0_pay4 n x g = X
  generalize k0_pay4 n y h = Y
  pointwise

theorem pay17_at (t : Vec Ideal S4x64x1024 .f32) (x : Vec Ideal S4x16x1024 .f32) (g : Vec Ideal S16x1024 .f32) (h : Fin 4) (j : Fin 16)
    (r : Fin 1024) : k0_pay17 t x g (ix3 h j r) = x (ix3 h j r) * fac (fun d => t (ix3 h d r)) * g (ix2 j r) := by
  rw [← pay16_at]
  unfold k0_pay17
  generalize k0_pay16 t = n
  pointwise

theorem pay18_eq : @k0_pay18 = @k0_pay17 := rfl

theorem kLo_at (t : Vec Ideal S4x64x1024 .f32) (x y : Vec Ideal S4x16x1024 .f32) (g h c s : Vec Ideal S16x1024 .f32)
    (a : Fin 4) (j : Fin 16) (r : Fin 1024) : kLo t x g y h c s (ix3 a j r)
      = k0_pay17 t x g (ix3 a j r) * c (ix2 j r) - k0_pay17 t y h (ix3 a j r) * s (ix2 j r) := by
  unfold kLo k0_pay22 k0_pay21
  rw [pay18_eq]
  unfold k0_pay19 k0_pay20
  generalize k0_pay17 t x g = X
  generalize k0_pay17 t y h = Y
  pointwise

theorem kHi_at (t : Vec Ideal S4x64x1024 .f32) (x y : Vec Ideal S4x16x1024 .f32) (g h c s : Vec Ideal S16x1024 .f32)
    (a : Fin 4) (j : Fin 16) (r : Fin 1024) : kHi t x g y h c s (ix3 a j r)
      = k0_pay17 t y h (ix3 a j r) * c (ix2 j r) + k0_pay17 t x g (ix3 a j r) * s (ix2 j r) := by
  unfold kHi k0_pay23
  rw [pay18_eq]
  unfold k0_pay19 k0_pay20
  generalize k0_pay17 t x g = X
  generalize k0_pay17 t y h = Y
  pointwise

theorem pay34_at (q : Vec Ideal S16x64x1024 .f32) (z : Fin 1) (h : Fin 16) (d : Fin 64) (r : Fin 1024) :
    k0_pay34 q (ix4 z h d r) = clip (q (ix3 h d r)) := by
  unfold k0_pay34 k0_pay32 k0_pay31 clip
  pointwise

theorem pay37_at (q : Vec Ideal S16x64x1024 .f32) (z : Fin 1) (h : Fin 16) (d : Fin 64) (r : Fin 1024) :
    k0_pay37 (k0_pay33 q) (ix4 z h d r) = clip (q (ix3 h d r)) - clip (q (ix3 h d r)) := by
  unfold k0_pay37 k0_pay33 k0_pay32 k0_pay31 clip
  pointwise

theorem pay39_at (v : Vec Ideal S1x64x512 .f32) (x y z : Fin 1) (d : Fin 64) (r : Fin 512) :
    k0_pay39 v (ix5 x y z d r) = v (ix3 0 d r) := by
  unfold k0_pay39
  pointwise

/-- A key head's parts, clipped and remaining by turns. -/
def kParts (k : Vec Ideal S1x64x1024 .f32) : Fin 4 → FVec Ideal S64x1024 .f32 :=
  fun n i => part (n.val % 2 == 1) (k (ix3 0 (i 0) (i 1)))

theorem kClip (k : FVec Ideal S1x64x1024 .f32) : minimumf (broadcast S64x1024 (Scalar.ofBits .f32 0x43E00000#32 : Ideal .f32))
      (maximumf (broadcast S64x1024 (Scalar.ofBits .f32 0xC3E00000#32 : Ideal .f32)) (shapeCast S64x1024 k shapeCasts_S1x64x1024_S64x1024))
    = fun i => clip (k (ix3 0 (i 0) (i 1))) := by
  refine funext fun (i : S64x1024.Idx) => ?_
  obtain ⟨d, r, rfl⟩ : ∃ (d : Fin 64) (r : Fin 1024), i = ix2 d r := ⟨i 0, i 1, eq_ix2 i⟩
  unfold clip
  pointwise

/-- The four parts side by side. -/
def kCat (k : Vec Ideal S1x64x1024 .f32) : FVec Ideal S256x1024 .f32 :=
  concatenate S256x1024 0 [⟨S64x1024, kParts k 0⟩, ⟨S64x1024, kParts k 1⟩, ⟨S64x1024, kParts k 2⟩, ⟨S64x1024, kParts k 3⟩]
    concatenates_S64x1024_S64x1024_S64x1024_S64x1024_S256x1024_d0

theorem kCat_at (k : Vec Ideal S1x64x1024 .f32) (p : Fin 256) (r : Fin 1024) :
    kCat k (ix2 p r) = part (p.val / 64 % 2 == 1) (k (ix3 0 ⟨p.val % 64, by omega⟩ r)) := by
  unfold kCat
  show concatenate S256x1024 0 (List.ofFn fun n : Fin 4 => (⟨S64x1024, kParts k n⟩ : (s : Shape) × (s.Idx → _))) _ _ = _
  exact concatenate_ofFn_apply (t := S256x1024) (s₁ := S64x1024) (0 : Fin 2) (kParts k) _ rfl 64 rfl (ix2 p r)
    ⟨p.val / 64, by omega⟩ rfl (ix2 ⟨p.val % 64, by omega⟩ r) rfl
    (fun b hb => by match b with | ⟨0, _⟩ => exact absurd rfl hb | ⟨1, _⟩ => rfl)

theorem pay38_eq (k : Vec Ideal S1x64x1024 .f32) : k0_pay38 k = shapeCast S1x1x1024x256 (truncf .fp8e4m3 (transpose S1024x256 [1, 0]
      (kCat k) transposes_S256x1024_p1_0_S1024x256) bitsLt_fp8e4m3_f32) shapeCasts_S1024x256_S1x1x1024x256 := by
  unfold k0_pay38
  dsimp only
  rw [kClip]
  rfl

theorem pay38_at (k : Vec Ideal S1x64x1024 .f32) (x y : Fin 1) (r : Fin 1024) (p : Fin 256) :
    k0_pay38 k (ix4 x y r p) = part (p.val / 64 % 2 == 1) (k (ix3 0 ⟨p.val % 64, by omega⟩ r)) := by
  rw [pay38_eq]
  refine Eq.trans ?_ (kCat_at k p r)
  generalize kCat k = X
  pointwise

end Cert.QkvA

end
-- ==== Proof.QkvA.Block.lean ====
/- What the projection kernel leaves at a grid point: the scratch after its nine stores, and the three output blocks read
   from it. -/
module

public import proofs.«01_k».proof.Proof.QkvA.Pays
public import proofs.«01_k».proof.Proof.Mlp.Block

@[expose] public section

noncomputable section

namespace Cert.QkvA

open Cert.Kernel6Ideal Cert.Kernel6Ideal.Gen Idealize.ShloMosaic Idealize.ShloMosaic.Tactic Finset
open Cert.Mlp (rmsRow nrm nrm_at zero2 zero3)

/-! ## Where the rectangles lie -/

theorem qNot (u : ℕ) (h : Fin 24) (d : Fin 64) (r : Fin 1024) (H : 16 ≤ h.val ∨ d.val / 16 ≠ u % 4) :
    (ix3 h d r : S24x64x1024.Idx) ∉ (qR u).set := by
  unfold qR
  rw [Rect.mem_set_unit]
  intro hm
  have h0 : h.val < 0 + 16 := (hm (0 : Fin 3)).2
  have h1 : 16 * (u % 4) ≤ d.val := (hm (1 : Fin 3)).1
  have h2 : d.val < 16 * (u % 4) + 16 := (hm (1 : Fin 3)).2
  omega

theorem kNot (u : ℕ) (h : Fin 24) (d : Fin 64) (r : Fin 1024) (H : h.val < 16 ∨ 20 ≤ h.val ∨ d.val / 16 ≠ u % 4) :
    (ix3 h d r : S24x64x1024.Idx) ∉ (kR u).set := by
  unfold kR
  rw [Rect.mem_set_unit]
  intro hm
  have h0 : 16 ≤ h.val := (hm (0 : Fin 3)).1
  have h0' : h.val < 16 + 4 := (hm (0 : Fin 3)).2
  have h1 : 16 * (u % 4) ≤ d.val := (hm (1 : Fin 3)).1
  have h2 : d.val < 16 * (u % 4) + 16 := (hm (1 : Fin 3)).2
  omega

theorem qEmb (u : ℕ) (h j : Fin 16) (r : Fin 1024) :
    (qR u).emb (ix3 h j r : S16x16x1024.Idx) = (ix3 ⟨h.val, by omega⟩ ⟨16 * (u % 4) + j.val, by omega⟩ r : S24x64x1024.Idx) := by
  funext a
  apply Fin.ext
  match a with
  | ⟨0, _⟩ => show 0 + 1 * h.val = h.val; omega
  | ⟨1, _⟩ => show 16 * (u % 4) + 1 * j.val = 16 * (u % 4) + j.val; omega
  | ⟨2, _⟩ => show 0 + 1 * r.val = r.val; omega

theorem kEmb (u : ℕ) (h : Fin 4) (j : Fin 16) (r : Fin 1024) :
    (kR u).emb (ix3 h j r : S4x16x1024.Idx) = (ix3 ⟨16 + h.val, by omega⟩ ⟨16 * (u % 4) + j.val, by omega⟩ r : S24x64x1024.Idx) := by
  funext a
  apply Fin.ext
  match a with
  | ⟨0, _⟩ => show 16 + 1 * h.val = 16 + h.val; omega
  | ⟨1, _⟩ => show 16 * (u % 4) + 1 * j.val = 16 * (u % 4) + j.val; omega
  | ⟨2, _⟩ => show 0 + 1 * r.val = r.val; omega

theorem allEmb (h : Fin 24) (d : Fin 64) (r : Fin 1024) :
    allR.emb (ix3 h d r : S24x64x1024.Idx) = (ix3 h d r : S24x64x1024.Idx) := by
  funext a
  apply Fin.ext
  match a with
  | ⟨0, _⟩ => show 0 + 1 * h.val = h.val; omega
  | ⟨1, _⟩ => show 0 + 1 * d.val = d.val; omega
  | ⟨2, _⟩ => show 0 + 1 * r.val = r.val; omega

theorem qAllEmb (h : Fin 16) (d : Fin 64) (r : Fin 1024) :
    qAll.emb (ix3 h d r : S16x64x1024.Idx) = (ix3 ⟨h.val, by omega⟩ d r : S24x64x1024.Idx) := by
  funext a
  apply Fin.ext
  match a with
  | ⟨0, _⟩ => show 0 + 1 * h.val = h.val; omega
  | ⟨1, _⟩ => show 0 + 1 * d.val = d.val; omega
  | ⟨2, _⟩ => show 0 + 1 * r.val = r.val; omega

theorem kAllEmb (h : Fin 4) (d : Fin 64) (r : Fin 1024) :
    kAll.emb (ix3 h d r : S4x64x1024.Idx) = (ix3 ⟨16 + h.val, by omega⟩ d r : S24x64x1024.Idx) := by
  funext a
  apply Fin.ext
  match a with
  | ⟨0, _⟩ => show 16 + 1 * h.val = 16 + h.val; omega
  | ⟨1, _⟩ => show 0 + 1 * d.val = d.val; omega
  | ⟨2, _⟩ => show 0 + 1 * r.val = r.val; omega

theorem kOneEmb (g : ℕ) (z : Fin 1) (d : Fin 64) (r : Fin 1024) :
    (kOne g).emb (ix3 z d r : S1x64x1024.Idx) = (ix3 ⟨16 + g % 4, by omega⟩ d r : S24x64x1024.Idx) := by
  funext a
  apply Fin.ext
  match a with
  | ⟨0, _⟩ => show 16 + g % 4 + 1 * z.val = 16 + g % 4; omega
  | ⟨1, _⟩ => show 0 + 1 * d.val = d.val; omega
  | ⟨2, _⟩ => show 0 + 1 * r.val = r.val; omega

theorem vOneEmb (g e : ℕ) (z : Fin 1) (d : Fin 64) (r : Fin 512) :
    (vOne g e).emb (ix3 z d r : S1x64x512.Idx) = (ix3 ⟨20 + g % 4, by omega⟩ d ⟨512 * (e % 2) + r.val, by omega⟩ : S24x64x1024.Idx) := by
  funext a
  apply Fin.ext
  match a with
  | ⟨0, _⟩ => show 20 + g % 4 + 1 * z.val = 20 + g % 4; omega
  | ⟨1, _⟩ => show 0 + 1 * d.val = d.val; omega
  | ⟨2, _⟩ => show 512 * (e % 2) + 1 * r.val = 512 * (e % 2) + r.val; omega

theorem gAt (x : Vec Ideal S64x1024 .f32) (u : ℕ) (j : Fin 16) (r : Fin 1024) :
    View.ld x (gR u) (ix2 j r) = x (ix2 ⟨16 * (u % 4) + j.val, by omega⟩ r) := by
  refine congrArg x (funext fun a => Fin.ext ?_)
  match a with
  | ⟨0, _⟩ => show 16 * (u % 4) + 1 * j.val = 16 * (u % 4) + j.val; omega
  | ⟨1, _⟩ => show 0 + 1 * r.val = r.val; omega

theorem cAt (x : Vec Ideal S32x1024 .f32) (u : ℕ) (j : Fin 16) (r : Fin 1024) :
    View.ld x (cR u) (ix2 j r) = x (ix2 ⟨16 * (u % 2) + j.val, by omega⟩ r) := by
  refine congrArg x (funext fun a => Fin.ext ?_)
  match a with
  | ⟨0, _⟩ => show 16 * (u % 2) + 1 * j.val = 16 * (u % 2) + j.val; omega
  | ⟨1, _⟩ => show 0 + 1 * r.val = r.val; omega

/-! ## The scratch -/

/-- The gains and the angles are read from these blocks, and the scratch is what the stores left. -/
structure Reads (I : Ins Ideal) (x3 x4 : Vec Ideal S64x1024 .f32) (x5 x6 : Vec Ideal S32x1024 .f32) : Prop where
  gq : ∀ (u : ℕ) (j : Fin 16) (r : Fin 1024), I.gq u (ix2 j r) = x3 (ix2 ⟨16 * (u % 4) + j.val, by omega⟩ r)
  gk : ∀ (u : ℕ) (j : Fin 16) (r : Fin 1024), I.gk u (ix2 j r) = x4 (ix2 ⟨16 * (u % 4) + j.val, by omega⟩ r)
  cs : ∀ (a : ℕ) (j : Fin 16) (r : Fin 1024), I.cs a (ix2 j r) = x5 (ix2 ⟨16 * (a % 2) + j.val, by omega⟩ r)
  sn : ∀ (a : ℕ) (j : Fin 16) (r : Fin 1024), I.sn a (ix2 j r) = x6 (ix2 ⟨16 * (a % 2) + j.val, by omega⟩ r)
  rd : ∀ (L : List (View.Piece (Elt Ideal) S24x64x1024 .f32)) (r : Rect S24x64x1024) (x : r.shape.Idx), I.rd L r x = View.canon L (r.emb x)

theorem reads (x0 : Vec Ideal S1x1024x1024 .f32) (x1 : Vec Ideal S1x1024 .f32) (x2 : Vec Ideal S1536x1024 .bf16)
    (x3 x4 : Vec Ideal S64x1024 .f32) (x5 x6 : Vec Ideal S32x1024 .f32) : Reads (at_ x0 x1 x2 x3 x4 x5 x6) x3 x4 x5 x6 where
  gq u j r := gAt x3 u j r
  gk u j r := gAt x4 u j r
  cs a j r := cAt x5 a j r
  sn a j r := cAt x6 a j r
  rd L r x := rfl

/-- The products, by head, row and feature. -/
def P (I : Ins Ideal) (h : Fin 24) (r : Fin 1024) (d : Fin 64) : EReal := I.prod (ix3 h d r)

/-- A head with its norm, its gain and its turn. -/
def T (I : Ins Ideal) (x5 x6 : Vec Ideal S32x1024 .f32) (g : Vec Ideal S64x1024 .f32) (h : Fin 24) (r : Fin 1024) (d : Fin 64) : EReal :=
  turn (headN (P I h r) (fun e => g (ix2 e r))) (fun p => x5 (ix2 p r)) (fun p => x6 (ix2 p r)) d

theorem skipQ (u : ℕ) (w : (qR u).shape.Idx → Elt Ideal .f32) (L : List (View.Piece (Elt Ideal) S24x64x1024 .f32)) (h : Fin 24)
    (d : Fin 64) (r : Fin 1024) (H : 16 ≤ h.val ∨ d.val / 16 ≠ u % 4) :
    View.canon ((⟨qR u, w⟩ : View.Piece (Elt Ideal) S24x64x1024 .f32) :: L) (ix3 h d r) = View.canon L (ix3 h d r) :=
  View.canon_cons_of_not_mem _ _ (qNot u h d r H)

theorem skipK (u : ℕ) (w : (kR u).shape.Idx → Elt Ideal .f32) (L : List (View.Piece (Elt Ideal) S24x64x1024 .f32)) (h : Fin 24)
    (d : Fin 64) (r : Fin 1024) (H : h.val < 16 ∨ 20 ≤ h.val ∨ d.val / 16 ≠ u % 4) :
    View.canon ((⟨kR u, w⟩ : View.Piece (Elt Ideal) S24x64x1024 .f32) :: L) (ix3 h d r) = View.canon L (ix3 h d r) :=
  View.canon_cons_of_not_mem _ _ (kNot u h d r H)

theorem hitQ (u : ℕ) (w : (qR u).shape.Idx → Elt Ideal .f32) (L : List (View.Piece (Elt Ideal) S24x64x1024 .f32)) (h j : Fin 16)
    (r : Fin 1024) : View.canon ((⟨qR u, w⟩ : View.Piece (Elt Ideal) S24x64x1024 .f32) :: L)
      (ix3 ⟨h.val, by omega⟩ ⟨16 * (u % 4) + j.val, by omega⟩ r) = w (ix3 h j r) := by
  rw [← qEmb]
  exact View.canon_cons_emb (qR u) _ _ _

theorem hitK (u : ℕ) (w : (kR u).shape.Idx → Elt Ideal .f32) (L : List (View.Piece (Elt Ideal) S24x64x1024 .f32)) (h : Fin 4)
    (j : Fin 16) (r : Fin 1024) : View.canon ((⟨kR u, w⟩ : View.Piece (Elt Ideal) S24x64x1024 .f32) :: L)
      (ix3 ⟨16 + h.val, by omega⟩ ⟨16 * (u % 4) + j.val, by omega⟩ r) = w (ix3 h j r) := by
  rw [← kEmb]
  exact View.canon_cons_emb (kR u) _ _ _

variable {I : Ins Ideal} {x3 x4 : Vec Ideal S64x1024 .f32} {x5 x6 : Vec Ideal S32x1024 .f32}

theorem c1 (h : Fin 24) (d : Fin 64) (r : Fin 1024) :
    View.canon I.L1 (ix3 h d r) = P I h r d := by
  have e := View.canon_cons_emb (Val := Elt Ideal) (e := .f32) allR I.prod [] (ix3 h d r : S24x64x1024.Idx)
  rw [allEmb] at e
  exact e

/-- After the first half's stores the second half still holds the products, -/
theorem c3 (h : Fin 24) (d : Fin 64) (r : Fin 1024) (H : 32 ≤ d.val) :
    View.canon I.L3 (ix3 h d r) = P I h r d :=
  (skipQ 1 _ _ h d r (by omega)).trans ((skipQ 0 _ _ h d r (by omega)).trans (c1 h d r))

/-- after the queries' stores the keys and values do, -/
theorem c5 (h : Fin 24) (d : Fin 64) (r : Fin 1024) (H : 16 ≤ h.val) :
    View.canon I.L5 (ix3 h d r) = P I h r d :=
  (skipQ 3 _ _ h d r (by omega)).trans ((skipQ 2 _ _ h d r (by omega)).trans
    ((skipQ 1 _ _ h d r (by omega)).trans ((skipQ 0 _ _ h d r (by omega)).trans (c1 h d r))))

/-- and after the keys' first stores their second half does. -/
theorem c7 (h : Fin 24) (d : Fin 64) (r : Fin 1024) (H : 16 ≤ h.val) (H' : 32 ≤ d.val) :
    View.canon I.L7 (ix3 h d r) = P I h r d :=
  (skipK 1 _ _ h d r (by omega)).trans ((skipK 0 _ _ h d r (by omega)).trans (c5 h d r H))

/-- A turned query, from a list of stores under which its quarters still hold the products. -/
theorem valQ (H0 : Reads I x3 x4 x5 x6) (L : List (View.Piece (Elt Ideal) S24x64x1024 .f32)) (a : ℕ) (ha : a < 2)
    (hL : ∀ (h : Fin 24) (d : Fin 64) (r : Fin 1024), d.val / 32 = a → View.canon L (ix3 h d r) = P I h r d)
    (h j : Fin 16) (r : Fin 1024) :
    k0_pay8 I.qn (I.rq L ((2 * a))) (I.gq (2 * a))
        (I.rq L ((2 * a + 1))) (I.gq (2 * a + 1))
        (I.cs a) (I.sn a) (ix3 h j r)
      = T I x5 x6 x3 ⟨h.val, by omega⟩ r ⟨16 * (2 * a % 4) + j.val, by omega⟩
    ∧ k0_pay9 I.qn (I.rq L ((2 * a))) (I.gq (2 * a))
        (I.rq L ((2 * a + 1))) (I.gq (2 * a + 1))
        (I.cs a) (I.sn a) (ix3 h j r)
      = T I x5 x6 x3 ⟨h.val, by omega⟩ r ⟨16 * ((2 * a + 1) % 4) + j.val, by omega⟩ := by
  have ex : ∀ u, (u % 4) / 2 = a → k0_pay4 I.qn (I.rq L u)
      (I.gq u) (ix3 h j r)
      = headN (P I ⟨h.val, by omega⟩ r) (fun e => x3 (ix2 e r)) ⟨16 * (u % 4) + j.val, by omega⟩ := by
    intro u hu
    rw [pay4_at, ← headN_eq]
    have e1 : I.rq L u (ix3 h j r) = P I ⟨h.val, by omega⟩ r ⟨16 * (u % 4) + j.val, by omega⟩ := by
      refine (H0.rd L (qR u) _).trans ?_
      rw [qEmb]
      exact hL _ _ _ (by show (16 * (u % 4) + j.val) / 32 = a; omega)
    have e2 : I.qn (ix3 h 0 r) = fac (P I ⟨h.val, by omega⟩ r) := by
      refine (pay3_at _ h r).trans (congrArg fac (funext fun d => ?_))
      refine (H0.rd _ qAll _).trans ?_
      rw [qAllEmb]
      exact c1 _ d r
    rw [e1, e2]
    exact congrArg (_ * ·) (H0.gq u j r)
  constructor
  · rw [pay8_at, ex (2 * a) (by omega), ex (2 * a + 1) (by omega)]
    refine Eq.trans ?_ (turn_lo _ _ _ _ ⟨16 * ((2 * a + 1) % 4) + j.val, by omega⟩ ⟨16 * (a % 2) + j.val, by omega⟩
      (by show (16 * (2 * a % 4) + j.val) % 32 < 16; omega) (by show 16 * ((2 * a + 1) % 4) + j.val = 16 * (2 * a % 4) + j.val + 16; omega)
      (by show 16 * (a % 2) + j.val = 16 * ((16 * (2 * a % 4) + j.val) / 32) + (16 * (2 * a % 4) + j.val) % 16; omega)).symm
    exact congrArg₂ (fun p q => _ * p - _ * q) (H0.cs a j r) (H0.sn a j r)
  · rw [pay9_at, ex (2 * a) (by omega), ex (2 * a + 1) (by omega)]
    refine Eq.trans ?_ (turn_hi _ _ _ _ ⟨16 * (2 * a % 4) + j.val, by omega⟩ ⟨16 * (a % 2) + j.val, by omega⟩
      (by show ¬ (16 * ((2 * a + 1) % 4) + j.val) % 32 < 16; omega) (by show 16 * (2 * a % 4) + j.val + 16 = 16 * ((2 * a + 1) % 4) + j.val; omega)
      (by show 16 * (a % 2) + j.val = 16 * ((16 * ((2 * a + 1) % 4) + j.val) / 32) + (16 * ((2 * a + 1) % 4) + j.val) % 16; omega)).symm
    exact congrArg₂ (fun p q => _ * p + _ * q) (H0.cs a j r) (H0.sn a j r)

/-- A turned key likewise. -/
theorem valK (H0 : Reads I x3 x4 x5 x6) (L : List (View.Piece (Elt Ideal) S24x64x1024 .f32)) (a : ℕ) (ha : a < 2)
    (hL : ∀ (h : Fin 24) (d : Fin 64) (r : Fin 1024), 16 ≤ h.val → d.val / 32 = a → View.canon L (ix3 h d r) = P I h r d)
    (h : Fin 4) (j : Fin 16) (r : Fin 1024) :
    kLo I.kt (I.rk L ((2 * a))) (I.gk (2 * a))
        (I.rk L ((2 * a + 1))) (I.gk (2 * a + 1))
        (I.cs a) (I.sn a) (ix3 h j r)
      = T I x5 x6 x4 ⟨16 + h.val, by omega⟩ r ⟨16 * (2 * a % 4) + j.val, by omega⟩
    ∧ kHi I.kt (I.rk L ((2 * a))) (I.gk (2 * a))
        (I.rk L ((2 * a + 1))) (I.gk (2 * a + 1))
        (I.cs a) (I.sn a) (ix3 h j r)
      = T I x5 x6 x4 ⟨16 + h.val, by omega⟩ r ⟨16 * ((2 * a + 1) % 4) + j.val, by omega⟩ := by
  have ex : ∀ u, (u % 4) / 2 = a → k0_pay17 I.kt (I.rk L u)
      (I.gk u) (ix3 h j r)
      = headN (P I ⟨16 + h.val, by omega⟩ r) (fun e => x4 (ix2 e r)) ⟨16 * (u % 4) + j.val, by omega⟩ := by
    intro u hu
    rw [pay17_at, ← headN_eq]
    have e1 : I.rk L u (ix3 h j r) = P I ⟨16 + h.val, by omega⟩ r ⟨16 * (u % 4) + j.val, by omega⟩ := by
      refine (H0.rd L (kR u) _).trans ?_
      rw [kEmb]
      exact hL _ _ _ (by show 16 ≤ 16 + h.val; omega) (by show (16 * (u % 4) + j.val) / 32 = a; omega)
    have e2 : (fun d => I.kt (ix3 h d r)) = P I ⟨16 + h.val, by omega⟩ r := by
      funext d
      refine (H0.rd _ kAll _).trans ?_
      rw [kAllEmb]
      exact c5 _ d r (by show 16 ≤ 16 + h.val; omega)
    rw [e1, e2]
    exact congrArg (_ * ·) (H0.gk u j r)
  constructor
  · rw [kLo_at, ex (2 * a) (by omega), ex (2 * a + 1) (by omega)]
    refine Eq.trans ?_ (turn_lo _ _ _ _ ⟨16 * ((2 * a + 1) % 4) + j.val, by omega⟩ ⟨16 * (a % 2) + j.val, by omega⟩
      (by show (16 * (2 * a % 4) + j.val) % 32 < 16; omega) (by show 16 * ((2 * a + 1) % 4) + j.val = 16 * (2 * a % 4) + j.val + 16; omega)
      (by show 16 * (a % 2) + j.val = 16 * ((16 * (2 * a % 4) + j.val) / 32) + (16 * (2 * a % 4) + j.val) % 16; omega)).symm
    exact congrArg₂ (fun p q => _ * p - _ * q) (H0.cs a j r) (H0.sn a j r)
  · rw [kHi_at, ex (2 * a) (by omega), ex (2 * a + 1) (by omega)]
    refine Eq.trans ?_ (turn_hi _ _ _ _ ⟨16 * (2 * a % 4) + j.val, by omega⟩ ⟨16 * (a % 2) + j.val, by omega⟩
      (by show ¬ (16 * ((2 * a + 1) % 4) + j.val) % 32 < 16; omega) (by show 16 * (2 * a % 4) + j.val + 16 = 16 * ((2 * a + 1) % 4) + j.val; omega)
      (by show 16 * (a % 2) + j.val = 16 * ((16 * ((2 * a + 1) % 4) + j.val) / 32) + (16 * ((2 * a + 1) % 4) + j.val) % 16; omega)).symm
    exact congrArg₂ (fun p q => _ * p + _ * q) (H0.cs a j r) (H0.sn a j r)

/-- In the end the scratch holds the turned queries, -/
theorem c9q (H0 : Reads I x3 x4 x5 x6) (h : Fin 16) (d : Fin 64) (r : Fin 1024) :
    View.canon I.L9 (ix3 ⟨h.val, by omega⟩ d r) = T I x5 x6 x3 ⟨h.val, by omega⟩ r d := by
  obtain ⟨u, j, rfl⟩ : ∃ (u : Fin 4) (j : Fin 16), d = ⟨16 * (u.val % 4) + j.val, by omega⟩ :=
    ⟨⟨d.val / 16, by omega⟩, ⟨d.val % 16, by omega⟩, Fin.ext (by show d.val = 16 * (d.val / 16 % 4) + d.val % 16; omega)⟩
  have hh : (⟨h.val, by omega⟩ : Fin 24).val < 16 := h.isLt
  have v0 := valQ H0 I.L1 0 (by omega) (fun h d r _ => c1 h d r) h j r
  have v1 := valQ H0 I.L3 1 (by omega) (fun h d r H => c3 h d r (by omega)) h j r
  refine (skipK 3 _ _ _ _ r (.inl hh)).trans ((skipK 2 _ _ _ _ r (.inl hh)).trans ((skipK 1 _ _ _ _ r (.inl hh)).trans
    ((skipK 0 _ _ _ _ r (.inl hh)).trans ?_)))
  have ne : ∀ w : ℕ, w % 4 ≠ u.val % 4 → (16 * (u.val % 4) + j.val) / 16 ≠ w % 4 := fun w hw => by omega
  match u with
  | ⟨0, _⟩ =>
    exact (skipQ 3 _ _ _ _ r (.inr (ne 3 (show 3 % 4 ≠ 0 % 4 by decide)))).trans ((skipQ 2 _ _ _ _ r (.inr (ne 2 (show 2 % 4 ≠ 0 % 4 by decide)))).trans
      ((skipQ 1 _ _ _ _ r (.inr (ne 1 (show 1 % 4 ≠ 0 % 4 by decide)))).trans ((hitQ 0 _ _ h j r).trans v0.1)))
  | ⟨1, _⟩ =>
    exact (skipQ 3 _ _ _ _ r (.inr (ne 3 (show 3 % 4 ≠ 1 % 4 by decide)))).trans ((skipQ 2 _ _ _ _ r (.inr (ne 2 (show 2 % 4 ≠ 1 % 4 by decide)))).trans
      ((hitQ 1 _ _ h j r).trans v0.2))
  | ⟨2, _⟩ => exact (skipQ 3 _ _ _ _ r (.inr (ne 3 (show 3 % 4 ≠ 2 % 4 by decide)))).trans ((hitQ 2 _ _ h j r).trans v1.1)
  | ⟨3, _⟩ => exact (hitQ 3 _ _ h j r).trans v1.2

/-- the turned keys, -/
theorem c9k (H0 : Reads I x3 x4 x5 x6) (h : Fin 4) (d : Fin 64) (r : Fin 1024) :
    View.canon I.L9 (ix3 ⟨16 + h.val, by omega⟩ d r) = T I x5 x6 x4 ⟨16 + h.val, by omega⟩ r d := by
  obtain ⟨u, j, rfl⟩ : ∃ (u : Fin 4) (j : Fin 16), d = ⟨16 * (u.val % 4) + j.val, by omega⟩ :=
    ⟨⟨d.val / 16, by omega⟩, ⟨d.val % 16, by omega⟩, Fin.ext (by show d.val = 16 * (d.val / 16 % 4) + d.val % 16; omega)⟩
  have v0 := valK H0 I.L5 0 (by omega) (fun h d r H _ => c5 h d r H) h j r
  have v1 := valK H0 I.L7 1 (by omega) (fun h d r H H' => c7 h d r H (by omega)) h j r
  have ne : ∀ w : ℕ, w % 4 ≠ u.val % 4 → (16 * (u.val % 4) + j.val) / 16 ≠ w % 4 := fun w hw => by omega
  match u with
  | ⟨0, _⟩ =>
    exact (skipK 3 _ _ _ _ r (.inr (.inr (ne 3 (show 3 % 4 ≠ 0 % 4 by decide))))).trans ((skipK 2 _ _ _ _ r (.inr (.inr (ne 2 (show 2 % 4 ≠ 0 % 4 by decide))))).trans
      ((skipK 1 _ _ _ _ r (.inr (.inr (ne 1 (show 1 % 4 ≠ 0 % 4 by decide))))).trans ((hitK 0 _ _ h j r).trans v0.1)))
  | ⟨1, _⟩ =>
    exact (skipK 3 _ _ _ _ r (.inr (.inr (ne 3 (show 3 % 4 ≠ 1 % 4 by decide))))).trans ((skipK 2 _ _ _ _ r (.inr (.inr (ne 2 (show 2 % 4 ≠ 1 % 4 by decide))))).trans
      ((hitK 1 _ _ h j r).trans v0.2))
  | ⟨2, _⟩ => exact (skipK 3 _ _ _ _ r (.inr (.inr (ne 3 (show 3 % 4 ≠ 2 % 4 by decide))))).trans ((hitK 2 _ _ h j r).trans v1.1)
  | ⟨3, _⟩ => exact (hitK 3 _ _ h j r).trans v1.2

/-- and the values as they were made. -/
theorem c9v (h : Fin 24) (d : Fin 64) (r : Fin 1024) (H : 20 ≤ h.val) :
    View.canon I.L9 (ix3 h d r) = P I h r d :=
  (skipK 3 _ _ _ _ r (.inr (.inl H))).trans ((skipK 2 _ _ _ _ r (.inr (.inl H))).trans ((skipK 1 _ _ _ _ r (.inr (.inl H))).trans
    ((skipK 0 _ _ _ _ r (.inr (.inl H))).trans (c5 h d r (by omega)))))

/-! ## The output blocks -/

theorem oQEmb (n : ℕ) (z : Fin 1) (h : Fin 16) (d : Fin 64) (r : Fin 1024) :
    (oQ n).emb (ix4 z h d r : S1x16x64x1024.Idx) = (ix4 0 h ⟨64 * (n % 4) + d.val, by omega⟩ r : S1x16x256x1024.Idx) := by
  funext a
  apply Fin.ext
  match a with
  | ⟨0, _⟩ => show 0 + 1 * z.val = 0; omega
  | ⟨1, _⟩ => show 0 + 1 * h.val = h.val; omega
  | ⟨2, _⟩ => show 64 * (n % 4) + 1 * d.val = 64 * (n % 4) + d.val; omega
  | ⟨3, _⟩ => show 0 + 1 * r.val = r.val; omega

theorem oKEmb (g : ℕ) (y z : Fin 1) (r : Fin 1024) (p : Fin 256) :
    (oK g).emb (ix4 y z r p : S1x1x1024x256.Idx) = (ix4 0 ⟨g % 4, by omega⟩ r p : S1x4x1024x256.Idx) := by
  funext a
  apply Fin.ext
  match a with
  | ⟨0, _⟩ => show 0 + 1 * y.val = 0; omega
  | ⟨1, _⟩ => show g % 4 + 1 * z.val = g % 4; omega
  | ⟨2, _⟩ => show 0 + 1 * r.val = r.val; omega
  | ⟨3, _⟩ => show 0 + 1 * p.val = p.val; omega

theorem oVEmb (g e : ℕ) (x y z : Fin 1) (d : Fin 64) (r : Fin 512) :
    (oV g e).emb (ix5 x y z d r : S1x1x1x64x512.Idx) = (ix5 0 ⟨g % 4, by omega⟩ ⟨e % 2, by omega⟩ d r : S1x4x2x64x512.Idx) := by
  funext a
  apply Fin.ext
  match a with
  | ⟨0, _⟩ => show 0 + 1 * x.val = 0; omega
  | ⟨1, _⟩ => show g % 4 + 1 * y.val = g % 4; omega
  | ⟨2, _⟩ => show e % 2 + 1 * z.val = e % 2; omega
  | ⟨3, _⟩ => show 0 + 1 * d.val = d.val; omega
  | ⟨4, _⟩ => show 0 + 1 * r.val = r.val; omega

/-- The queries' block: two clipped copies of each head, then two of the remainder. -/
def qBlk (I : Ins Ideal) (x3 : Vec Ideal S64x1024 .f32) (x5 x6 : Vec Ideal S32x1024 .f32) : FVec Ideal S1x16x256x1024 .fp8e4m3 := fun y =>
  part (Nat.ble 2 ((y 2).val / 64)) (T I x5 x6 x3 ⟨(y 1).val, by have h1 := (y 1).isLt; change _ < 16 at h1; omega⟩ (y 3)
    ⟨(y 2).val % 64, by omega⟩)

theorem pcQ_eq (H0 : Reads I x3 x4 x5 x6) (n : ℕ) (hn : n < 4) (x : (I.pcQ n).1.shape.Idx) :
    (I.pcQ n).2 x = qBlk I x3 x5 x6 ((I.pcQ n).1.emb x) := by
  obtain ⟨z, h, d, r, rfl⟩ : ∃ (z : Fin 1) (h : Fin 16) (d : Fin 64) (r : Fin 1024), x = (ix4 z h d r : S1x16x64x1024.Idx) :=
    ⟨x 0, x 1, x 2, x 3, eq_ix4 x⟩
  have eR : qBlk I x3 x5 x6 ((oQ n).emb (ix4 z h d r : S1x16x64x1024.Idx))
      = part (Nat.ble 2 n) (T I x5 x6 x3 ⟨h.val, by omega⟩ r d) := by
    rw [oQEmb]
    show part (Nat.ble 2 ((64 * (n % 4) + d.val) / 64)) (T I x5 x6 x3 ⟨h.val, by omega⟩ r ⟨(64 * (n % 4) + d.val) % 64, by omega⟩) = _
    have e1 : (64 * (n % 4) + d.val) / 64 = n := by omega
    have e2 : (⟨(64 * (n % 4) + d.val) % 64, by omega⟩ : Fin 64) = d := Fin.ext (by show (64 * (n % 4) + d.val) % 64 = d.val; omega)
    rw [e1, e2]
  have eQ : I.rQ I.L9 (ix3 h d r) = T I x5 x6 x3 ⟨h.val, by omega⟩ r d := by
    refine (H0.rd _ qAll _).trans ?_
    rw [qAllEmb]
    exact c9q H0 h d r
  refine Eq.trans ?_ eR.symm
  show (bif Nat.ble 2 n then k0_pay37 (k0_pay33 (I.rQ I.L9))
    else k0_pay34 (I.rQ I.L9)) (ix4 z h d r) = _
  cases Nat.ble 2 n with
  | true => exact (pay37_at _ z h d r).trans (by rw [eQ]; rfl)
  | false => exact (pay34_at _ z h d r).trans (by rw [eQ]; rfl)

theorem qBlk_eq (H0 : Reads I x3 x4 x5 x6) : View.canon I.stQ = qBlk I x3 x5 x6 := by
  refine funext fun (y : S1x16x256x1024.Idx) => ?_
  obtain ⟨z, h, p, r, rfl⟩ : ∃ (z : Fin 1) (h : Fin 16) (p : Fin 256) (r : Fin 1024), y = ix4 z h p r := ⟨y 0, y 1, y 2, y 3, eq_ix4 y⟩
  refine View.canon_apply_of_pieces (Val := Elt Ideal) (qBlk I x3 x5 x6) I.stQ ?_ (ix4 z h p r : S1x16x256x1024.Idx) ?_
  · change ∀ p ∈ (List.range 4).reverse.map I.pcQ, _
    intro p hp
    obtain ⟨n, hn, rfl⟩ := List.mem_map.1 hp
    exact pcQ_eq H0 n (List.mem_range.1 (List.mem_reverse.1 hn))
  · change ∃ q ∈ (List.range 4).reverse.map I.pcQ, _
    refine ⟨_, List.mem_map.2 ⟨p.val / 64, List.mem_reverse.2 (List.mem_range.2 (by omega)), rfl⟩, ?_⟩
    have e : (ix4 z h p r : S1x16x256x1024.Idx) = (oQ (p.val / 64)).emb (ix4 0 h ⟨p.val % 64, by omega⟩ r : S1x16x64x1024.Idx) := by
      rw [oQEmb]
      congr 1
      · exact Subsingleton.elim _ _
      · exact Fin.ext (by show p.val = 64 * (p.val / 64 % 4) + p.val % 64; omega)
    rw [e]
    exact LoadRect.idx_mem _ _

/-- The keys' block: clipped and remaining copies by turns. -/
def kBlk (I : Ins Ideal) (x4 : Vec Ideal S64x1024 .f32) (x5 x6 : Vec Ideal S32x1024 .f32) : FVec Ideal S1x4x1024x256 .fp8e4m3 := fun y =>
  part ((y 3).val / 64 % 2 == 1) (T I x5 x6 x4 ⟨16 + (y 1).val, by have h1 := (y 1).isLt; change _ < 4 at h1; omega⟩ (y 2)
    ⟨(y 3).val % 64, by omega⟩)

theorem pcK_eq (H0 : Reads I x3 x4 x5 x6) (n : ℕ) (x : (I.pcK n).1.shape.Idx) :
    (I.pcK n).2 x = kBlk I x4 x5 x6 ((I.pcK n).1.emb x) := by
  obtain ⟨y, z, r, p, rfl⟩ : ∃ (y z : Fin 1) (r : Fin 1024) (p : Fin 256), x = (ix4 y z r p : S1x1x1024x256.Idx) :=
    ⟨x 0, x 1, x 2, x 3, eq_ix4 x⟩
  have eR : kBlk I x4 x5 x6 ((oK n).emb (ix4 y z r p : S1x1x1024x256.Idx))
      = part (p.val / 64 % 2 == 1) (T I x5 x6 x4 ⟨16 + n % 4, by omega⟩ r ⟨p.val % 64, by omega⟩) := by
    rw [oKEmb]
    rfl
  refine Eq.trans ((pay38_at _ y z r p).trans ?_) eR.symm
  refine congrArg (part _) ?_
  refine (H0.rd _ (kOne n) _).trans ?_
  rw [kOneEmb]
  exact c9k H0 ⟨n % 4, by omega⟩ _ r

theorem kBlk_eq (H0 : Reads I x3 x4 x5 x6) : View.canon I.stK = kBlk I x4 x5 x6 := by
  refine funext fun (y : S1x4x1024x256.Idx) => ?_
  obtain ⟨z, g, r, p, rfl⟩ : ∃ (z : Fin 1) (g : Fin 4) (r : Fin 1024) (p : Fin 256), y = ix4 z g r p := ⟨y 0, y 1, y 2, y 3, eq_ix4 y⟩
  refine View.canon_apply_of_pieces (Val := Elt Ideal) (kBlk I x4 x5 x6) I.stK ?_ (ix4 z g r p : S1x4x1024x256.Idx) ?_
  · change ∀ p ∈ (List.range 4).reverse.map I.pcK, _
    intro p hp
    obtain ⟨n, hn, rfl⟩ := List.mem_map.1 hp
    exact pcK_eq H0 n
  · change ∃ q ∈ (List.range 4).reverse.map I.pcK, _
    refine ⟨_, List.mem_map.2 ⟨g.val, List.mem_reverse.2 (List.mem_range.2 g.isLt), rfl⟩, ?_⟩
    have e : (ix4 z g r p : S1x4x1024x256.Idx) = (oK g.val).emb (ix4 0 0 r p : S1x1x1024x256.Idx) := by
      rw [oKEmb]
      congr 1
      · exact Subsingleton.elim _ _
      · exact Fin.ext (by show g.val = g.val % 4; omega)
    rw [e]
    exact LoadRect.idx_mem _ _

/-- The values' block. -/
def vBlk (I : Ins Ideal) : FVec Ideal S1x4x2x64x512 .bf16 := fun y =>
  P I ⟨20 + (y 1).val, by have h1 := (y 1).isLt; change _ < 4 at h1; omega⟩
    ⟨512 * (y 2).val + (y 4).val, by have h2 := (y 2).isLt; have h4 := (y 4).isLt; change _ < 2 at h2; change _ < 512 at h4; omega⟩ (y 3)

theorem vBlk_at (n m : ℕ) (w y z : Fin 1) (d : Fin 64) (r : Fin 512) :
    vBlk I ((oV n m).emb (ix5 w y z d r : S1x1x1x64x512.Idx))
      = P I ⟨20 + n % 4, by omega⟩ ⟨512 * (m % 2) + r.val, by omega⟩ d := by
  rw [oVEmb]
  rfl

theorem rV1_at (H0 : Reads I x3 x4 x5 x6) (n m : ℕ) (d : Fin 64) (r : Fin 512) :
    I.rV1 I.L9 n m (ix3 0 d r) = P I ⟨20 + n % 4, by omega⟩ ⟨512 * (m % 2) + r.val, by omega⟩ d := by
  refine (H0.rd _ (vOne n m) _).trans ?_
  rw [vOneEmb]
  exact c9v _ d _ (by show 20 ≤ 20 + n % 4; omega)

theorem pcV_at (H0 : Reads I x3 x4 x5 x6) (n m : ℕ) (w y z : Fin 1) (d : Fin 64) (r : Fin 512) :
    k0_pay39 (I.rV1 I.L9 n m) (ix5 w y z d r) = vBlk I ((oV n m).emb (ix5 w y z d r : S1x1x1x64x512.Idx)) :=
  (pay39_at _ w y z d r).trans ((rV1_at H0 n m d r).trans (vBlk_at n m w y z d r).symm)

theorem pcV_eq (H0 : Reads I x3 x4 x5 x6) (n m : ℕ) (x : (I.pcV n m).1.shape.Idx) :
    (I.pcV n m).2 x = vBlk I ((I.pcV n m).1.emb x) := by
  have e : x = (ix5 (x 0) (x 1) (x 2) (x 3) (x 4) : S1x1x1x64x512.Idx) := eq_ix5 x
  rw [e]
  exact pcV_at H0 n m _ _ _ _ _

theorem vBlk_eq (H0 : Reads I x3 x4 x5 x6) : View.canon I.stV = vBlk I := by
  refine funext fun (y : S1x4x2x64x512.Idx) => ?_
  obtain ⟨z, g, e, d, r, rfl⟩ : ∃ (z : Fin 1) (g : Fin 4) (e : Fin 2) (d : Fin 64) (r : Fin 512), y = ix5 z g e d r :=
    ⟨y 0, y 1, y 2, y 3, y 4, eq_ix5 y⟩
  refine View.canon_apply_of_pieces (Val := Elt Ideal) (vBlk I) I.stV ?_ (ix5 z g e d r : S1x4x2x64x512.Idx) ?_
  · change ∀ p ∈ (List.range 8).reverse.map (fun n => I.pcV (n / 2) (n % 2)), _
    intro p hp
    obtain ⟨n, hn, rfl⟩ := List.mem_map.1 hp
    exact pcV_eq H0 (n / 2) (n % 2)
  · change ∃ q ∈ (List.range 8).reverse.map (fun n => I.pcV (n / 2) (n % 2)), _
    refine ⟨_, List.mem_map.2 ⟨2 * g.val + e.val, List.mem_reverse.2 (List.mem_range.2 (by omega)), rfl⟩, ?_⟩
    have e : (ix5 z g e d r : S1x4x2x64x512.Idx)
        = (oV ((2 * g.val + e.val) / 2) ((2 * g.val + e.val) % 2)).emb (ix5 0 0 0 d r : S1x1x1x64x512.Idx) := by
      rw [oVEmb]
      congr 1
      · exact Subsingleton.elim _ _
      · exact Fin.ext (by show g.val = (2 * g.val + e.val) / 2 % 4; omega)
      · exact Fin.ext (by show e.val = (2 * g.val + e.val) % 2 % 2; omega)
    rw [e]
    exact LoadRect.idx_mem _ _

/-- The products, from the blocks. -/
theorem P_at (x0 : Vec Ideal S1x1024x1024 .f32) (x1 : Vec Ideal S1x1024 .f32) (x2 : Vec Ideal S1536x1024 .bf16)
    (x3 x4 : Vec Ideal S64x1024 .f32) (x5 x6 : Vec Ideal S32x1024 .f32) (h : Fin 24) (r : Fin 1024) (d : Fin 64) : P (at_ x0 x1 x2 x3 x4 x5 x6) h r d
    = ∑ j : Fin 1024, x2 (ix2 ⟨h.val * 64 + d.val, by omega⟩ j) * rmsRow (fun k => x0 (ix3 0 r k)) (fun k => x1 (ix2 0 k)) j := by
  have e : (at_ x0 x1 x2 x3 x4 x5 x6).prod = k0_pay2 x0 x1 x2 := by
    show k0_pay2 (View.ld x0 xR) (View.ld x1 nR) (View.ld x2 wR) = _
    unfold xR nR wR
    rw [View.ld_unit_zero zero3, View.ld_unit_zero zero2, View.ld_unit_zero zero2]
  unfold P
  rw [e, pay2_eq, proj_at]
  refine Finset.sum_congr rfl fun j _ => congrArg (_ * ·) ?_
  refine (nrm_at (shapeCast S1024x1024 x0 shapeCasts_S1x1024x1024_S1024x1024) x1 r j).trans ?_
  congr 1
  funext k
  pointwise

end Cert.QkvA

end
-- ==== Proof.QkvA.Tables.lean ====
/- The rotary angles: a position of the 64-wide grid has a row and a column, and each turns sixteen pairs of features. -/
module

public import proofs.«01_k».proof.Proof.QkvA.Spec
public import proofs.«01_k».proof.Proof.Gen.Reference6Ideal.Value

@[expose] public section

noncomputable section

namespace Cert.QkvA

open Cert.Reference6Ideal Cert.Reference6Ideal.Gen Idealize.ShloMosaic Idealize.ShloMosaic.Tactic Finset

/-- The positions, -/
def posI : IVec S8192 32 := iotaInDim S8192 32 0

/-- a constant at every position, -/
def allI (k : IVec S_ 32) : IVec S8192 32 := broadcastInDim S8192 ![] bcast_S_S8192 k

/-- the grid's width, -/
def wid : IVec S_ 32 := constantI S_ 32 64#32

/-- the floor of a position over it, -/
def rowI : IVec S8192 32 :=
  select (andi (cmpi .ne (signi posI) (broadcastInDim S8192 ![] bcast_S_S8192 (signi wid)))
      (cmpi .ne (Host.remsi posI (allI wid)) (allI (constantI S_ 32 0#32))))
    (subi (Host.divsi posI (allI wid)) (allI (constantI S_ 32 1#32))) (Host.divsi posI (allI wid))

/-- the divisor of the remainder, which would be one if the width were nought, -/
def widS : IVec S_ 32 := select (cmpi .eq wid (constantI S_ 32 0#32)) (constantI S_ 32 1#32) wid

/-- and the remainder. -/
def colI : IVec S8192 32 :=
  select (andi (cmpi .ne (cmpi .slt (Host.remsi posI (allI widS)) (allI (constantI S_ 32 0#32)))
        (broadcastInDim S8192 ![] bcast_S_S8192 (cmpi .slt widS (constantI S_ 32 0#32))))
      (cmpi .ne (Host.remsi posI (allI widS)) (allI (constantI S_ 32 0#32))))
    (addi (Host.remsi posI (allI widS)) (allI widS)) (Host.remsi posI (allI widS))

/-- As numbers: the row, -/
def rowT : FVec Ideal S8192 .f32 := sitofp .f32 rowI
/-- the column, -/
def colT : FVec Ideal S8192 .f32 := sitofp .f32 colI

/-- and the sixteen frequencies. -/
def invT : FVec Ideal S16 .f32 :=
  Host.powf (broadcastInDim S16 ![] bcast_S_S16 (constant S_ .f32 0x461C4000#32))
    (Host.divf (Host.negf (addf (broadcastInDim S16 ![] bcast_S_S16 (constant S_ .f32 0x00000000#32))
        (mulf (broadcastInDim S16 ![] bcast_S_S16 (constant S_ .f32 0x40000000#32)) (sitofp .f32 (iotaInDim S16 32 0)))))
      (broadcastInDim S16 ![] bcast_S_S16 (constant S_ .f32 0x42000000#32)))

/-- The angle of a position for one of the 32 pairs: the first sixteen turn by the row, the others by the column. -/
def angle (l : Fin 8192) (p : Fin 32) : EReal :=
  (if p.val < 16 then rowT (ix1 l) else colT (ix1 l)) * invT (ix1 ⟨p.val % 16, by omega⟩)

/-- The reference's table of the angles. -/
def rAng (row col : FVec Ideal S8192 .f32) (inv : FVec Ideal S16 .f32) : FVec Ideal S8192x32 .f32 :=
  concatenate S8192x32 1
    [⟨S8192x16, mulf (broadcastInDim S8192x16 ![0, 1] bcast_S8192x1_S8192x16_0_1 (broadcastInDim S8192x1 ![0] bcast_S8192_S8192x1_0 row))
        (broadcastInDim S8192x16 ![0, 1] bcast_S1x16_S8192x16_0_1 (broadcastInDim S1x16 ![1] bcast_S16_S1x16_1 inv))⟩,
      ⟨S8192x16, mulf (broadcastInDim S8192x16 ![0, 1] bcast_S8192x1_S8192x16_0_1 (broadcastInDim S8192x1 ![0] bcast_S8192_S8192x1_0 col))
        (broadcastInDim S8192x16 ![0, 1] bcast_S1x16_S8192x16_0_1 (broadcastInDim S1x16 ![1] bcast_S16_S1x16_1 inv))⟩]
    concatenates_S8192x16_S8192x16_S8192x32_d1

theorem rAng_row (row col : FVec Ideal S8192 .f32) (inv : FVec Ideal S16 .f32) (l : Fin 8192) (u : Fin 16) :
    rAng row col inv (ix2 l ⟨u.val, by omega⟩) = row (ix1 l) * inv (ix1 u) := by
  unfold rAng
  pointwise

theorem rAng_col (row col : FVec Ideal S8192 .f32) (inv : FVec Ideal S16 .f32) (l : Fin 8192) (u : Fin 16) :
    rAng row col inv (ix2 l ⟨16 + u.val, by omega⟩) = col (ix1 l) * inv (ix1 u) := by
  unfold rAng
  pointwise

/-- One of the 32 pairs is one of the first sixteen or one of the others. -/
theorem pairs (P : Fin 32 → Prop) (h0 : ∀ u : Fin 16, P ⟨u.val, by omega⟩) (h1 : ∀ u : Fin 16, P ⟨16 + u.val, by omega⟩)
    (p : Fin 32) : P p := by
  by_cases h : p.val < 16
  · exact h0 ⟨p.val, h⟩
  · have e : (⟨16 + (p.val - 16), by omega⟩ : Fin 32) = p := Fin.ext (by show 16 + (p.val - 16) = p.val; omega)
    exact e ▸ h1 ⟨p.val - 16, by omega⟩

theorem angle_row (l : Fin 8192) (u : Fin 16) : angle l ⟨u.val, by omega⟩ = rowT (ix1 l) * invT (ix1 u) := by
  unfold angle
  rw [if_pos u.isLt]
  exact congrArg (fun v => rowT (ix1 l) * invT (ix1 v)) (Fin.ext (by show u.val % 16 = u.val; omega))

theorem angle_col (l : Fin 8192) (u : Fin 16) : angle l ⟨16 + u.val, by omega⟩ = colT (ix1 l) * invT (ix1 u) := by
  unfold angle
  rw [if_neg (by show ¬ 16 + u.val < 16; omega)]
  exact congrArg (fun v => colT (ix1 l) * invT (ix1 v)) (Fin.ext (by show (16 + u.val) % 16 = u.val; omega))

theorem rAng_at (l : Fin 8192) (p : Fin 32) : rAng rowT colT invT (ix2 l p) = angle l p :=
  pairs (fun p => rAng rowT colT invT (ix2 l p) = angle l p)
    (fun u => (rAng_row _ _ _ l u).trans (angle_row l u).symm) (fun u => (rAng_col _ _ _ l u).trans (angle_col l u).symm) p

theorem cos_at (l : Fin 8192) (p : Fin 32) : (Host.cos (rAng rowT colT invT)) (ix2 l p) = Ideal.cos (angle l p) := by
  rw [← rAng_at]
  generalize rAng rowT colT invT = a
  pointwise

theorem sin_at (l : Fin 8192) (p : Fin 32) : (Host.sin (rAng rowT colT invT)) (ix2 l p) = Ideal.sin (angle l p) := by
  rw [← rAng_at]
  generalize rAng rowT colT invT = a
  pointwise

end Cert.QkvA

end
-- ==== Proof.QkvA.Gains.lean ====
/- The head norms' gains with their scales, as the host code of both programs makes them. -/
module

public import proofs.«01_k».proof.Proof.Gen.Reference6Ideal.Value
public import Idealize.ShloMosaic.Lib.Pointwise

@[expose] public section

noncomputable section

namespace Cert.QkvA

open Cert.Reference6Ideal Cert.Reference6Ideal.Gen Idealize.ShloMosaic Idealize.ShloMosaic.Tactic

variable (q k : FVec Ideal S1x64 .f32)

/-- The greatest size of a gain. -/
def bound (y : FVec Ideal S1x64 .f32) : FVec Ideal S1 .f32 :=
  Host.reduce FloatOps.maximumf (Host.absf y) (constant S_ .f32 0xFF800000#32) reducesTo_S1x64_S1_d1 h_S_

/-- The keys' bound over the queries', -/
def ratio : FVec Ideal S1 .f32 :=
  Host.divf (bound k) (mulf (bound q) (broadcastInDim S1 ![] bcast_S_S1 (constant S_ .f32 0x3E38AA3B#32)))

/-- or one where it is not a positive number, -/
def ratioS : FVec Ideal S1 .f32 :=
  select (andi (cmpf .olt (Host.absf (ratio q k)) (broadcastInDim S1 ![] bcast_S_S1 (constant S_ .f32 0x7F800000#32)))
      (cmpf .ogt (ratio q k) (broadcastInDim S1 ![] bcast_S_S1 (constant S_ .f32 0x00000000#32))))
    (ratio q k) (broadcastInDim S1 ![] bcast_S_S1 (constant S_ .f32 0x3F800000#32))

/-- and the power of two nearest its root, at every feature. -/
def balance : FVec Ideal S1x64 .f32 :=
  broadcastInDim S1x64 ![0, 1] bcast_S1x1_S1x64_0_1 (broadcastInDim S1x1 ![0] bcast_S1_S1x1_0
    (Host.exp (mulf (broadcastInDim S1 ![] bcast_S_S1 (constant S_ .f32 0x3F317218#32))
      (Host.roundeven (mulf (broadcastInDim S1 ![] bcast_S_S1 (constant S_ .f32 0x3F000000#32))
        (mulf (Host.log (ratioS q k)) (broadcastInDim S1 ![] bcast_S_S1 (constant S_ .f32 0x3FB8AA3B#32))))))))

/-- The queries' gain, -/
def gainQ : FVec Ideal S1x64 .f32 :=
  mulf (mulf q (broadcastInDim S1x64 ![] bcast_S_S1x64 (constant S_ .f32 0x3E38AA3B#32))) (balance q k)

/-- and the keys'. -/
def gainK : FVec Ideal S1x64 .f32 := Host.divf k (balance q k)

/-- A gain without the layer's axis. -/
def flat (y : FVec Ideal S1x64 .f32) : FVec Ideal S64 .f32 := shapeCast S64 y shapeCasts_S1x64_S64

/-- Equal gains have equal scales. -/
theorem flatQ_congr {q q' k k' : FVec Ideal S1x64 .f32} (hq : q = q') (hk : k = k') : flat (gainQ q k) = flat (gainQ q' k') := by
  subst hq hk
  rfl
theorem flatK_congr {q q' k k' : FVec Ideal S1x64 .f32} (hq : q = q') (hk : k = k') : flat (gainK q k) = flat (gainK q' k') := by
  subst hq hk
  rfl

theorem flat_at (y : FVec Ideal S1x64 .f32) (d : Fin 64) : flat y (ix1 d) = y (ix2 0 d) := by
  unfold flat
  pointwise

end Cert.QkvA

end
-- ==== Proof.QkvA.Host.lean ====
/- What the kernel's host code leaves in the kernel's operands. -/
module

public import proofs.«01_k».proof.Proof.QkvA.Tables
public import proofs.«01_k».proof.Proof.QkvA.Gains
public import proofs.«01_k».proof.Proof.Gen.Kernel6Ideal.Value
public import Idealize.ShloMosaic.Lib.StableHlo.RunRead

@[expose] public section

noncomputable section

namespace Cert.QkvA.Tiled

open Cert.Kernel6Ideal Cert.Kernel6Ideal.Gen Idealize.ShloMosaic Idealize.ShloMosaic.Tactic Finset

variable (m : (ℓ : Loc nD τ sig) → Buf (Elt Ideal) ℓ) (c : Dev nD)

/-- The arguments: the residual, the norm's gain, the weights and the heads' gains. -/
abbrev argX : FVec Ideal S4x8192x1024 .f32 := m ((c.tc : Thread nD τ).loc main_arg0)
abbrev argG : FVec Ideal S1024 .f32 := m ((c.tc : Thread nD τ).loc main_arg1)
abbrev argW : FVec Ideal S1024x1536 .f32 := m ((c.tc : Thread nD τ).loc main_arg2)
abbrev rawQ : FVec Ideal S1x64 .f32 := m ((c.tc : Thread nD τ).loc main_arg3)
abbrev rawK : FVec Ideal S1x64 .f32 := m ((c.tc : Thread nD τ).loc main_arg4)

/-- The heads' gains with their scales. -/
def argQ : FVec Ideal Cert.Reference6Ideal.S64 .f32 := flat (gainQ (rawQ m c) (rawK m c))
def argK : FVec Ideal Cert.Reference6Ideal.S64 .f32 := flat (gainK (rawQ m c) (rawK m c))

/-- The kernel's table of the angles, with the positions along the second axis. -/
def kAng (row col : FVec Ideal S8192 .f32) (inv : FVec Ideal S16 .f32) : FVec Ideal S32x8192 .f32 :=
  concatenate S32x8192 0
    [⟨S16x8192, mulf (broadcastInDim S16x8192 ![0, 1] bcast_S16x1_S16x8192_0_1 (broadcastInDim S16x1 ![0] bcast_S16_S16x1_0 inv))
        (broadcastInDim S16x8192 ![0, 1] bcast_S1x8192_S16x8192_0_1 (broadcastInDim S1x8192 ![1] bcast_S8192_S1x8192_1 row))⟩,
      ⟨S16x8192, mulf (broadcastInDim S16x8192 ![0, 1] bcast_S16x1_S16x8192_0_1 (broadcastInDim S16x1 ![0] bcast_S16_S16x1_0 inv))
        (broadcastInDim S16x8192 ![0, 1] bcast_S1x8192_S16x8192_0_1 (broadcastInDim S1x8192 ![1] bcast_S8192_S1x8192_1 col))⟩]
    concatenates_S16x8192_S16x8192_S32x8192_d0

theorem kAng_row (row col : FVec Ideal S8192 .f32) (inv : FVec Ideal S16 .f32) (u : Fin 16) (l : Fin 8192) :
    kAng row col inv (ix2 ⟨u.val, by omega⟩ l) = inv (ix1 u) * row (ix1 l) := by
  unfold kAng
  pointwise

theorem kAng_col (row col : FVec Ideal S8192 .f32) (inv : FVec Ideal S16 .f32) (u : Fin 16) (l : Fin 8192) :
    kAng row col inv (ix2 ⟨16 + u.val, by omega⟩ l) = inv (ix1 u) * col (ix1 l) := by
  unfold kAng
  pointwise

theorem kAng_at (p : Fin 32) (l : Fin 8192) : kAng rowT colT invT (ix2 p l) = angle l p :=
  pairs (fun p => kAng rowT colT invT (ix2 p l) = angle l p)
    (fun u => (kAng_row _ _ _ u l).trans ((mul_comm _ _).trans (angle_row l u).symm))
    (fun u => (kAng_col _ _ _ u l).trans ((mul_comm _ _).trans (angle_col l u).symm)) p

theorem v_x : V m c main_arg0 = argX m c := V_main_arg0 m c

theorem v_g (j : Fin 1024) : V m c main_v62 (ix2 0 j) = argG m c (ix1 j) := by
  have e : V m c main_v62 = broadcastInDim S1x1024 ![1] bcast_S1024_S1x1024_1 (argG m c) := by
    after_reads_simp
  rw [e]
  generalize argG m c = g
  pointwise

theorem v_w (f : Fin 1536) (j : Fin 1024) : V m c main_v64 (ix2 f j) = argW m c (ix2 j f) := by
  have e : V m c main_v64
      = truncf .bf16 (transpose S1536x1024 [1, 0] (argW m c) transposes_S1024x1536_S1536x1024_1_0) bitsLt_bf16_f32 := by
    after_reads_simp
  rw [e]
  generalize argW m c = w
  pointwise

/-- A gain at every row of a block. -/
def wide (y : FVec Ideal S1x64 .f32) : FVec Ideal S64x1024 .f32 :=
  shapeCast S64x1024 (broadcastInDim S1x64x1024 ![0, 1, 2] bcast_S1x64x1_S1x64x1024_0_1_2
    (broadcastInDim S1x64x1 ![0, 1] bcast_S1x64_S1x64x1_0_1 y)) shapeCasts_S1x64x1024_S64x1024

theorem wide_at (y : FVec Ideal S1x64 .f32) (d : Fin 64) (r : Fin 1024) : wide y (ix2 d r) = y (ix2 0 d) := by
  unfold wide
  pointwise

theorem v_qg (d : Fin 64) (r : Fin 1024) : V m c main_v65 (ix2 d r) = argQ m c (ix1 d) := by
  have e : V m c main_v65 = wide (gainQ (rawQ m c) (rawK m c)) := by
    unfold wide gainQ balance ratioS ratio bound
    after_reads_simp
    rfl
  rw [e]
  exact (wide_at _ d r).trans (flat_at _ d).symm

theorem v_kg (d : Fin 64) (r : Fin 1024) : V m c main_v66 (ix2 d r) = argK m c (ix1 d) := by
  have e : V m c main_v66 = wide (gainK (rawQ m c) (rawK m c)) := by
    unfold wide gainK balance ratioS ratio bound
    after_reads_simp
    rfl
  rw [e]
  exact (wide_at _ d r).trans (flat_at _ d).symm

theorem v_cosT : V m c main_v60 = Host.cos (kAng rowT colT invT) := by
  unfold kAng invT rowT colT
  after_reads_simp [StableHlo.readPieces]
  rfl

theorem v_sinT : V m c main_v61 = Host.sin (kAng rowT colT invT) := by
  unfold kAng invT rowT colT
  after_reads_simp [StableHlo.readPieces]
  rfl

theorem v_cos (p : Fin 32) (l : Fin 8192) : V m c main_v60 (ix2 p l) = Ideal.cos (angle l p) := by
  rw [v_cosT, ← kAng_at]
  generalize kAng rowT colT invT = a
  pointwise

theorem v_sin (p : Fin 32) (l : Fin 8192) : V m c main_v61 (ix2 p l) = Ideal.sin (angle l p) := by
  rw [v_sinT, ← kAng_at]
  generalize kAng rowT colT invT = a
  pointwise

end Cert.QkvA.Tiled

end
-- ==== Proof.QkvA.Heads.lean ====
/- The reference's heads, element by element: normed, scaled by their gains and turned. -/
module

public import proofs.«01_k».proof.Proof.Mlp.Ref
public import proofs.«01_k».proof.Proof.QkvA.Tables

@[expose] public section

noncomputable section

namespace Cert.QkvA

open Cert.Reference6Ideal Cert.Reference6Ideal.Gen Idealize.ShloMosaic Idealize.ShloMosaic.Tactic Finset
open Cert.Mlp (rmsRow rNrm rNrm_at)

variable (x : FVec Ideal S4x8192x1024 .f32) (g : FVec Ideal S1024 .f32) (w : FVec Ideal S1024x1536 .f32)

/-- A feature of a row's projection. -/
def feat (b : Fin 4) (l : Fin 8192) (e : Fin 1536) : EReal :=
  ∑ j : Fin 1024, rmsRow (fun k => x (ix3 b l k)) (fun k => g (ix1 k)) j * w (ix2 j e)

/-- The normalised rows times the weights. -/
def rProj : FVec Ideal S4x8192x1536 .f32 :=
  Host.dotGeneral dot_S4x8192x1024_S1024x1536_S4x8192x1536_2_0_01_1_n_n none (rNrm x g) w

theorem rProj_at (b : Fin 4) (l : Fin 8192) (e : Fin 1536) : rProj x g w (ix3 b l e) = feat x g w b l e := by
  unfold rProj
  pointwise
  simp only [rNrm_at]
  rfl

/-! ## The quarters of a head -/

/-- A feature of a head lies in the lower or in the upper quarter of one of its halves. -/
theorem quarters (P : Fin 64 → Prop) (h0 : ∀ (a : Fin 2) (j : Fin 16), P ⟨a.val * 32 + j.val, by omega⟩)
    (h1 : ∀ (a : Fin 2) (j : Fin 16), P ⟨a.val * 32 + (16 + j.val), by omega⟩) (d : Fin 64) : P d := by
  by_cases h : d.val % 32 < 16
  · have e : (⟨d.val / 32 * 32 + d.val % 32, by omega⟩ : Fin 64) = d := Fin.ext (by show d.val / 32 * 32 + d.val % 32 = d.val; omega)
    exact e ▸ h0 ⟨d.val / 32, by omega⟩ ⟨d.val % 32, h⟩
  · have e : (⟨d.val / 32 * 32 + (16 + (d.val % 32 - 16)), by omega⟩ : Fin 64) = d :=
      Fin.ext (by show d.val / 32 * 32 + (16 + (d.val % 32 - 16)) = d.val; omega)
    exact e ▸ h1 ⟨d.val / 32, by omega⟩ ⟨d.val % 32 - 16, by omega⟩

theorem turn_at_low (y : Fin 64 → EReal) (c s : Fin 32 → EReal) (a : Fin 2) (j : Fin 16) :
    turn y c s ⟨a.val * 32 + j.val, by omega⟩
      = y ⟨a.val * 32 + j.val, by omega⟩ * c ⟨a.val * 16 + j.val, by omega⟩
        - y ⟨a.val * 32 + (16 + j.val), by omega⟩ * s ⟨a.val * 16 + j.val, by omega⟩ :=
  turn_lo y c s _ _ _ (by show (a.val * 32 + j.val) % 32 < 16; omega) (by show a.val * 32 + (16 + j.val) = a.val * 32 + j.val + 16; omega)
    (by show a.val * 16 + j.val = 16 * ((a.val * 32 + j.val) / 32) + (a.val * 32 + j.val) % 16; omega)

theorem turn_at_upp (y : Fin 64 → EReal) (c s : Fin 32 → EReal) (a : Fin 2) (j : Fin 16) :
    turn y c s ⟨a.val * 32 + (16 + j.val), by omega⟩
      = y ⟨a.val * 32 + (16 + j.val), by omega⟩ * c ⟨a.val * 16 + j.val, by omega⟩
        + y ⟨a.val * 32 + j.val, by omega⟩ * s ⟨a.val * 16 + j.val, by omega⟩ :=
  turn_hi y c s _ _ _ (by show ¬ (a.val * 32 + (16 + j.val)) % 32 < 16; omega)
    (by show a.val * 32 + j.val + 16 = a.val * 32 + (16 + j.val); omega)
    (by show a.val * 16 + j.val = 16 * ((a.val * 32 + (16 + j.val)) / 32) + (a.val * 32 + (16 + j.val)) % 16; omega)

/-! ## The queries -/

/-- The queries' heads, -/
def qHead (y : FVec Ideal S4x8192x1536 .f32) : FVec Ideal S4x8192x16x64 .f32 :=
  shapeCast S4x8192x16x64 (extractStridedSlice S4x8192x1024 ![0, 0, 0] y slices_S4x8192x1536_S4x8192x1024_0_0_0)
    shapeCasts_S4x8192x1024_S4x8192x16x64

theorem qHead_at (y : FVec Ideal S4x8192x1536 .f32) (b : Fin 4) (l : Fin 8192) (h : Fin 16) (d : Fin 64) :
    qHead y (ix4 b l h d) = y (ix3 b l ⟨h.val * 64 + d.val, by omega⟩) := by
  unfold qHead
  pointwise

/-- normed, -/
def qNrm (z : FVec Ideal S4x8192x16x64 .f32) (a : FVec Ideal S64 .f32) : FVec Ideal S4x8192x16x64 .f32 :=
  mulf (mulf z (broadcastInDim S4x8192x16x64 ![0, 1, 2, 3] bcast_S4x8192x16x1_S4x8192x16x64_0_1_2_3 (Host.rsqrt (addf (Host.divf
      (broadcastInDim S4x8192x16x1 ![0, 1, 2] bcast_S4x8192x16_S4x8192x16x1_0_1_2
        (Host.reduceAdd (mulf z z) (constant S_ .f32 0x00000000#32) reducesTo_S4x8192x16x64_S4x8192x16_d3 h_S_))
      (broadcastInDim S4x8192x16x1 ![] bcast_S_S4x8192x16x1 (constant S_ .f32 0x42800000#32)))
      (broadcastInDim S4x8192x16x1 ![] bcast_S_S4x8192x16x1 (constant S_ .f32 0x358637BD#32))))))
    (broadcastInDim S4x8192x16x64 ![0, 1, 2, 3] bcast_S1x1x1x64_S4x8192x16x64_0_1_2_3 (broadcastInDim S1x1x1x64 ![3] bcast_S64_S1x1x1x64_3 a))

theorem qNrm_at (z : FVec Ideal S4x8192x16x64 .f32) (a : FVec Ideal S64 .f32) (b : Fin 4) (l : Fin 8192) (h : Fin 16) (d : Fin 64) :
    qNrm z a (ix4 b l h d) = headN (fun e => z (ix4 b l h e)) (fun e => a (ix1 e)) d := by
  unfold qNrm headN
  pointwise

/-- each half's lower and upper quarters, -/
def qLow (z : FVec Ideal S4x8192x16x64 .f32) : FVec Ideal S4x8192x16x2x16 .f32 :=
  extractStridedSlice S4x8192x16x2x16 ![0, 0, 0, 0, 0] (shapeCast S4x8192x16x2x32 z shapeCasts_S4x8192x16x64_S4x8192x16x2x32)
    slices_S4x8192x16x2x32_S4x8192x16x2x16_0_0_0_0_0

def qUpp (z : FVec Ideal S4x8192x16x64 .f32) : FVec Ideal S4x8192x16x2x16 .f32 :=
  extractStridedSlice S4x8192x16x2x16 ![0, 0, 0, 0, 16] (shapeCast S4x8192x16x2x32 z shapeCasts_S4x8192x16x64_S4x8192x16x2x32)
    slices_S4x8192x16x2x32_S4x8192x16x2x16_0_0_0_0_16

theorem qLow_at (z : FVec Ideal S4x8192x16x64 .f32) (b : Fin 4) (l : Fin 8192) (h : Fin 16) (a : Fin 2) (j : Fin 16) :
    qLow z (ix5 b l h a j) = z (ix4 b l h ⟨a.val * 32 + j.val, by omega⟩) := by
  unfold qLow
  pointwise

theorem qUpp_at (z : FVec Ideal S4x8192x16x64 .f32) (b : Fin 4) (l : Fin 8192) (h : Fin 16) (a : Fin 2) (j : Fin 16) :
    qUpp z (ix5 b l h a j) = z (ix4 b l h ⟨a.val * 32 + (16 + j.val), by omega⟩) := by
  unfold qUpp
  pointwise

/-- a table of the angles, one for every head, -/
def qTab (c : FVec Ideal S8192x32 .f32) : FVec Ideal S4x8192x16x2x16 .f32 :=
  broadcastInDim S4x8192x16x2x16 ![0, 1, 2, 3, 4] bcast_S1x8192x1x2x16_S4x8192x16x2x16_0_1_2_3_4
    (broadcastInDim S1x8192x1x2x16 ![1, 2, 3, 4] bcast_S8192x1x2x16_S1x8192x1x2x16_1_2_3_4
      (shapeCast S8192x1x2x16 c shapeCasts_S8192x32_S8192x1x2x16))

theorem qTab_at (c : FVec Ideal S8192x32 .f32) (b : Fin 4) (l : Fin 8192) (h : Fin 16) (a : Fin 2) (j : Fin 16) :
    qTab c (ix5 b l h a j) = c (ix2 l ⟨a.val * 16 + j.val, by omega⟩) := by
  unfold qTab
  pointwise

/-- two quarters side by side, -/
def qJoin (p q : FVec Ideal S4x8192x16x2x16 .f32) : FVec Ideal S4x8192x16x64 .f32 :=
  shapeCast S4x8192x16x64 (concatenate S4x8192x16x2x32 4 [⟨S4x8192x16x2x16, p⟩, ⟨S4x8192x16x2x16, q⟩]
    concatenates_S4x8192x16x2x16_S4x8192x16x2x16_S4x8192x16x2x32_d4) shapeCasts_S4x8192x16x2x32_S4x8192x16x64

theorem qJoin_low (p q : FVec Ideal S4x8192x16x2x16 .f32) (b : Fin 4) (l : Fin 8192) (h : Fin 16) (a : Fin 2) (j : Fin 16) :
    qJoin p q (ix4 b l h ⟨a.val * 32 + j.val, by omega⟩) = p (ix5 b l h a j) := by
  unfold qJoin
  pointwise
  rw [dif_pos (by omega)]
  exact congrArg (fun u => p (ix5 b l h a u)) (Fin.ext (by show (a.val * 32 + j.val) % 32 = j.val; omega))

theorem qJoin_upp (p q : FVec Ideal S4x8192x16x2x16 .f32) (b : Fin 4) (l : Fin 8192) (h : Fin 16) (a : Fin 2) (j : Fin 16) :
    qJoin p q (ix4 b l h ⟨a.val * 32 + (16 + j.val), by omega⟩) = q (ix5 b l h a j) := by
  unfold qJoin
  pointwise
  rw [dif_neg (by omega)]
  exact congrArg (fun u => q (ix5 b l h a u)) (Fin.ext (by show (a.val * 32 + (16 + j.val)) % 32 - 16 = j.val; omega))

/-- and the turned heads. -/
def qTurn (z : FVec Ideal S4x8192x16x64 .f32) (c s : FVec Ideal S8192x32 .f32) : FVec Ideal S4x8192x16x64 .f32 :=
  qJoin (subf (mulf (qLow z) (qTab c)) (mulf (qUpp z) (qTab s))) (addf (mulf (qUpp z) (qTab c)) (mulf (qLow z) (qTab s)))

theorem qTurn_at (z : FVec Ideal S4x8192x16x64 .f32) (c s : FVec Ideal S8192x32 .f32) (b : Fin 4) (l : Fin 8192) (h : Fin 16)
    (d : Fin 64) : qTurn z c s (ix4 b l h d)
      = turn (fun e => z (ix4 b l h e)) (fun p => c (ix2 l p)) (fun p => s (ix2 l p)) d := by
  refine quarters (fun d => qTurn z c s (ix4 b l h d)
      = turn (fun e => z (ix4 b l h e)) (fun p => c (ix2 l p)) (fun p => s (ix2 l p)) d) (fun a j => ?_) (fun a j => ?_) d
  · rw [turn_at_low]
    refine (qJoin_low _ _ b l h a j).trans ?_
    show qLow z (ix5 b l h a j) * qTab c (ix5 b l h a j) - qUpp z (ix5 b l h a j) * qTab s (ix5 b l h a j) = _
    rw [qLow_at, qUpp_at, qTab_at, qTab_at]
  · rw [turn_at_upp]
    refine (qJoin_upp _ _ b l h a j).trans ?_
    show qUpp z (ix5 b l h a j) * qTab c (ix5 b l h a j) + qLow z (ix5 b l h a j) * qTab s (ix5 b l h a j) = _
    rw [qLow_at, qUpp_at, qTab_at, qTab_at]

/-- The queries before their split, laid out for it, -/
def qLay (y : FVec Ideal S4x8192x16x64 .f32) : FVec Ideal S4x16x64x8192 .f32 :=
  transpose S4x16x64x8192 [0, 2, 3, 1] y transposes_S4x8192x16x64_S4x16x64x8192_0_2_3_1

theorem qLay_at (y : FVec Ideal S4x8192x16x64 .f32) (b : Fin 4) (h : Fin 16) (d : Fin 64) (l : Fin 8192) : qLay y (ix4 b h d l) = y (ix4 b l h d) := by
  unfold qLay
  pointwise

/-- from the residual and the gains. -/
def rQ (a : FVec Ideal S64 .f32) (c s : FVec Ideal S8192x32 .f32) : FVec Ideal S4x16x64x8192 .f32 :=
  qLay (qTurn (qNrm (qHead (rProj x g w)) a) c s)

theorem rQ_at (a : FVec Ideal S64 .f32) (c s : FVec Ideal S8192x32 .f32) (b : Fin 4) (h : Fin 16) (d : Fin 64) (l : Fin 8192) :
    rQ x g w a c s (ix4 b h d l)
      = turn (headN (fun e => feat x g w b l ⟨h.val * 64 + e.val, by omega⟩) (fun e => a (ix1 e)))
          (fun p => c (ix2 l p)) (fun p => s (ix2 l p)) d := by
  refine (qLay_at _ b h d l).trans ((qTurn_at _ c s b l h d).trans ?_)
  refine congrArg (fun v => turn v (fun p => c (ix2 l p)) (fun p => s (ix2 l p)) d) (funext fun e => ?_)
  refine (qNrm_at _ a b l h e).trans (congrArg (fun v => headN v (fun e => a (ix1 e)) e) (funext fun e' => ?_))
  exact (qHead_at _ b l h e').trans (rProj_at x g w b l _)

/-! ## The keys -/

/-- The keys' heads, -/
def kHead (y : FVec Ideal S4x8192x1536 .f32) : FVec Ideal S4x8192x4x64 .f32 :=
  shapeCast S4x8192x4x64 (extractStridedSlice S4x8192x256 ![0, 0, 1024] y slices_S4x8192x1536_S4x8192x256_0_0_1024)
    shapeCasts_S4x8192x256_S4x8192x4x64

theorem kHead_at (y : FVec Ideal S4x8192x1536 .f32) (b : Fin 4) (l : Fin 8192) (h : Fin 4) (d : Fin 64) :
    kHead y (ix4 b l h d) = y (ix3 b l ⟨1024 + (h.val * 64 + d.val), by omega⟩) := by
  unfold kHead
  pointwise

/-- normed, -/
def kNrm (z : FVec Ideal S4x8192x4x64 .f32) (a : FVec Ideal S64 .f32) : FVec Ideal S4x8192x4x64 .f32 :=
  mulf (mulf z (broadcastInDim S4x8192x4x64 ![0, 1, 2, 3] bcast_S4x8192x4x1_S4x8192x4x64_0_1_2_3 (Host.rsqrt (addf (Host.divf
      (broadcastInDim S4x8192x4x1 ![0, 1, 2] bcast_S4x8192x4_S4x8192x4x1_0_1_2
        (Host.reduceAdd (mulf z z) (constant S_ .f32 0x00000000#32) reducesTo_S4x8192x4x64_S4x8192x4_d3 h_S_))
      (broadcastInDim S4x8192x4x1 ![] bcast_S_S4x8192x4x1 (constant S_ .f32 0x42800000#32)))
      (broadcastInDim S4x8192x4x1 ![] bcast_S_S4x8192x4x1 (constant S_ .f32 0x358637BD#32))))))
    (broadcastInDim S4x8192x4x64 ![0, 1, 2, 3] bcast_S1x1x1x64_S4x8192x4x64_0_1_2_3 (broadcastInDim S1x1x1x64 ![3] bcast_S64_S1x1x1x64_3 a))

theorem kNrm_at (z : FVec Ideal S4x8192x4x64 .f32) (a : FVec Ideal S64 .f32) (b : Fin 4) (l : Fin 8192) (h : Fin 4) (d : Fin 64) :
    kNrm z a (ix4 b l h d) = headN (fun e => z (ix4 b l h e)) (fun e => a (ix1 e)) d := by
  unfold kNrm headN
  pointwise

/-- each half's lower and upper quarters, -/
def kLow (z : FVec Ideal S4x8192x4x64 .f32) : FVec Ideal S4x8192x4x2x16 .f32 :=
  extractStridedSlice S4x8192x4x2x16 ![0, 0, 0, 0, 0] (shapeCast S4x8192x4x2x32 z shapeCasts_S4x8192x4x64_S4x8192x4x2x32)
    slices_S4x8192x4x2x32_S4x8192x4x2x16_0_0_0_0_0

def kUpp (z : FVec Ideal S4x8192x4x64 .f32) : FVec Ideal S4x8192x4x2x16 .f32 :=
  extractStridedSlice S4x8192x4x2x16 ![0, 0, 0, 0, 16] (shapeCast S4x8192x4x2x32 z shapeCasts_S4x8192x4x64_S4x8192x4x2x32)
    slices_S4x8192x4x2x32_S4x8192x4x2x16_0_0_0_0_16

theorem kLow_at (z : FVec Ideal S4x8192x4x64 .f32) (b : Fin 4) (l : Fin 8192) (h : Fin 4) (a : Fin 2) (j : Fin 16) :
    kLow z (ix5 b l h a j) = z (ix4 b l h ⟨a.val * 32 + j.val, by omega⟩) := by
  unfold kLow
  pointwise

theorem kUpp_at (z : FVec Ideal S4x8192x4x64 .f32) (b : Fin 4) (l : Fin 8192) (h : Fin 4) (a : Fin 2) (j : Fin 16) :
    kUpp z (ix5 b l h a j) = z (ix4 b l h ⟨a.val * 32 + (16 + j.val), by omega⟩) := by
  unfold kUpp
  pointwise

/-- a table of the angles, one for every head, -/
def kTab (c : FVec Ideal S8192x32 .f32) : FVec Ideal S4x8192x4x2x16 .f32 :=
  broadcastInDim S4x8192x4x2x16 ![0, 1, 2, 3, 4] bcast_S1x8192x1x2x16_S4x8192x4x2x16_0_1_2_3_4
    (broadcastInDim S1x8192x1x2x16 ![1, 2, 3, 4] bcast_S8192x1x2x16_S1x8192x1x2x16_1_2_3_4
      (shapeCast S8192x1x2x16 c shapeCasts_S8192x32_S8192x1x2x16))

theorem kTab_at (c : FVec Ideal S8192x32 .f32) (b : Fin 4) (l : Fin 8192) (h : Fin 4) (a : Fin 2) (j : Fin 16) :
    kTab c (ix5 b l h a j) = c (ix2 l ⟨a.val * 16 + j.val, by omega⟩) := by
  unfold kTab
  pointwise

/-- two quarters side by side, -/
def kJoin (p q : FVec Ideal S4x8192x4x2x16 .f32) : FVec Ideal S4x8192x4x64 .f32 :=
  shapeCast S4x8192x4x64 (concatenate S4x8192x4x2x32 4 [⟨S4x8192x4x2x16, p⟩, ⟨S4x8192x4x2x16, q⟩]
    concatenates_S4x8192x4x2x16_S4x8192x4x2x16_S4x8192x4x2x32_d4) shapeCasts_S4x8192x4x2x32_S4x8192x4x64

theorem kJoin_low (p q : FVec Ideal S4x8192x4x2x16 .f32) (b : Fin 4) (l : Fin 8192) (h : Fin 4) (a : Fin 2) (j : Fin 16) :
    kJoin p q (ix4 b l h ⟨a.val * 32 + j.val, by omega⟩) = p (ix5 b l h a j) := by
  unfold kJoin
  pointwise
  rw [dif_pos (by omega)]
  exact congrArg (fun u => p (ix5 b l h a u)) (Fin.ext (by show (a.val * 32 + j.val) % 32 = j.val; omega))

theorem kJoin_upp (p q : FVec Ideal S4x8192x4x2x16 .f32) (b : Fin 4) (l : Fin 8192) (h : Fin 4) (a : Fin 2) (j : Fin 16) :
    kJoin p q (ix4 b l h ⟨a.val * 32 + (16 + j.val), by omega⟩) = q (ix5 b l h a j) := by
  unfold kJoin
  pointwise
  rw [dif_neg (by omega)]
  exact congrArg (fun u => q (ix5 b l h a u)) (Fin.ext (by show (a.val * 32 + (16 + j.val)) % 32 - 16 = j.val; omega))

/-- and the turned heads. -/
def kTurn (z : FVec Ideal S4x8192x4x64 .f32) (c s : FVec Ideal S8192x32 .f32) : FVec Ideal S4x8192x4x64 .f32 :=
  kJoin (subf (mulf (kLow z) (kTab c)) (mulf (kUpp z) (kTab s))) (addf (mulf (kUpp z) (kTab c)) (mulf (kLow z) (kTab s)))

theorem kTurn_at (z : FVec Ideal S4x8192x4x64 .f32) (c s : FVec Ideal S8192x32 .f32) (b : Fin 4) (l : Fin 8192) (h : Fin 4)
    (d : Fin 64) : kTurn z c s (ix4 b l h d)
      = turn (fun e => z (ix4 b l h e)) (fun p => c (ix2 l p)) (fun p => s (ix2 l p)) d := by
  refine quarters (fun d => kTurn z c s (ix4 b l h d)
      = turn (fun e => z (ix4 b l h e)) (fun p => c (ix2 l p)) (fun p => s (ix2 l p)) d) (fun a j => ?_) (fun a j => ?_) d
  · rw [turn_at_low]
    refine (kJoin_low _ _ b l h a j).trans ?_
    show kLow z (ix5 b l h a j) * kTab c (ix5 b l h a j) - kUpp z (ix5 b l h a j) * kTab s (ix5 b l h a j) = _
    rw [kLow_at, kUpp_at, kTab_at, kTab_at]
  · rw [turn_at_upp]
    refine (kJoin_upp _ _ b l h a j).trans ?_
    show kUpp z (ix5 b l h a j) * kTab c (ix5 b l h a j) + kLow z (ix5 b l h a j) * kTab s (ix5 b l h a j) = _
    rw [kLow_at, kUpp_at, kTab_at, kTab_at]

/-- The keys before their split, laid out for it, -/
def kLay (y : FVec Ideal S4x8192x4x64 .f32) : FVec Ideal S4x4x8192x64 .f32 :=
  transpose S4x4x8192x64 [0, 2, 1, 3] y transposes_S4x8192x4x64_S4x4x8192x64_0_2_1_3

theorem kLay_at (y : FVec Ideal S4x8192x4x64 .f32) (b h : Fin 4) (l : Fin 8192) (d : Fin 64) : kLay y (ix4 b h l d) = y (ix4 b l h d) := by
  unfold kLay
  pointwise

/-- from the residual and the gains. -/
def rK (a : FVec Ideal S64 .f32) (c s : FVec Ideal S8192x32 .f32) : FVec Ideal S4x4x8192x64 .f32 :=
  kLay (kTurn (kNrm (kHead (rProj x g w)) a) c s)

theorem rK_at (a : FVec Ideal S64 .f32) (c s : FVec Ideal S8192x32 .f32) (b h : Fin 4) (l : Fin 8192) (d : Fin 64) :
    rK x g w a c s (ix4 b h l d)
      = turn (headN (fun e => feat x g w b l ⟨1024 + (h.val * 64 + e.val), by omega⟩) (fun e => a (ix1 e)))
          (fun p => c (ix2 l p)) (fun p => s (ix2 l p)) d := by
  refine (kLay_at _ b h l d).trans ((kTurn_at _ c s b l h d).trans ?_)
  refine congrArg (fun v => turn v (fun p => c (ix2 l p)) (fun p => s (ix2 l p)) d) (funext fun e => ?_)
  refine (kNrm_at _ a b l h e).trans (congrArg (fun v => headN v (fun e => a (ix1 e)) e) (funext fun e' => ?_))
  exact (kHead_at _ b l h e').trans (rProj_at x g w b l _)

/-! ## The values -/

/-- The values by head, in chunks of 512 rows, features first. -/
def rV : FVec Ideal S4x4x16x64x512 .bf16 :=
  transpose S4x4x16x64x512 [0, 3, 1, 4, 2] (shapeCast S4x16x512x4x64 (truncf .bf16
      (extractStridedSlice S4x8192x256 ![0, 0, 1280] (rProj x g w) slices_S4x8192x1536_S4x8192x256_0_0_1280) bitsLt_bf16_f32)
    shapeCasts_S4x8192x256_S4x16x512x4x64) transposes_S4x16x512x4x64_S4x4x16x64x512_0_3_1_4_2

theorem rV_at (b h : Fin 4) (n : Fin 16) (d : Fin 64) (r : Fin 512) :
    rV x g w (ix5 b h n d r) = feat x g w b ⟨n.val * 512 + r.val, by omega⟩ ⟨1280 + (h.val * 64 + d.val), by omega⟩ := by
  rw [← rProj_at]
  unfold rV
  generalize rProj x g w = y
  pointwise

end Cert.QkvA

end
-- ==== Proof.QkvA.RefV.lean ====
/- What the reference's host code leaves before the split. -/
module

public import proofs.«01_k».proof.Proof.QkvA.Heads
public import proofs.«01_k».proof.Proof.QkvA.Gains
public import Idealize.ShloMosaic.Lib.StableHlo.RunRead

@[expose] public section

noncomputable section

namespace Cert.QkvA.Plain

open Cert.Reference6Ideal Cert.Reference6Ideal.Gen Idealize.ShloMosaic Idealize.ShloMosaic.Tactic Finset
open Cert.Mlp (rNrm)

variable (m : (ℓ : Loc nD τ sig) → Buf (Elt Ideal) ℓ) (c : Dev nD)

/-- The arguments: the residual, the norm's gain, the weights and the heads' gains. -/
abbrev argX : FVec Ideal S4x8192x1024 .f32 := m ((c.tc : Thread nD τ).loc main_arg0)
abbrev argG : FVec Ideal S1024 .f32 := m ((c.tc : Thread nD τ).loc main_arg1)
abbrev argW : FVec Ideal S1024x1536 .f32 := m ((c.tc : Thread nD τ).loc main_arg2)
abbrev rawQ : FVec Ideal S1x64 .f32 := m ((c.tc : Thread nD τ).loc main_arg3)
abbrev rawK : FVec Ideal S1x64 .f32 := m ((c.tc : Thread nD τ).loc main_arg4)

/-- The heads' gains with their scales. -/
def argQ : FVec Ideal S64 .f32 := flat (gainQ (rawQ m c) (rawK m c))
def argK : FVec Ideal S64 .f32 := flat (gainK (rawQ m c) (rawK m c))

/-- The values, the queries and the keys. -/
theorem v_v : V m c main_v149 = rV (argX m c) (argG m c) (argW m c) := by
  after_reads_simp
  rfl

set_option maxHeartbeats 2000000 in
theorem v_q : V m c main_v150
    = rQ (argX m c) (argG m c) (argW m c) (argQ m c) (Host.cos (rAng rowT colT invT)) (Host.sin (rAng rowT colT invT)) := by
  unfold argQ flat gainQ balance ratioS ratio bound rQ qLay qTurn qJoin qLow qUpp qTab qNrm qHead rProj rNrm rAng invT rowT colT
  after_reads_simp [StableHlo.readPieces]
  rfl

set_option maxHeartbeats 2000000 in
theorem v_k : V m c main_v151
    = rK (argX m c) (argG m c) (argW m c) (argK m c) (Host.cos (rAng rowT colT invT)) (Host.sin (rAng rowT colT invT)) := by
  unfold argK flat gainK balance ratioS ratio bound rK kLay kTurn kJoin kLow kUpp kTab kNrm kHead rProj rNrm rAng invT rowT colT
  after_reads_simp [StableHlo.readPieces]
  rfl

end Cert.QkvA.Plain

end
-- ==== Proof.QkvA.Split.lean ====
/- The reference's split of the queries and keys into the parts that float8 operands hold. -/
module

public import proofs.«01_k».proof.Proof.QkvA.Tables

@[expose] public section

noncomputable section

namespace Cert.QkvA.Plain

open Cert.Reference6Ideal Cert.Reference6Ideal.Gen Idealize.ShloMosaic Idealize.ShloMosaic.Tactic Finset
open Cert.Reference6Ideal.Value (Cat2_0 Cat3_0 canon2_eq canon3_eq)

/-! ## The split -/

/-- The queries' four parts: twice the clipped value, twice the remainder, -/
theorem qPart (P0 : Vec Ideal S4x16x64x8192 .f32) (i : S4x16x64x8192.Idx) (n : Fin 4) :
    Cat2_0 P0 n i = part (Nat.ble 2 n.val) (P0 i) := by
  obtain ⟨b, h, d, l, rfl⟩ : ∃ (b : Fin 4) (h : Fin 16) (d : Fin 64) (l : Fin 8192), i = ix4 b h d l := ⟨i 0, i 1, i 2, i 3, eq_ix4 i⟩
  match n with
  | ⟨0, _⟩ => dsimp only [Cat2_0]; pointwise; rfl
  | ⟨1, _⟩ => dsimp only [Cat2_0]; pointwise; rfl
  | ⟨2, _⟩ => dsimp only [Cat2_0]; pointwise; rfl
  | ⟨3, _⟩ => dsimp only [Cat2_0]; pointwise; rfl

/-- and the keys', by turns. -/
theorem kPart (P0 : Vec Ideal S4x4x8192x64 .f32) (i : S4x4x8192x64.Idx) (n : Fin 4) :
    Cat3_0 P0 n i = part (n.val % 2 == 1) (P0 i) := by
  obtain ⟨b, h, l, d, rfl⟩ : ∃ (b h : Fin 4) (l : Fin 8192) (d : Fin 64), i = ix4 b h l d := ⟨i 0, i 1, i 2, i 3, eq_ix4 i⟩
  match n with
  | ⟨0, _⟩ => dsimp only [Cat3_0]; pointwise; rfl
  | ⟨1, _⟩ => dsimp only [Cat3_0]; pointwise; rfl
  | ⟨2, _⟩ => dsimp only [Cat3_0]; pointwise; rfl
  | ⟨3, _⟩ => dsimp only [Cat3_0]; pointwise; rfl

/-- The four parts of the queries, one below the other, -/
def qSplit (z : FVec Ideal S4x16x64x8192 .f32) : FVec Ideal S4x16x256x8192 .fp8e4m3 := fun y =>
  part (Nat.ble 2 ((y 2).val / 64)) (z (ix4 (y 0) (y 1) ⟨(y 2).val % 64, Nat.mod_lt _ (by decide)⟩ (y 3)))

/-- and of the keys, side by side. -/
def kSplit (z : FVec Ideal S4x4x8192x64 .f32) : FVec Ideal S4x4x8192x256 .fp8e4m3 := fun y =>
  part ((y 3).val / 64 % 2 == 1) (z (ix4 (y 0) (y 1) (y 2) ⟨(y 3).val % 64, Nat.mod_lt _ (by decide)⟩))

theorem qIx (y : S4x16x256x8192.Idx) : Cert.Reference6Ideal.Value.ix2_0 y
    = ix4 (y 0) (y 1) ⟨(y 2).val % 64, Nat.mod_lt _ (by decide)⟩ (y 3) := by
  funext a
  match a with
  | ⟨0, _⟩ => rfl
  | ⟨1, _⟩ => rfl
  | ⟨2, _⟩ => rfl
  | ⟨3, _⟩ => rfl

theorem kIx (y : S4x4x8192x256.Idx) : Cert.Reference6Ideal.Value.ix3_0 y
    = ix4 (y 0) (y 1) (y 2) ⟨(y 3).val % 64, Nat.mod_lt _ (by decide)⟩ := by
  funext a
  match a with
  | ⟨0, _⟩ => rfl
  | ⟨1, _⟩ => rfl
  | ⟨2, _⟩ => rfl
  | ⟨3, _⟩ => rfl

theorem qSplit_eq (z : Vec Ideal S4x16x64x8192 .f32) (y : S4x16x256x8192.Idx) :
    View.canon (Val := Elt Ideal) (e := .fp8e4m3) [⟨r0_1, k0_pay1 z⟩] y = qSplit z y :=
  (canon2_eq z y).trans ((qPart z (Cert.Reference6Ideal.Value.ix2_0 y) (Cert.Reference6Ideal.Value.csel2_0 y)).trans
    (congrArg (fun i => part (Nat.ble 2 ((y 2).val / 64)) (z i)) (qIx y)))

theorem kSplit_eq (z : Vec Ideal S4x4x8192x64 .f32) (y : S4x4x8192x256.Idx) :
    View.canon (Val := Elt Ideal) (e := .fp8e4m3) [⟨r0_3, k0_pay2 z⟩] y = kSplit z y :=
  (canon3_eq z y).trans ((kPart z (Cert.Reference6Ideal.Value.ix3_0 y) (Cert.Reference6Ideal.Value.csel3_0 y)).trans
    (congrArg (fun i => part ((y 3).val / 64 % 2 == 1) (z i)) (kIx y)))

end Cert.QkvA.Plain

end
-- ==== Proof.QkvA.Ref.lean ====
/- What the reference leaves: the split queries and keys, and the values. -/
module

public import proofs.«01_k».proof.Proof.QkvA.RefV
public import proofs.«01_k».proof.Proof.QkvA.Split

@[expose] public section

noncomputable section

namespace Cert.QkvA.Plain

open Cert.Reference6Ideal Cert.Reference6Ideal.Gen Idealize.ShloMosaic Idealize.ShloMosaic.Tactic Finset

theorem zero4 : (![0, 0, 0, 0] : Fin 4 → ℕ) = fun _ => 0 := by
  funext a
  fin_cases a <;> rfl

/-! ## The results -/

variable (m : (ℓ : Loc nD τ sig) → Buf (Elt Ideal) ℓ) (c : Dev nD)

/-- The call runs once, on whole arrays. -/
theorem idx0 : ∀ t : Fin cfg0.N, ∀ a : Fin 4, win0_0.index t a = 0 := (by decide +kernel : ∀ t : Fin grid0.N, _)
theorem idx1 : ∀ t : Fin cfg0.N, ∀ a : Fin 4, win0_1.index t a = 0 := (by decide +kernel : ∀ t : Fin grid0.N, _)
theorem idx2 : ∀ t : Fin cfg0.N, ∀ a : Fin 4, win0_2.index t a = 0 := (by decide +kernel : ∀ t : Fin grid0.N, _)
theorem idx3 : ∀ t : Fin cfg0.N, ∀ a : Fin 4, win0_3.index t a = 0 := (by decide +kernel : ∀ t : Fin grid0.N, _)

theorem whole0 (t : Fin cfg0.N) (X : FVec Ideal S4x16x64x8192 .f32) (b : Fin 4) (h : Fin 16) (d : Fin 64) (l : Fin 8192) :
    (((cfg0.win 0).blk t).view.read (Elt Ideal) X : Vec Ideal S4x16x64x8192 .f32) (ix4 b h d l) = X (ix4 b h d l) := by
  have k := idx0 t
  rw [View.read_apply]
  show X _ = _
  refine congrArg X (funext fun a => Fin.ext ?_)
  match a with
  | ⟨0, _⟩ => show win0_0.index t 0 * 4 + 1 * b.val = b.val; rw [k 0]; omega
  | ⟨1, _⟩ => show win0_0.index t 1 * 16 + 1 * h.val = h.val; rw [k 1]; omega
  | ⟨2, _⟩ => show win0_0.index t 2 * 64 + 1 * d.val = d.val; rw [k 2]; omega
  | ⟨3, _⟩ => show win0_0.index t 3 * 8192 + 1 * l.val = l.val; rw [k 3]; omega

theorem iblk0 (t : Fin cfg0.N) : (iblk m c 0 t : Vec Ideal S4x16x64x8192 .f32) = V m c main_v150 := by
  refine funext fun (y : S4x16x64x8192.Idx) => ?_
  obtain ⟨b, h, d, l, rfl⟩ : ∃ (b : Fin 4) (h : Fin 16) (d : Fin 64) (l : Fin 8192), y = ix4 b h d l := ⟨y 0, y 1, y 2, y 3, eq_ix4 y⟩
  exact whole0 t (V m c main_v150) b h d l

theorem whole1 (t : Fin cfg0.N) (X : FVec Ideal S4x4x8192x64 .f32) (b h : Fin 4) (l : Fin 8192) (d : Fin 64) :
    (((cfg0.win 1).blk t).view.read (Elt Ideal) X : Vec Ideal S4x4x8192x64 .f32) (ix4 b h l d) = X (ix4 b h l d) := by
  have k := idx1 t
  rw [View.read_apply]
  show X _ = _
  refine congrArg X (funext fun a => Fin.ext ?_)
  match a with
  | ⟨0, _⟩ => show win0_1.index t 0 * 4 + 1 * b.val = b.val; rw [k 0]; omega
  | ⟨1, _⟩ => show win0_1.index t 1 * 4 + 1 * h.val = h.val; rw [k 1]; omega
  | ⟨2, _⟩ => show win0_1.index t 2 * 8192 + 1 * l.val = l.val; rw [k 2]; omega
  | ⟨3, _⟩ => show win0_1.index t 3 * 64 + 1 * d.val = d.val; rw [k 3]; omega

theorem iblk1 (t : Fin cfg0.N) : (iblk m c 1 t : Vec Ideal S4x4x8192x64 .f32) = V m c main_v151 := by
  refine funext fun (y : S4x4x8192x64.Idx) => ?_
  obtain ⟨b, h, l, d, rfl⟩ : ∃ (b h : Fin 4) (l : Fin 8192) (d : Fin 64), y = ix4 b h l d := ⟨y 0, y 1, y 2, y 3, eq_ix4 y⟩
  exact whole1 t (V m c main_v151) b h l d

theorem whole2 (t : Fin cfg0.N) (X : FVec Ideal S4x16x256x8192 .fp8e4m3) (b : Fin 4) (h : Fin 16) (p : Fin 256) (l : Fin 8192) :
    (((cfg0.win 2).blk t).view.read (Elt Ideal) X : Vec Ideal S4x16x256x8192 .fp8e4m3) (ix4 b h p l) = X (ix4 b h p l) := by
  have k := idx2 t
  rw [View.read_apply]
  show X _ = _
  refine congrArg X (funext fun a => Fin.ext ?_)
  match a with
  | ⟨0, _⟩ => show win0_2.index t 0 * 4 + 1 * b.val = b.val; rw [k 0]; omega
  | ⟨1, _⟩ => show win0_2.index t 1 * 16 + 1 * h.val = h.val; rw [k 1]; omega
  | ⟨2, _⟩ => show win0_2.index t 2 * 256 + 1 * p.val = p.val; rw [k 2]; omega
  | ⟨3, _⟩ => show win0_2.index t 3 * 8192 + 1 * l.val = l.val; rw [k 3]; omega

theorem whole3 (t : Fin cfg0.N) (X : FVec Ideal S4x4x8192x256 .fp8e4m3) (b h : Fin 4) (l : Fin 8192) (p : Fin 256) :
    (((cfg0.win 3).blk t).view.read (Elt Ideal) X : Vec Ideal S4x4x8192x256 .fp8e4m3) (ix4 b h l p) = X (ix4 b h l p) := by
  have k := idx3 t
  rw [View.read_apply]
  show X _ = _
  refine congrArg X (funext fun a => Fin.ext ?_)
  match a with
  | ⟨0, _⟩ => show win0_3.index t 0 * 4 + 1 * b.val = b.val; rw [k 0]; omega
  | ⟨1, _⟩ => show win0_3.index t 1 * 4 + 1 * h.val = h.val; rw [k 1]; omega
  | ⟨2, _⟩ => show win0_3.index t 2 * 8192 + 1 * l.val = l.val; rw [k 2]; omega
  | ⟨3, _⟩ => show win0_3.index t 3 * 256 + 1 * p.val = p.val; rw [k 3]; omega

theorem out2 (x0 : Vec Ideal S4x16x64x8192 .f32) (x1 : Vec Ideal S4x4x8192x64 .f32) : out0_2 x0 x1 = qSplit x0 := by
  funext y
  unfold out0_2
  have e : View.ld x0 r0_0 = x0 := View.ld_unit_zero zero4 _ x0
  rw [e]
  exact qSplit_eq x0 y

theorem out3 (x0 : Vec Ideal S4x16x64x8192 .f32) (x1 : Vec Ideal S4x4x8192x64 .f32) : out0_3 x0 x1 = kSplit x1 := by
  funext y
  unfold out0_3
  have e : View.ld x1 r0_2 = x1 := View.ld_unit_zero zero4 _ x1
  rw [e]
  exact kSplit_eq x1 y

theorem left_q (t : Fin cfg0.N) (b : Fin 4) (h : Fin 16) (p : Fin 256) (l : Fin 8192) :
    ((dats m 0 c).arrAt 2 cfg0.N : FVec Ideal S4x16x256x8192 .fp8e4m3) (ix4 b h p l)
    = qSplit (rQ (argX m c) (argG m c) (argW m c) (argQ m c) (Host.cos (rAng rowT colT invT)) (Host.sin (rAng rowT colT invT))) (ix4 b h p l) := by
  refine (whole2 t _ b h p l).symm.trans ?_
  refine (congrFun (Cert.Reference6Ideal.Value.blocks2 m c t (flush0_2 t)) (ix4 b h p l)).trans ?_
  refine (congrFun (Cert.Reference6Ideal.Value.flushed2 m c t) (ix4 b h p l)).trans ?_
  refine (congrFun (out2 _ _) (ix4 b h p l)).trans ?_
  rw [iblk0, v_q]

/-- The queries, -/
theorem result_q : ((dats m 0 c).arrAt 2 cfg0.N : FVec Ideal S4x16x256x8192 .fp8e4m3)
    = qSplit (rQ (argX m c) (argG m c) (argW m c) (argQ m c) (Host.cos (rAng rowT colT invT)) (Host.sin (rAng rowT colT invT))) := by
  refine funext fun (y : S4x16x256x8192.Idx) => ?_
  obtain ⟨b, h, p, l, rfl⟩ : ∃ (b : Fin 4) (h : Fin 16) (p : Fin 256) (l : Fin 8192), y = ix4 b h p l := ⟨y 0, y 1, y 2, y 3, eq_ix4 y⟩
  exact left_q m c t0_0 b h p l

theorem left_k (t : Fin cfg0.N) (b h : Fin 4) (l : Fin 8192) (p : Fin 256) :
    ((dats m 0 c).arrAt 3 cfg0.N : FVec Ideal S4x4x8192x256 .fp8e4m3) (ix4 b h l p)
    = kSplit (rK (argX m c) (argG m c) (argW m c) (argK m c) (Host.cos (rAng rowT colT invT)) (Host.sin (rAng rowT colT invT))) (ix4 b h l p) := by
  refine (whole3 t _ b h l p).symm.trans ?_
  refine (congrFun (Cert.Reference6Ideal.Value.blocks3 m c t (flush0_3 t)) (ix4 b h l p)).trans ?_
  refine (congrFun (Cert.Reference6Ideal.Value.flushed3 m c t) (ix4 b h l p)).trans ?_
  refine (congrFun (out3 _ _) (ix4 b h l p)).trans ?_
  rw [iblk1, v_k]

/-- the keys, -/
theorem result_k : ((dats m 0 c).arrAt 3 cfg0.N : FVec Ideal S4x4x8192x256 .fp8e4m3)
    = kSplit (rK (argX m c) (argG m c) (argW m c) (argK m c) (Host.cos (rAng rowT colT invT)) (Host.sin (rAng rowT colT invT))) := by
  refine funext fun (y : S4x4x8192x256.Idx) => ?_
  obtain ⟨b, h, l, p, rfl⟩ : ∃ (b h : Fin 4) (l : Fin 8192) (p : Fin 256), y = ix4 b h l p := ⟨y 0, y 1, y 2, y 3, eq_ix4 y⟩
  exact left_k m c t0_0 b h l p

/-- and the values, which no window of the call holds. -/
theorem result_v (r : PUnit × MemSt nD τ sig (Elt Ideal)) (h : Pipeline.FramePost cfgs (dats m) 0 (V m) r) :
    r.2.mem ((c.tc : Thread nD τ).loc main_v149) = rV (argX m c) (argG m c) (argW m c) :=
  ((h c).2 main_v149 (Pipeline.mem_restRefs_of main_v149 (by decide) (by decide))).trans (v_v m c)

/-! ## Equal arguments have equal results -/

section Congr

variable {x x' : FVec Ideal S4x8192x1024 .f32} {g g' : FVec Ideal S1024 .f32} {w w' : FVec Ideal S1024x1536 .f32} {a a' : FVec Ideal S64 .f32}
  {C S : FVec Ideal S8192x32 .f32}

theorem splitQ_congr (hx : x = x') (hg : g = g') (hw : w = w') (ha : a = a') :
    qSplit (rQ x g w a C S) = qSplit (rQ x' g' w' a' C S) := by
  subst hx hg hw ha
  rfl

theorem splitK_congr (hx : x = x') (hg : g = g') (hw : w = w') (ha : a = a') :
    kSplit (rK x g w a C S) = kSplit (rK x' g' w' a' C S) := by
  subst hx hg hw ha
  rfl

theorem rV_congr (hx : x = x') (hg : g = g') (hw : w = w') : rV x g w = rV x' g' w' := by
  subst hx hg hw
  rfl

end Congr

end Cert.QkvA.Plain

end
-- ==== Proof.QkvA.Value.lean ====
/- The projection kernel's three results are the reference's. -/
module

public import proofs.«01_k».proof.Proof.QkvA.Block
public import proofs.«01_k».proof.Proof.QkvA.Host
public import proofs.«01_k».proof.Proof.QkvA.Ref

@[expose] public section

noncomputable section

namespace Cert.QkvA.Tiled

open Cert.Kernel6Ideal Cert.Kernel6Ideal.Gen Idealize.ShloMosaic Idealize.ShloMosaic.Tactic Finset
open Cert.Mlp (rmsRow)
open Cert.QkvA.Plain (qSplit kSplit)

/-! ## The windows' blocks -/

theorem idx0 : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, _)
theorem idx1 : ∀ t : Fin cfg0.N, ∀ a : Fin 2, win0_1.index t a = 0 := (by decide +kernel : ∀ t : Fin grid0.N, _)
theorem idx2 : ∀ t : Fin cfg0.N, ∀ a : Fin 2, win0_2.index t a = 0 := (by decide +kernel : ∀ t : Fin grid0.N, _)
theorem idx3 : ∀ t : Fin cfg0.N, ∀ a : Fin 2, win0_3.index t a = 0 := (by decide +kernel : ∀ t : Fin grid0.N, _)
theorem idx4 : ∀ t : Fin cfg0.N, ∀ a : Fin 2, win0_4.index t a = 0 := (by decide +kernel : ∀ t : Fin grid0.N, _)
theorem idx5 : ∀ t : Fin cfg0.N, win0_5.index t (0 : Fin 2) = 0 ∧ win0_5.index t (1 : Fin 2) = t.val % 8 :=
  (by decide +kernel : ∀ t : Fin grid0.N, _)
theorem idx6 : ∀ t : Fin cfg0.N, win0_6.index t (0 : Fin 2) = 0 ∧ win0_6.index t (1 : Fin 2) = t.val % 8 :=
  (by decide +kernel : ∀ t : Fin grid0.N, _)
theorem idx7 : ∀ t : Fin cfg0.N, win0_7.index t (0 : Fin 4) = t.val / 8 ∧ win0_7.index t (1 : Fin 4) = 0
    ∧ win0_7.index t (2 : Fin 4) = 0 ∧ win0_7.index t (3 : Fin 4) = t.val % 8 :=
  (by decide +kernel : ∀ t : Fin grid0.N, _)
theorem idx8 : ∀ t : Fin cfg0.N, win0_8.index t (0 : Fin 4) = t.val / 8 ∧ win0_8.index t (1 : Fin 4) = 0
    ∧ win0_8.index t (2 : Fin 4) = t.val % 8 ∧ win0_8.index t (3 : Fin 4) = 0 :=
  (by decide +kernel : ∀ t : Fin grid0.N, _)
theorem idx9 : ∀ t : Fin cfg0.N, win0_9.index t (0 : Fin 5) = t.val / 8 ∧ win0_9.index t (1 : Fin 5) = 0
    ∧ win0_9.index t (2 : Fin 5) = t.val % 8 ∧ win0_9.index t (3 : Fin 5) = 0 ∧ win0_9.index t (4 : Fin 5) = 0 :=
  (by decide +kernel : ∀ t : Fin grid0.N, _)

theorem pt_lt (t : Fin cfg0.N) : t.val < 32 := lt_of_lt_of_eq t.isLt N_0

/-- The point's batch, -/
def bOf (t : Fin cfg0.N) : Fin 4 := ⟨t.val / 8, by have := pt_lt t; omega⟩
/-- the array's row at a row of its block, -/
def lOf (t : Fin cfg0.N) (r : Fin 1024) : Fin 8192 := ⟨1024 * (t.val % 8) + r.val, by omega⟩
/-- and its chunk of 512 rows at one of the block's two. -/
def nOf (t : Fin cfg0.N) (s : Fin 2) : Fin 16 := ⟨2 * (t.val % 8) + s.val, by omega⟩

/-- The point of a batch and of one of its eight blocks of rows. -/
def pt (b : Fin 4) (i : Fin 8) : Fin cfg0.N := ⟨8 * b.val + i.val, lt_of_lt_of_eq (by omega : 8 * b.val + i.val < 32) N_0.symm⟩

theorem bOf_pt (b : Fin 4) (i : Fin 8) : bOf (pt b i) = b :=
  Fin.ext (by show (8 * b.val + i.val) / 8 = b.val; omega)

theorem lOf_pt (b : Fin 4) (l : Fin 8192) : lOf (pt b ⟨l.val / 1024, by omega⟩) ⟨l.val % 1024, by omega⟩ = l :=
  Fin.ext (by show 1024 * ((8 * b.val + l.val / 1024) % 8) + l.val % 1024 = l.val; omega)

theorem nOf_pt (b : Fin 4) (n : Fin 16) : nOf (pt b ⟨n.val / 2, by omega⟩) ⟨n.val % 2, by omega⟩ = n :=
  Fin.ext (by show 2 * ((8 * b.val + n.val / 2) % 8) + n.val % 2 = n.val; omega)

variable (t : Fin cfg0.N)

theorem whole0 (X : FVec Ideal S4x8192x1024 .f32) (r i : Fin 1024) :
    (((cfg0.win 0).blk t).view.read (Elt Ideal) X : Vec Ideal S1x1024x1024 .f32) (ix3 0 r i) = X (ix3 (bOf t) (lOf t r) i) := by
  obtain ⟨k0, k1, k2⟩ := idx0 t
  rw [View.read_apply]
  show X _ = _
  refine congrArg X (funext fun a => Fin.ext ?_)
  match a with
  | ⟨0, _⟩ => show win0_0.index t 0 * 1 + 1 * 0 = t.val / 8; rw [k0]; omega
  | ⟨1, _⟩ => show win0_0.index t 1 * 1024 + 1 * r.val = 1024 * (t.val % 8) + r.val; rw [k1]; omega
  | ⟨2, _⟩ => show win0_0.index t 2 * 1024 + 1 * i.val = i.val; rw [k2]; omega

theorem whole1 (X : FVec Ideal S1x1024 .f32) (j : Fin 1024) :
    (((cfg0.win 1).blk t).view.read (Elt Ideal) X : Vec Ideal S1x1024 .f32) (ix2 0 j) = X (ix2 0 j) := by
  have k := idx1 t
  rw [View.read_apply]
  show X _ = _
  refine congrArg X (funext fun a => Fin.ext ?_)
  match a with
  | ⟨0, _⟩ => show win0_1.index t 0 * 1 + 1 * 0 = 0; rw [k 0]
  | ⟨1, _⟩ => show win0_1.index t 1 * 1024 + 1 * j.val = j.val; rw [k 1]; omega

theorem whole2 (X : FVec Ideal S1536x1024 .bf16) (f : Fin 1536) (j : Fin 1024) :
    (((cfg0.win 2).blk t).view.read (Elt Ideal) X : Vec Ideal S1536x1024 .bf16) (ix2 f j) = X (ix2 f j) := by
  have k := idx2 t
  rw [View.read_apply]
  show X _ = _
  refine congrArg X (funext fun a => Fin.ext ?_)
  match a with
  | ⟨0, _⟩ => show win0_2.index t 0 * 1536 + 1 * f.val = f.val; rw [k 0]; omega
  | ⟨1, _⟩ => show win0_2.index t 1 * 1024 + 1 * j.val = j.val; rw [k 1]; omega

theorem whole3 (X : FVec Ideal S64x1024 .f32) (d : Fin 64) (r : Fin 1024) :
    (((cfg0.win 3).blk t).view.read (Elt Ideal) X : Vec Ideal S64x1024 .f32) (ix2 d r) = X (ix2 d r) := by
  have k := idx3 t
  rw [View.read_apply]
  show X _ = _
  refine congrArg X (funext fun a => Fin.ext ?_)
  match a with
  | ⟨0, _⟩ => show win0_3.index t 0 * 64 + 1 * d.val = d.val; rw [k 0]; omega
  | ⟨1, _⟩ => show win0_3.index t 1 * 1024 + 1 * r.val = r.val; rw [k 1]; omega

theorem whole4 (X : FVec Ideal S64x1024 .f32) (d : Fin 64) (r : Fin 1024) :
    (((cfg0.win 4).blk t).view.read (Elt Ideal) X : Vec Ideal S64x1024 .f32) (ix2 d r) = X (ix2 d r) := by
  have k := idx4 t
  rw [View.read_apply]
  show X _ = _
  refine congrArg X (funext fun a => Fin.ext ?_)
  match a with
  | ⟨0, _⟩ => show win0_4.index t 0 * 64 + 1 * d.val = d.val; rw [k 0]; omega
  | ⟨1, _⟩ => show win0_4.index t 1 * 1024 + 1 * r.val = r.val; rw [k 1]; omega

theorem whole5 (X : FVec Ideal S32x8192 .f32) (p : Fin 32) (r : Fin 1024) :
    (((cfg0.win 5).blk t).view.read (Elt Ideal) X : Vec Ideal S32x1024 .f32) (ix2 p r) = X (ix2 p (lOf t r)) := by
  obtain ⟨k0, k1⟩ := idx5 t
  rw [View.read_apply]
  show X _ = _
  refine congrArg X (funext fun a => Fin.ext ?_)
  match a with
  | ⟨0, _⟩ => show win0_5.index t 0 * 32 + 1 * p.val = p.val; rw [k0]; omega
  | ⟨1, _⟩ => show win0_5.index t 1 * 1024 + 1 * r.val = 1024 * (t.val % 8) + r.val; rw [k1]; omega

theorem whole6 (X : FVec Ideal S32x8192 .f32) (p : Fin 32) (r : Fin 1024) :
    (((cfg0.win 6).blk t).view.read (Elt Ideal) X : Vec Ideal S32x1024 .f32) (ix2 p r) = X (ix2 p (lOf t r)) := by
  obtain ⟨k0, k1⟩ := idx6 t
  rw [View.read_apply]
  show X _ = _
  refine congrArg X (funext fun a => Fin.ext ?_)
  match a with
  | ⟨0, _⟩ => show win0_6.index t 0 * 32 + 1 * p.val = p.val; rw [k0]; omega
  | ⟨1, _⟩ => show win0_6.index t 1 * 1024 + 1 * r.val = 1024 * (t.val % 8) + r.val; rw [k1]; omega

theorem whole7 (X : FVec Ideal S4x16x256x8192 .fp8e4m3) (h : Fin 16) (p : Fin 256) (r : Fin 1024) :
    (((cfg0.win 7).blk t).view.read (Elt Ideal) X : Vec Ideal S1x16x256x1024 .fp8e4m3) (ix4 0 h p r)
      = X (ix4 (bOf t) h p (lOf t r)) := by
  obtain ⟨k0, k1, k2, k3⟩ := idx7 t
  rw [View.read_apply]
  show X _ = _
  refine congrArg X (funext fun a => Fin.ext ?_)
  match a with
  | ⟨0, _⟩ => show win0_7.index t 0 * 1 + 1 * 0 = t.val / 8; rw [k0]; omega
  | ⟨1, _⟩ => show win0_7.index t 1 * 16 + 1 * h.val = h.val; rw [k1]; omega
  | ⟨2, _⟩ => show win0_7.index t 2 * 256 + 1 * p.val = p.val; rw [k2]; omega
  | ⟨3, _⟩ => show win0_7.index t 3 * 1024 + 1 * r.val = 1024 * (t.val % 8) + r.val; rw [k3]; omega

theorem whole8 (X : FVec Ideal S4x4x8192x256 .fp8e4m3) (h : Fin 4) (r : Fin 1024) (p : Fin 256) :
    (((cfg0.win 8).blk t).view.read (Elt Ideal) X : Vec Ideal S1x4x1024x256 .fp8e4m3) (ix4 0 h r p)
      = X (ix4 (bOf t) h (lOf t r) p) := by
  obtain ⟨k0, k1, k2, k3⟩ := idx8 t
  rw [View.read_apply]
  show X _ = _
  refine congrArg X (funext fun a => Fin.ext ?_)
  match a with
  | ⟨0, _⟩ => show win0_8.index t 0 * 1 + 1 * 0 = t.val / 8; rw [k0]; omega
  | ⟨1, _⟩ => show win0_8.index t 1 * 4 + 1 * h.val = h.val; rw [k1]; omega
  | ⟨2, _⟩ => show win0_8.index t 2 * 1024 + 1 * r.val = 1024 * (t.val % 8) + r.val; rw [k2]; omega
  | ⟨3, _⟩ => show win0_8.index t 3 * 256 + 1 * p.val = p.val; rw [k3]; omega

theorem whole9 (X : FVec Ideal S4x4x16x64x512 .bf16) (h : Fin 4) (s : Fin 2) (d : Fin 64) (r : Fin 512) :
    (((cfg0.win 9).blk t).view.read (Elt Ideal) X : Vec Ideal S1x4x2x64x512 .bf16) (ix5 0 h s d r)
      = X (ix5 (bOf t) h (nOf t s) d r) := by
  obtain ⟨k0, k1, k2, k3, k4⟩ := idx9 t
  rw [View.read_apply]
  show X _ = _
  refine congrArg X (funext fun a => Fin.ext ?_)
  match a with
  | ⟨0, _⟩ => show win0_9.index t 0 * 1 + 1 * 0 = t.val / 8; rw [k0]; omega
  | ⟨1, _⟩ => show win0_9.index t 1 * 4 + 1 * h.val = h.val; rw [k1]; omega
  | ⟨2, _⟩ => show win0_9.index t 2 * 2 + 1 * s.val = 2 * (t.val % 8) + s.val; rw [k2]; omega
  | ⟨3, _⟩ => show win0_9.index t 3 * 64 + 1 * d.val = d.val; rw [k3]; omega
  | ⟨4, _⟩ => show win0_9.index t 4 * 512 + 1 * r.val = r.val; rw [k4]; omega

/-! ## The blocks in terms of the arguments -/

variable (m : (ℓ : Loc nD τ sig) → Buf (Elt Ideal) ℓ) (c : Dev nD)

theorem iblk0 (r i : Fin 1024) :
    (iblk m c 0 t : Vec Ideal S1x1024x1024 .f32) (ix3 0 r i) = argX m c (ix3 (bOf t) (lOf t r) i) :=
  (whole0 t (V m c main_arg0) r i).trans (congrFun (v_x m c) _)
theorem iblk1 (j : Fin 1024) : (iblk m c 1 t : Vec Ideal S1x1024 .f32) (ix2 0 j) = argG m c (ix1 j) :=
  (whole1 t (V m c main_v62) j).trans (v_g m c j)
theorem iblk2 (f : Fin 1536) (j : Fin 1024) :
    (iblk m c 2 t : Vec Ideal S1536x1024 .bf16) (ix2 f j) = argW m c (ix2 j f) :=
  (whole2 t (V m c main_v64) f j).trans (v_w m c f j)
theorem iblk3 (d : Fin 64) (r : Fin 1024) : (iblk m c 3 t : Vec Ideal S64x1024 .f32) (ix2 d r) = argQ m c (ix1 d) :=
  (whole3 t (V m c main_v65) d r).trans (v_qg m c d r)
theorem iblk4 (d : Fin 64) (r : Fin 1024) : (iblk m c 4 t : Vec Ideal S64x1024 .f32) (ix2 d r) = argK m c (ix1 d) :=
  (whole4 t (V m c main_v66) d r).trans (v_kg m c d r)
theorem iblk5 (p : Fin 32) (r : Fin 1024) :
    (iblk m c 5 t : Vec Ideal S32x1024 .f32) (ix2 p r) = (Host.cos (rAng rowT colT invT)) (ix2 (lOf t r) p) :=
  (whole5 t (V m c main_v60) p r).trans ((v_cos m c p _).trans (cos_at _ p).symm)
theorem iblk6 (p : Fin 32) (r : Fin 1024) :
    (iblk m c 6 t : Vec Ideal S32x1024 .f32) (ix2 p r) = (Host.sin (rAng rowT colT invT)) (ix2 (lOf t r) p) :=
  (whole6 t (V m c main_v61) p r).trans ((v_sin m c p _).trans (sin_at _ p).symm)

/-- The point's blocks, as the body's data. -/
def insAt : Ins Ideal := at_ (iblk m c 0 t : Vec Ideal S1x1024x1024 .f32) (iblk m c 1 t : Vec Ideal S1x1024 .f32)
  (iblk m c 2 t : Vec Ideal S1536x1024 .bf16) (iblk m c 3 t : Vec Ideal S64x1024 .f32) (iblk m c 4 t : Vec Ideal S64x1024 .f32)
  (iblk m c 5 t : Vec Ideal S32x1024 .f32) (iblk m c 6 t : Vec Ideal S32x1024 .f32)

theorem readsAt : Reads (insAt t m c) (iblk m c 3 t : Vec Ideal S64x1024 .f32) (iblk m c 4 t : Vec Ideal S64x1024 .f32)
    (iblk m c 5 t : Vec Ideal S32x1024 .f32) (iblk m c 6 t : Vec Ideal S32x1024 .f32) := reads _ _ _ _ _ _ _

/-- The products of the point are the features of its rows. -/
theorem P_pt (h : Fin 24) (r : Fin 1024) (d : Fin 64) :
    P (insAt t m c) h r d = feat (argX m c) (argG m c) (argW m c) (bOf t) (lOf t r) ⟨h.val * 64 + d.val, by omega⟩ := by
  refine (P_at _ _ _ _ _ _ _ h r d).trans (Finset.sum_congr rfl fun j _ => ?_)
  refine (mul_comm _ _).trans (congrArg₂ (· * ·) ?_ (iblk2 t m c _ j))
  exact congrArg₂ (fun u v => rmsRow u v j) (funext fun k => iblk0 t m c r k) (funext fun k => iblk1 t m c k)

/-- A head of the point, from the features of its row. -/
theorem T_pt (y : FVec Ideal Cert.Reference6Ideal.S64 .f32) (g : Vec Ideal S64x1024 .f32) (hg : ∀ (e : Fin 64) (r : Fin 1024), g (ix2 e r) = y (ix1 e))
    (h : Fin 24) (r : Fin 1024) (d : Fin 64) (F : Fin 64 → EReal)
    (hF : ∀ e : Fin 64, feat (argX m c) (argG m c) (argW m c) (bOf t) (lOf t r) ⟨h.val * 64 + e.val, by omega⟩ = F e) :
    T (insAt t m c) (iblk m c 5 t : Vec Ideal S32x1024 .f32) (iblk m c 6 t : Vec Ideal S32x1024 .f32) g h r d
      = turn (headN F (fun e => y (ix1 e))) (fun p => (Host.cos (rAng rowT colT invT)) (ix2 (lOf t r) p))
          (fun p => (Host.sin (rAng rowT colT invT)) (ix2 (lOf t r) p)) d := by
  unfold T
  have e1 : P (insAt t m c) h r = F := funext fun e => (P_pt t m c h r e).trans (hF e)
  have e2 : (fun e => g (ix2 e r)) = fun e => y (ix1 e) := funext fun e => hg e r
  have e3 : (fun p : Fin 32 => (iblk m c 5 t : Vec Ideal S32x1024 .f32) (ix2 p r)) = fun p => (Host.cos (rAng rowT colT invT)) (ix2 (lOf t r) p) :=
    funext fun p => iblk5 t m c p r
  have e4 : (fun p : Fin 32 => (iblk m c 6 t : Vec Ideal S32x1024 .f32) (ix2 p r)) = fun p => (Host.sin (rAng rowT colT invT)) (ix2 (lOf t r) p) :=
    funext fun p => iblk6 t m c p r
  rw [e1, e2, e3, e4]

/-! ## The results -/

/-- The three results, of the arguments. -/
def resQ : FVec Ideal S4x16x256x8192 .fp8e4m3 := qSplit (rQ (argX m c) (argG m c) (argW m c) (argQ m c)
  (Host.cos (rAng rowT colT invT)) (Host.sin (rAng rowT colT invT)))
def resK : FVec Ideal S4x4x8192x256 .fp8e4m3 := kSplit (rK (argX m c) (argG m c) (argW m c) (argK m c)
  (Host.cos (rAng rowT colT invT)) (Host.sin (rAng rowT colT invT)))
def resV : FVec Ideal S4x4x16x64x512 .bf16 := rV (argX m c) (argG m c) (argW m c)

theorem qBlk_pt (h : Fin 16) (p : Fin 256) (r : Fin 1024) :
    qBlk (insAt t m c) (iblk m c 3 t : Vec Ideal S64x1024 .f32) (iblk m c 5 t : Vec Ideal S32x1024 .f32)
        (iblk m c 6 t : Vec Ideal S32x1024 .f32) (ix4 0 h p r)
      = resQ m c (ix4 (bOf t) h p (lOf t r)) := by
  refine congrArg (part (Nat.ble 2 (p.val / 64))) ?_
  refine (T_pt t m c (argQ m c) _ (fun e r => iblk3 t m c e r) ⟨h.val, by omega⟩ r ⟨p.val % 64, by omega⟩ _ (fun e => rfl)).trans ?_
  exact (rQ_at (argX m c) (argG m c) (argW m c) (argQ m c) _ _ (bOf t) h ⟨p.val % 64, by omega⟩ (lOf t r)).symm

theorem kBlk_pt (h : Fin 4) (r : Fin 1024) (p : Fin 256) :
    kBlk (insAt t m c) (iblk m c 4 t : Vec Ideal S64x1024 .f32) (iblk m c 5 t : Vec Ideal S32x1024 .f32)
        (iblk m c 6 t : Vec Ideal S32x1024 .f32) (ix4 0 h r p)
      = resK m c (ix4 (bOf t) h (lOf t r) p) := by
  refine congrArg (part (p.val / 64 % 2 == 1)) ?_
  refine (T_pt t m c (argK m c) _ (fun e r => iblk4 t m c e r) ⟨16 + h.val, by omega⟩ r ⟨p.val % 64, by omega⟩
    (fun e => feat (argX m c) (argG m c) (argW m c) (bOf t) (lOf t r) ⟨1024 + (h.val * 64 + e.val), by omega⟩)
    (fun e => congrArg (feat (argX m c) (argG m c) (argW m c) (bOf t) (lOf t r)) (Fin.ext
      (by show (16 + h.val) * 64 + e.val = 1024 + (h.val * 64 + e.val); omega)))).trans ?_
  exact (rK_at (argX m c) (argG m c) (argW m c) (argK m c) _ _ (bOf t) h (lOf t r) ⟨p.val % 64, by omega⟩).symm

theorem vBlk_pt (h : Fin 4) (s : Fin 2) (d : Fin 64) (r : Fin 512) :
    vBlk (insAt t m c) (ix5 0 h s d r) = resV m c (ix5 (bOf t) h (nOf t s) d r) := by
  refine (P_pt t m c ⟨20 + h.val, by omega⟩ ⟨512 * s.val + r.val, by omega⟩ d).trans ?_
  refine Eq.trans ?_ (rV_at (argX m c) (argG m c) (argW m c) (bOf t) h (nOf t s) d r).symm
  refine congrArg₂ (feat (argX m c) (argG m c) (argW m c) (bOf t)) (Fin.ext ?_) (Fin.ext ?_)
  · show 1024 * (t.val % 8) + (512 * s.val + r.val) = (2 * (t.val % 8) + s.val) * 512 + r.val; omega
  · show (20 + h.val) * 64 + d.val = 1280 + (h.val * 64 + d.val); omega

theorem at_q (h : Fin 16) (p : Fin 256) (r : Fin 1024) :
    ((dats m 0 c).arrAt 7 cfg0.N : FVec Ideal S4x16x256x8192 .fp8e4m3) (ix4 (bOf t) h p (lOf t r))
      = resQ m c (ix4 (bOf t) h p (lOf t r)) := by
  refine (whole7 t _ h p r).symm.trans ?_
  refine (congrFun (Value.blocks7 m c t (flush0_7 t)) (ix4 0 h p r)).trans ?_
  refine (congrFun (Value.flushed7_A m c t) (ix4 0 h p r)).trans ?_
  refine (congrFun (left_q _ _ _ _ _ _ _ _ _ _ _ _ _ _ _ _ _ _ _ _ _ _ _ _ _ _ _ _ _ _ _) (ix4 0 h p r)).trans ?_
  exact (congrFun (qBlk_eq (readsAt t m c)) (ix4 0 h p r)).trans (qBlk_pt t m c h p r)

theorem at_k (h : Fin 4) (r : Fin 1024) (p : Fin 256) :
    ((dats m 0 c).arrAt 8 cfg0.N : FVec Ideal S4x4x8192x256 .fp8e4m3) (ix4 (bOf t) h (lOf t r) p)
      = resK m c (ix4 (bOf t) h (lOf t r) p) := by
  refine (whole8 t _ h r p).symm.trans ?_
  refine (congrFun (Value.blocks8 m c t (flush0_8 t)) (ix4 0 h r p)).trans ?_
  refine (congrFun (Value.flushed8_A m c t) (ix4 0 h r p)).trans ?_
  refine (congrFun (left_k _ _ _ _ _ _ _ _ _ _ _ _ _ _ _ _ _ _ _ _ _ _ _ _ _ _ _ _ _ _ _) (ix4 0 h r p)).trans ?_
  exact (congrFun (kBlk_eq (readsAt t m c)) (ix4 0 h r p)).trans (kBlk_pt t m c h r p)

theorem at_v (h : Fin 4) (s : Fin 2) (d : Fin 64) (r : Fin 512) :
    ((dats m 0 c).arrAt 9 cfg0.N : FVec Ideal S4x4x16x64x512 .bf16) (ix5 (bOf t) h (nOf t s) d r)
      = resV m c (ix5 (bOf t) h (nOf t s) d r) := by
  refine (whole9 t _ h s d r).symm.trans ?_
  refine (congrFun (Value.blocks9 m c t (flush0_9 t)) (ix5 0 h s d r)).trans ?_
  refine (congrFun (Value.flushed9_A m c t) (ix5 0 h s d r)).trans ?_
  refine (congrFun (left_v _ _ _ _ _ _ _ _ _ _ _ _ _ _ _ _ _ _ _ _ _ _ _ _ _ _ _ _ _ _ _) (ix5 0 h s d r)).trans ?_
  exact (congrFun (vBlk_eq (readsAt t m c)) (ix5 0 h s d r)).trans (vBlk_pt t m c h s d r)

omit t in
theorem result_q : (dats m 0 c).arrAt 7 cfg0.N = resQ m c := by
  funext y
  obtain ⟨b, h, p, l, rfl⟩ : ∃ (b : Fin 4) (h : Fin 16) (p : Fin 256) (l : Fin 8192), y = (ix4 b h p l : S4x16x256x8192.Idx) :=
    ⟨y 0, y 1, y 2, y 3, eq_ix4 y⟩
  have e := at_q (pt b ⟨l.val / 1024, by omega⟩) m c h p ⟨l.val % 1024, by omega⟩
  rw [bOf_pt, lOf_pt] at e
  exact e

omit t in
theorem result_k : (dats m 0 c).arrAt 8 cfg0.N = resK m c := by
  funext y
  obtain ⟨b, h, l, p, rfl⟩ : ∃ (b h : Fin 4) (l : Fin 8192) (p : Fin 256), y = (ix4 b h l p : S4x4x8192x256.Idx) :=
    ⟨y 0, y 1, y 2, y 3, eq_ix4 y⟩
  have e := at_k (pt b ⟨l.val / 1024, by omega⟩) m c h ⟨l.val % 1024, by omega⟩ p
  rw [bOf_pt, lOf_pt] at e
  exact e

omit t in
theorem result_v : (dats m 0 c).arrAt 9 cfg0.N = resV m c := by
  funext y
  obtain ⟨b, h, n, d, r, rfl⟩ : ∃ (b h : Fin 4) (n : Fin 16) (d : Fin 64) (r : Fin 512), y = (ix5 b h n d r : S4x4x16x64x512.Idx) :=
    ⟨y 0, y 1, y 2, y 3, y 4, eq_ix5 y⟩
  have e := at_v (pt b ⟨n.val / 2, by omega⟩) m c h ⟨n.val % 2, by omega⟩ d r
  rw [bOf_pt, nOf_pt] at e
  exact e

/-! ## The reference's results, from memories that agree on the arguments -/

section Agree

omit t

variable (m' : (ℓ : Loc Cert.Reference6Ideal.nD Cert.Reference6Ideal.τ Cert.Reference6Ideal.sig) → Buf (Elt Ideal) ℓ)
  (h0 : Plain.argX m' c = argX m c) (h1 : Plain.argG m' c = argG m c) (h2 : Plain.argW m' c = argW m c)
  (h3 : Plain.rawQ m' c = rawQ m c) (h4 : Plain.rawK m' c = rawK m c)

include h0 h1 h2

theorem agree_v : rV (Plain.argX m' c) (Plain.argG m' c) (Plain.argW m' c) = resV m c := Plain.rV_congr h0 h1 h2

include h3 h4

theorem agree_q : qSplit (rQ (Plain.argX m' c) (Plain.argG m' c) (Plain.argW m' c) (Plain.argQ m' c)
    (Host.cos (rAng rowT colT invT)) (Host.sin (rAng rowT colT invT))) = resQ m c := by
  have e : Plain.argQ m' c = argQ m c := flatQ_congr h3 h4
  exact Plain.splitQ_congr h0 h1 h2 e

theorem agree_k : kSplit (rK (Plain.argX m' c) (Plain.argG m' c) (Plain.argW m' c) (Plain.argK m' c)
    (Host.cos (rAng rowT colT invT)) (Host.sin (rAng rowT colT invT))) = resK m c := by
  have e : Plain.argK m' c = argK m c := flatK_congr h3 h4
  exact Plain.splitK_congr h0 h1 h2 e

end Agree

end Cert.QkvA.Tiled

end
-- ==== Proof.lean ====
/- The certificate: the values of the attention, the MLP calls and both projection calls, their frames, and the idealisation's equality. -/
module

public import proofs.«01_k».proof.Defs
public import proofs.«01_k».proof.Proof.Gen.Kernel.Frame
public import proofs.«01_k».proof.Proof.Gen.KernelIdeal.Value
public import proofs.«01_k».proof.Proof.Gen.Pre_finite_scores
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Value
public import proofs.«01_k».proof.Proof.Flash.Value
public import proofs.«01_k».proof.Proof.Flash.Pre
public import proofs.«01_k».proof.Proof.Mlp.Middle
public import proofs.«01_k».proof.Proof.Mlp.Sample
public import proofs.«01_k».proof.Proof.Qkv.Value
public import proofs.«01_k».proof.Proof.QkvA.Value
public import Idealize.ShloMosaic.Adequacy
public import Idealize.ShloMosaic.Init
public import Idealize.ShloMosaic.Lib.Quiescent

@[expose] public section

noncomputable section

namespace Cert.Proof

open Idealize.ShloMosaic Idealize.SL.Sem

theorem referenceFrame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two programs leave the same attention in their results, from the same finite scores. -/
theorem attention : algebraic_KernelIdeal_ReferenceIdeal_pre_finite_scores := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2.1, (hagree c).2.2.1]
  have H := FlashPre.reals _ _ _ _ _ (hpre c)
  exact (Flash.result_eq ⟨H.1, H.2.1, H.2.2.1, H.2.2.2⟩).symm

theorem referenceFrame2 : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem referenceFrame3 : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The last layer's MLP leaves the reference's result. -/
theorem finalMlp : algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  obtain ⟨h0, h1, h2, h3, h4, h5, h6⟩ := hagree c
  rw [(h c).1, Mlp.result2, h0, h1, h2, h3, h4, h5, h6]
  exact (Mlp.result_final m c).symm

/-- An earlier layer's MLP leaves the reference's result. -/
theorem middleMlp : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨h0, h1, h2, h3, h4, h5, _⟩ := hagree c
  rw [(h c).1, h0, h1, h2, h3, h4, h5]
  exact (Mlp.result_middle m c).symm

theorem referenceFrame4 : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem referenceFrame5 : quiescent_Reference5Ideal := fun m ρ _ =>
  (θ_run Cert.Reference5Ideal.defs _ _).mono (fun r h => ⟨fun c => (h c).2.2.2, sem_eq_zero_of_no_sems (by decide) r.2⟩)
    (Cert.Reference5Ideal.Value.run (F := Ideal) m ρ)

/-- The last layer's MLP leaves the reference's result for the sample too. -/
theorem sampleMlp : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨h0, h1, h2, h3, h4, h5, h6⟩ := hagree c
  rw [(h c).1, Mlp.Sample.result4, h0, h1, h2, h3, h4, h5, h6]
  exact (Mlp.Sample.result_sample m c).symm

/-- The second layer's projections leave the reference's queries, keys and values. -/
theorem projections : algebraic_Kernel5Ideal_Reference5Ideal := by
  intro m ρ m' ρ' _ hagree
  refine ⟨_, _, _, Cert.Kernel5Ideal.Value.run_blocks (F := Ideal) m ρ, ?_⟩
  refine (θ_run Cert.Reference5Ideal.defs _ _).mono (fun _ h c => ⟨?_, ?_, ?_, (h c).2.2.2⟩) (Cert.Reference5Ideal.Value.run (F := Ideal) m' ρ')
  all_goals obtain ⟨h0, h1, h2⟩ := hagree c
  · rw [(h c).1, h0, h1, h2]
    exact (Qkv.result_q m c).symm
  · rw [(h c).2.1, h0, h1, h2]
    exact (Qkv.result_k m c).symm
  · rw [(h c).2.2.1, h0, h1, h2]
    exact (Qkv.result_v m c).symm

/-- The first layer's projections leave the reference's queries and keys, in their float8 parts, and its values. -/
theorem globalProjections : algebraic_Kernel6Ideal_Reference6Ideal := by
  intro m ρ m' ρ' _ hagree
  refine ⟨_, _, _, Cert.Kernel6Ideal.Value.run_blocks (F := Ideal) m ρ, ?_⟩
  refine (θ_run Cert.Reference6Ideal.defs _ _).mono (fun r h c => ⟨?_, ?_, ?_,
    Cert.Reference6Ideal.Value.kept_main_arg0 m' r h c, Cert.Reference6Ideal.Value.kept_main_arg1 m' r h c,
    Cert.Reference6Ideal.Value.kept_main_arg2 m' r h c, Cert.Reference6Ideal.Value.kept_main_arg3 m' r h c,
    Cert.Reference6Ideal.Value.kept_main_arg4 m' r h c⟩) (Cert.Reference6Ideal.Gen.run_main (F := Ideal) m' ρ')
  all_goals obtain ⟨h0, h1, h2, h3, h4⟩ := hagree c
  · exact (Cert.Reference6Ideal.Value.post2 m' r h c).trans ((QkvA.Plain.result_q m' c).trans
      ((QkvA.Tiled.agree_q m c m' h0 h1 h2 h3 h4).trans (QkvA.Tiled.result_q m c).symm))
  · exact (Cert.Reference6Ideal.Value.post3 m' r h c).trans ((QkvA.Plain.result_k m' c).trans
      ((QkvA.Tiled.agree_k m c m' h0 h1 h2 h3 h4).trans (QkvA.Tiled.result_k m c).symm))
  · exact (QkvA.Plain.result_v m' c r h).trans ((QkvA.Tiled.agree_v m c m' h0 h1 h2).trans (QkvA.Tiled.result_v m c).symm)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite_scores.Gen.facts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial,
  fun m ρ _ => Cert.Kernel2.Gen.frame m ρ, fun m ρ _ => Cert.Kernel2Ideal.Gen.frame m ρ, referenceFrame2,
  fun m ρ _ => Cert.Kernel3.Gen.frame m ρ, fun m ρ _ => Cert.Kernel3Ideal.Gen.frame m ρ, referenceFrame3,
  fun m ρ _ => Cert.Kernel4.Gen.frame m ρ, fun m ρ _ => Cert.Kernel4Ideal.Gen.frame m ρ, referenceFrame4,
  fun m ρ _ => Cert.Kernel5.Gen.frame m ρ, fun m ρ _ => Cert.Kernel5Ideal.Gen.frame m ρ, referenceFrame5,
  fun m ρ _ => Cert.Kernel6.Gen.frame m ρ, fun m ρ _ => Cert.Kernel6Ideal.Gen.frame m ρ, fun m ρ _ => Cert.Reference6Ideal.Gen.frame m ρ,
  (trivial : preserves_Kernel_KernelIdeal), attention, (trivial : preserves_Kernel2_Kernel2Ideal), finalMlp,
  (trivial : preserves_Kernel3_Kernel3Ideal), middleMlp, (trivial : preserves_Kernel4_Kernel4Ideal), sampleMlp,
  (trivial : preserves_Kernel5_Kernel5Ideal), projections,
  (trivial : preserves_Kernel6_Kernel6Ideal), globalProjections⟩

end Cert.Proof

end
